-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def Pre_Select (m : (ℓ : Loc Cert.Select.nD Cert.Select.τ Cert.Select.sig) → Buf (Elt Bits) ℓ) : Prop :=
  True

def Pre_SelectIdeal (m : (ℓ : Loc Cert.SelectIdeal.nD Cert.SelectIdeal.τ Cert.SelectIdeal.sig) → Buf (Elt Ideal) ℓ) : Prop :=
  True

def Pre_SelectIdeal_selects [hPre_selects : Cert.Pre_selects.Facts] (m : (ℓ : Loc Cert.SelectIdeal.nD Cert.SelectIdeal.τ Cert.SelectIdeal.sig) → Buf (Elt Ideal) ℓ) : Prop :=
  ∀ c : Dev Cert.SelectIdeal.nD,
    (Cert.Pre_selects.fn (F := Ideal) (m ((c.tc : Thread Cert.SelectIdeal.nD Cert.SelectIdeal.τ).loc Cert.SelectIdeal.main_arg0)) (m ((c.tc : Thread Cert.SelectIdeal.nD Cert.SelectIdeal.τ).loc Cert.SelectIdeal.main_arg1)) (m ((c.tc : Thread Cert.SelectIdeal.nD Cert.SelectIdeal.τ).loc Cert.SelectIdeal.main_arg2)) (m ((c.tc : Thread Cert.SelectIdeal.nD Cert.SelectIdeal.τ).loc Cert.SelectIdeal.main_arg3))) = (fun _ => 1#1)

def Pre_SelectReferenceIdeal (m : (ℓ : Loc Cert.SelectReferenceIdeal.nD Cert.SelectReferenceIdeal.τ Cert.SelectReferenceIdeal.sig) → Buf (Elt Ideal) ℓ) : Prop :=
  True

def Pre_SelectReferenceIdeal_selects [hPre_selects : Cert.Pre_selects.Facts] (m : (ℓ : Loc Cert.SelectReferenceIdeal.nD Cert.SelectReferenceIdeal.τ Cert.SelectReferenceIdeal.sig) → Buf (Elt Ideal) ℓ) : Prop :=
  ∀ c : Dev Cert.SelectReferenceIdeal.nD,
    (Cert.Pre_selects.fn (F := Ideal) (m ((c.tc : Thread Cert.SelectReferenceIdeal.nD Cert.SelectReferenceIdeal.τ).loc Cert.SelectReferenceIdeal.main_arg0)) (m ((c.tc : Thread Cert.SelectReferenceIdeal.nD Cert.SelectReferenceIdeal.τ).loc Cert.SelectReferenceIdeal.main_arg1)) (m ((c.tc : Thread Cert.SelectReferenceIdeal.nD Cert.SelectReferenceIdeal.τ).loc Cert.SelectReferenceIdeal.main_arg2)) (m ((c.tc : Thread Cert.SelectReferenceIdeal.nD Cert.SelectReferenceIdeal.τ).loc Cert.SelectReferenceIdeal.main_arg3))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Select [hSelect : Cert.Select.Facts] : Prop :=
  ∀ (m : (ℓ : Loc Cert.Select.nD Cert.Select.τ Cert.Select.sig) → Buf (Elt Bits) ℓ) (g : Dev Cert.Select.nD → PrngReg), Pre_Select m →
    θ_run (Cert.Select.defs (F := Bits)) (onTc (τ := Cert.Select.τ) (Cert.Select.main (F := Bits))) ⟨m, fun _ => 0, g⟩ (fun r => (∀ c : Dev Cert.Select.nD,
      r.2.mem ((c.tc : Thread Cert.Select.nD Cert.Select.τ).loc Cert.Select.main_arg0) = m ((c.tc : Thread Cert.Select.nD Cert.Select.τ).loc Cert.Select.main_arg0)
      ∧ r.2.mem ((c.tc : Thread Cert.Select.nD Cert.Select.τ).loc Cert.Select.main_arg1) = m ((c.tc : Thread Cert.Select.nD Cert.Select.τ).loc Cert.Select.main_arg1)
      ∧ r.2.mem ((c.tc : Thread Cert.Select.nD Cert.Select.τ).loc Cert.Select.main_arg2) = m ((c.tc : Thread Cert.Select.nD Cert.Select.τ).loc Cert.Select.main_arg2)
      ∧ r.2.mem ((c.tc : Thread Cert.Select.nD Cert.Select.τ).loc Cert.Select.main_arg3) = m ((c.tc : Thread Cert.Select.nD Cert.Select.τ).loc Cert.Select.main_arg3))
      ∧ r.2.sem = fun _ => 0)

def quiescent_SelectIdeal [hSelectIdeal : Cert.SelectIdeal.Facts] : Prop :=
  ∀ (m : (ℓ : Loc Cert.SelectIdeal.nD Cert.SelectIdeal.τ Cert.SelectIdeal.sig) → Buf (Elt Ideal) ℓ) (g : Dev Cert.SelectIdeal.nD → PrngReg), Pre_SelectIdeal m →
    θ_run (Cert.SelectIdeal.defs (F := Ideal)) (onTc (τ := Cert.SelectIdeal.τ) (Cert.SelectIdeal.main (F := Ideal))) ⟨m, fun _ => 0, g⟩ (fun r => (∀ c : Dev Cert.SelectIdeal.nD,
      r.2.mem ((c.tc : Thread Cert.SelectIdeal.nD Cert.SelectIdeal.τ).loc Cert.SelectIdeal.main_arg0) = m ((c.tc : Thread Cert.SelectIdeal.nD Cert.SelectIdeal.τ).loc Cert.SelectIdeal.main_arg0)
      ∧ r.2.mem ((c.tc : Thread Cert.SelectIdeal.nD Cert.SelectIdeal.τ).loc Cert.SelectIdeal.main_arg1) = m ((c.tc : Thread Cert.SelectIdeal.nD Cert.SelectIdeal.τ).loc Cert.SelectIdeal.main_arg1)
      ∧ r.2.mem ((c.tc : Thread Cert.SelectIdeal.nD Cert.SelectIdeal.τ).loc Cert.SelectIdeal.main_arg2) = m ((c.tc : Thread Cert.SelectIdeal.nD Cert.SelectIdeal.τ).loc Cert.SelectIdeal.main_arg2)
      ∧ r.2.mem ((c.tc : Thread Cert.SelectIdeal.nD Cert.SelectIdeal.τ).loc Cert.SelectIdeal.main_arg3) = m ((c.tc : Thread Cert.SelectIdeal.nD Cert.SelectIdeal.τ).loc Cert.SelectIdeal.main_arg3))
      ∧ r.2.sem = fun _ => 0)

def quiescent_SelectIdeal_pre_selects [hSelectIdeal : Cert.SelectIdeal.Facts] [hPre_selects : Cert.Pre_selects.Facts] : Prop :=
  ∀ (m : (ℓ : Loc Cert.SelectIdeal.nD Cert.SelectIdeal.τ Cert.SelectIdeal.sig) → Buf (Elt Ideal) ℓ) (g : Dev Cert.SelectIdeal.nD → PrngReg), Pre_SelectIdeal_selects m →
    θ_run (Cert.SelectIdeal.defs (F := Ideal)) (onTc (τ := Cert.SelectIdeal.τ) (Cert.SelectIdeal.main (F := Ideal))) ⟨m, fun _ => 0, g⟩ (fun r => (∀ c : Dev Cert.SelectIdeal.nD,
      r.2.mem ((c.tc : Thread Cert.SelectIdeal.nD Cert.SelectIdeal.τ).loc Cert.SelectIdeal.main_arg0) = m ((c.tc : Thread Cert.SelectIdeal.nD Cert.SelectIdeal.τ).loc Cert.SelectIdeal.main_arg0)
      ∧ r.2.mem ((c.tc : Thread Cert.SelectIdeal.nD Cert.SelectIdeal.τ).loc Cert.SelectIdeal.main_arg1) = m ((c.tc : Thread Cert.SelectIdeal.nD Cert.SelectIdeal.τ).loc Cert.SelectIdeal.main_arg1)
      ∧ r.2.mem ((c.tc : Thread Cert.SelectIdeal.nD Cert.SelectIdeal.τ).loc Cert.SelectIdeal.main_arg2) = m ((c.tc : Thread Cert.SelectIdeal.nD Cert.SelectIdeal.τ).loc Cert.SelectIdeal.main_arg2)
      ∧ r.2.mem ((c.tc : Thread Cert.SelectIdeal.nD Cert.SelectIdeal.τ).loc Cert.SelectIdeal.main_arg3) = m ((c.tc : Thread Cert.SelectIdeal.nD Cert.SelectIdeal.τ).loc Cert.SelectIdeal.main_arg3))
      ∧ r.2.sem = fun _ => 0)

def quiescent_SelectReferenceIdeal [hSelectReferenceIdeal : Cert.SelectReferenceIdeal.Facts] : Prop :=
  ∀ (m : (ℓ : Loc Cert.SelectReferenceIdeal.nD Cert.SelectReferenceIdeal.τ Cert.SelectReferenceIdeal.sig) → Buf (Elt Ideal) ℓ) (g : Dev Cert.SelectReferenceIdeal.nD → PrngReg), Pre_SelectReferenceIdeal m →
    θ_run (Cert.SelectReferenceIdeal.defs (F := Ideal)) (onTc (τ := Cert.SelectReferenceIdeal.τ) (Cert.SelectReferenceIdeal.main (F := Ideal))) ⟨m, fun _ => 0, g⟩ (fun r => (∀ c : Dev Cert.SelectReferenceIdeal.nD,
      r.2.mem ((c.tc : Thread Cert.SelectReferenceIdeal.nD Cert.SelectReferenceIdeal.τ).loc Cert.SelectReferenceIdeal.main_arg0) = m ((c.tc : Thread Cert.SelectReferenceIdeal.nD Cert.SelectReferenceIdeal.τ).loc Cert.SelectReferenceIdeal.main_arg0)
      ∧ r.2.mem ((c.tc : Thread Cert.SelectReferenceIdeal.nD Cert.SelectReferenceIdeal.τ).loc Cert.SelectReferenceIdeal.main_arg1) = m ((c.tc : Thread Cert.SelectReferenceIdeal.nD Cert.SelectReferenceIdeal.τ).loc Cert.SelectReferenceIdeal.main_arg1)
      ∧ r.2.mem ((c.tc : Thread Cert.SelectReferenceIdeal.nD Cert.SelectReferenceIdeal.τ).loc Cert.SelectReferenceIdeal.main_arg2) = m ((c.tc : Thread Cert.SelectReferenceIdeal.nD Cert.SelectReferenceIdeal.τ).loc Cert.SelectReferenceIdeal.main_arg2)
      ∧ r.2.mem ((c.tc : Thread Cert.SelectReferenceIdeal.nD Cert.SelectReferenceIdeal.τ).loc Cert.SelectReferenceIdeal.main_arg3) = m ((c.tc : Thread Cert.SelectReferenceIdeal.nD Cert.SelectReferenceIdeal.τ).loc Cert.SelectReferenceIdeal.main_arg3))
      ∧ r.2.sem = fun _ => 0)

def quiescent_SelectReferenceIdeal_pre_selects [hSelectReferenceIdeal : Cert.SelectReferenceIdeal.Facts] [hPre_selects : Cert.Pre_selects.Facts] : Prop :=
  ∀ (m : (ℓ : Loc Cert.SelectReferenceIdeal.nD Cert.SelectReferenceIdeal.τ Cert.SelectReferenceIdeal.sig) → Buf (Elt Ideal) ℓ) (g : Dev Cert.SelectReferenceIdeal.nD → PrngReg), Pre_SelectReferenceIdeal_selects m →
    θ_run (Cert.SelectReferenceIdeal.defs (F := Ideal)) (onTc (τ := Cert.SelectReferenceIdeal.τ) (Cert.SelectReferenceIdeal.main (F := Ideal))) ⟨m, fun _ => 0, g⟩ (fun r => (∀ c : Dev Cert.SelectReferenceIdeal.nD,
      r.2.mem ((c.tc : Thread Cert.SelectReferenceIdeal.nD Cert.SelectReferenceIdeal.τ).loc Cert.SelectReferenceIdeal.main_arg0) = m ((c.tc : Thread Cert.SelectReferenceIdeal.nD Cert.SelectReferenceIdeal.τ).loc Cert.SelectReferenceIdeal.main_arg0)
      ∧ r.2.mem ((c.tc : Thread Cert.SelectReferenceIdeal.nD Cert.SelectReferenceIdeal.τ).loc Cert.SelectReferenceIdeal.main_arg1) = m ((c.tc : Thread Cert.SelectReferenceIdeal.nD Cert.SelectReferenceIdeal.τ).loc Cert.SelectReferenceIdeal.main_arg1)
      ∧ r.2.mem ((c.tc : Thread Cert.SelectReferenceIdeal.nD Cert.SelectReferenceIdeal.τ).loc Cert.SelectReferenceIdeal.main_arg2) = m ((c.tc : Thread Cert.SelectReferenceIdeal.nD Cert.SelectReferenceIdeal.τ).loc Cert.SelectReferenceIdeal.main_arg2)
      ∧ r.2.mem ((c.tc : Thread Cert.SelectReferenceIdeal.nD Cert.SelectReferenceIdeal.τ).loc Cert.SelectReferenceIdeal.main_arg3) = m ((c.tc : Thread Cert.SelectReferenceIdeal.nD Cert.SelectReferenceIdeal.τ).loc Cert.SelectReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Select_SelectIdeal : Prop :=
  True

def algebraic_SelectIdeal_SelectReferenceIdeal_pre_selects [hSelectIdeal : Cert.SelectIdeal.Facts] [hSelectReferenceIdeal : Cert.SelectReferenceIdeal.Facts] [hPre_selects : Cert.Pre_selects.Facts] : Prop :=
  ∀ (m : (ℓ : Loc Cert.SelectIdeal.nD Cert.SelectIdeal.τ Cert.SelectIdeal.sig) → Buf (Elt Ideal) ℓ) (g : Dev Cert.SelectIdeal.nD → PrngReg)
    (m' : (ℓ : Loc Cert.SelectReferenceIdeal.nD Cert.SelectReferenceIdeal.τ Cert.SelectReferenceIdeal.sig) → Buf (Elt Ideal) ℓ) (g' : Dev Cert.SelectReferenceIdeal.nD → PrngReg), Pre_SelectIdeal_selects m →
    (∀ c : Dev Cert.SelectIdeal.nD,
      m' ((c.tc : Thread Cert.SelectReferenceIdeal.nD Cert.SelectReferenceIdeal.τ).loc Cert.SelectReferenceIdeal.main_arg0) = m ((c.tc : Thread Cert.SelectIdeal.nD Cert.SelectIdeal.τ).loc Cert.SelectIdeal.main_arg0)
      ∧ m' ((c.tc : Thread Cert.SelectReferenceIdeal.nD Cert.SelectReferenceIdeal.τ).loc Cert.SelectReferenceIdeal.main_arg1) = m ((c.tc : Thread Cert.SelectIdeal.nD Cert.SelectIdeal.τ).loc Cert.SelectIdeal.main_arg1)
      ∧ m' ((c.tc : Thread Cert.SelectReferenceIdeal.nD Cert.SelectReferenceIdeal.τ).loc Cert.SelectReferenceIdeal.main_arg2) = m ((c.tc : Thread Cert.SelectIdeal.nD Cert.SelectIdeal.τ).loc Cert.SelectIdeal.main_arg2)
      ∧ m' ((c.tc : Thread Cert.SelectReferenceIdeal.nD Cert.SelectReferenceIdeal.τ).loc Cert.SelectReferenceIdeal.main_arg3) = m ((c.tc : Thread Cert.SelectIdeal.nD Cert.SelectIdeal.τ).loc Cert.SelectIdeal.main_arg3)) →
    ∃ (v0 : (c : Dev Cert.SelectIdeal.nD) → Buf (Elt Ideal) ((c.tc : Thread Cert.SelectIdeal.nD Cert.SelectIdeal.τ).loc Cert.SelectIdeal.main_v2_0)) (v1 : (c : Dev Cert.SelectIdeal.nD) → Buf (Elt Ideal) ((c.tc : Thread Cert.SelectIdeal.nD Cert.SelectIdeal.τ).loc Cert.SelectIdeal.main_v2_1)) (v2 : (c : Dev Cert.SelectIdeal.nD) → Buf (Elt Ideal) ((c.tc : Thread Cert.SelectIdeal.nD Cert.SelectIdeal.τ).loc Cert.SelectIdeal.main_v2_2)) (v3 : (c : Dev Cert.SelectIdeal.nD) → Buf (Elt Ideal) ((c.tc : Thread Cert.SelectIdeal.nD Cert.SelectIdeal.τ).loc Cert.SelectIdeal.main_v2_3)),
      θ_run (Cert.SelectIdeal.defs (F := Ideal)) (onTc (τ := Cert.SelectIdeal.τ) (Cert.SelectIdeal.main (F := Ideal))) ⟨m, fun _ => 0, g⟩ (fun r => ∀ c : Dev Cert.SelectIdeal.nD,
          r.2.mem ((c.tc : Thread Cert.SelectIdeal.nD Cert.SelectIdeal.τ).loc Cert.SelectIdeal.main_v2_0) = v0 c
          ∧ r.2.mem ((c.tc : Thread Cert.SelectIdeal.nD Cert.SelectIdeal.τ).loc Cert.SelectIdeal.main_v2_1) = v1 c
          ∧ r.2.mem ((c.tc : Thread Cert.SelectIdeal.nD Cert.SelectIdeal.τ).loc Cert.SelectIdeal.main_v2_2) = v2 c
          ∧ r.2.mem ((c.tc : Thread Cert.SelectIdeal.nD Cert.SelectIdeal.τ).loc Cert.SelectIdeal.main_v2_3) = v3 c
          ∧ r.2.mem ((c.tc : Thread Cert.SelectIdeal.nD Cert.SelectIdeal.τ).loc Cert.SelectIdeal.main_arg0) = m ((c.tc : Thread Cert.SelectIdeal.nD Cert.SelectIdeal.τ).loc Cert.SelectIdeal.main_arg0)
          ∧ r.2.mem ((c.tc : Thread Cert.SelectIdeal.nD Cert.SelectIdeal.τ).loc Cert.SelectIdeal.main_arg1) = m ((c.tc : Thread Cert.SelectIdeal.nD Cert.SelectIdeal.τ).loc Cert.SelectIdeal.main_arg1)
          ∧ r.2.mem ((c.tc : Thread Cert.SelectIdeal.nD Cert.SelectIdeal.τ).loc Cert.SelectIdeal.main_arg2) = m ((c.tc : Thread Cert.SelectIdeal.nD Cert.SelectIdeal.τ).loc Cert.SelectIdeal.main_arg2)
          ∧ r.2.mem ((c.tc : Thread Cert.SelectIdeal.nD Cert.SelectIdeal.τ).loc Cert.SelectIdeal.main_arg3) = m ((c.tc : Thread Cert.SelectIdeal.nD Cert.SelectIdeal.τ).loc Cert.SelectIdeal.main_arg3))
      ∧ θ_run (Cert.SelectReferenceIdeal.defs (F := Ideal)) (onTc (τ := Cert.SelectReferenceIdeal.τ) (Cert.SelectReferenceIdeal.main (F := Ideal))) ⟨m', fun _ => 0, g'⟩ (fun r => ∀ c : Dev Cert.SelectReferenceIdeal.nD,
          r.2.mem ((c.tc : Thread Cert.SelectReferenceIdeal.nD Cert.SelectReferenceIdeal.τ).loc Cert.SelectReferenceIdeal.main_v141) = v0 c
          ∧ r.2.mem ((c.tc : Thread Cert.SelectReferenceIdeal.nD Cert.SelectReferenceIdeal.τ).loc Cert.SelectReferenceIdeal.main_v63) = v1 c
          ∧ r.2.mem ((c.tc : Thread Cert.SelectReferenceIdeal.nD Cert.SelectReferenceIdeal.τ).loc Cert.SelectReferenceIdeal.main_v127) = v2 c
          ∧ r.2.mem ((c.tc : Thread Cert.SelectReferenceIdeal.nD Cert.SelectReferenceIdeal.τ).loc Cert.SelectReferenceIdeal.main_v140) = v3 c
          ∧ r.2.mem ((c.tc : Thread Cert.SelectReferenceIdeal.nD Cert.SelectReferenceIdeal.τ).loc Cert.SelectReferenceIdeal.main_arg0) = m' ((c.tc : Thread Cert.SelectReferenceIdeal.nD Cert.SelectReferenceIdeal.τ).loc Cert.SelectReferenceIdeal.main_arg0)
          ∧ r.2.mem ((c.tc : Thread Cert.SelectReferenceIdeal.nD Cert.SelectReferenceIdeal.τ).loc Cert.SelectReferenceIdeal.main_arg1) = m' ((c.tc : Thread Cert.SelectReferenceIdeal.nD Cert.SelectReferenceIdeal.τ).loc Cert.SelectReferenceIdeal.main_arg1)
          ∧ r.2.mem ((c.tc : Thread Cert.SelectReferenceIdeal.nD Cert.SelectReferenceIdeal.τ).loc Cert.SelectReferenceIdeal.main_arg2) = m' ((c.tc : Thread Cert.SelectReferenceIdeal.nD Cert.SelectReferenceIdeal.τ).loc Cert.SelectReferenceIdeal.main_arg2)
          ∧ r.2.mem ((c.tc : Thread Cert.SelectReferenceIdeal.nD Cert.SelectReferenceIdeal.τ).loc Cert.SelectReferenceIdeal.main_arg3) = m' ((c.tc : Thread Cert.SelectReferenceIdeal.nD Cert.SelectReferenceIdeal.τ).loc Cert.SelectReferenceIdeal.main_arg3))

def Claim : Prop :=
  ∃ (hKernel : Cert.Kernel.Facts) (hKernelIdeal : Cert.KernelIdeal.Facts) (hReferenceIdeal : Cert.ReferenceIdeal.Facts) (hSelect : Cert.Select.Facts) (hSelectIdeal : Cert.SelectIdeal.Facts) (hSelectReferenceIdeal : Cert.SelectReferenceIdeal.Facts) (hPre_in_range : Cert.Pre_in_range.Facts) (hPre_selects : Cert.Pre_selects.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ quiescent_Select (hSelect := hSelect)
    ∧ quiescent_SelectIdeal (hSelectIdeal := hSelectIdeal)
    ∧ quiescent_SelectIdeal_pre_selects (hSelectIdeal := hSelectIdeal) (hPre_selects := hPre_selects)
    ∧ quiescent_SelectReferenceIdeal (hSelectReferenceIdeal := hSelectReferenceIdeal)
    ∧ quiescent_SelectReferenceIdeal_pre_selects (hSelectReferenceIdeal := hSelectReferenceIdeal) (hPre_selects := hPre_selects)
    ∧ preserves_Kernel_KernelIdeal
    ∧ algebraic_KernelIdeal_ReferenceIdeal (hKernelIdeal := hKernelIdeal) (hReferenceIdeal := hReferenceIdeal) (hPre_in_range := hPre_in_range)
    ∧ preserves_Select_SelectIdeal
    ∧ algebraic_SelectIdeal_SelectReferenceIdeal_pre_selects (hSelectIdeal := hSelectIdeal) (hSelectReferenceIdeal := hSelectReferenceIdeal) (hPre_selects := hPre_selects)
-- ==== Pre_in_range.lean ====
abbrev S2x128x128x128 : Shape := ⟨4, ![2, 128, 128, 128]⟩
abbrev S2x2016x128 : Shape := ⟨3, ![2, 2016, 128]⟩
abbrev S2x2016x8 : Shape := ⟨3, ![2, 2016, 8]⟩
abbrev S1032x1024 : Shape := ⟨2, ![1032, 1024]⟩
abbrev S1024 : Shape := ⟨1, ![1024]⟩
abbrev S1024x1024 : Shape := ⟨2, ![1024, 1024]⟩
abbrev S1024x1 : Shape := ⟨2, ![1024, 1]⟩
abbrev S1 : Shape := ⟨1, ![1]⟩
abbrev S_ : Shape := ⟨0, ![]⟩

class Facts : Prop where
  bcast_S_S2x2016x128 : S_.BroadcastsInDim S2x2016x128 (![] : Fin 0 → Fin S2x2016x128.rank)

variable [Facts]

def fn {F : FTy → Type} [FloatOps F] (main_arg0 : FVec F S2x128x128x128 .f32) (main_arg1 : IVec S2x2016x128 32) (main_arg2 : FVec F S2x2016x128 .f32) (main_arg3 : FVec F S2x2016x8 .f32) (main_arg4 : FVec F S1032x1024 .f32) (main_arg5 : FVec F S1024 .f32) (main_arg6 : FVec F S1024x1024 .f32) (main_arg7 : FVec F S1024 .f32) (main_arg8 : FVec F S1024x1 .f32) (main_arg9 : FVec F S1 .f32) : IVec S2x2016x128 1 :=
  let main_c : IVec S_ 32 := constantI S_ 32 0#32
  let main_v0 : IVec S2x2016x128 32 := broadcastInDim S2x2016x128 ![] bcast_S_S2x2016x128 main_c
  let main_v1 : IVec S2x2016x128 1 := cmpi .sge main_arg1 main_v0
  let main_c_0 : IVec S_ 32 := constantI S_ 32 32768#32
  let main_v2 : IVec S2x2016x128 32 := broadcastInDim S2x2016x128 ![] bcast_S_S2x2016x128 main_c_0
  let main_v3 : IVec S2x2016x128 1 := cmpi .slt main_arg1 main_v2
  let main_v4 : IVec S2x2016x128 1 := andi main_v1 main_v3
  main_v4
-- ==== Pre_selects.lean ====
abbrev S2x1x128x128 : Shape := ⟨4, ![2, 1, 128, 128]⟩
abbrev S2x1x2x128x128 : Shape := ⟨5, ![2, 1, 2, 128, 128]⟩
abbrev S2016x64 : Shape := ⟨2, ![2016, 64]⟩
abbrev S2016 : Shape := ⟨1, ![2016]⟩
abbrev S2016x1 : Shape := ⟨2, ![2016, 1]⟩
abbrev S64 : Shape := ⟨1, ![64]⟩
abbrev S_ : Shape := ⟨0, ![]⟩
abbrev S1x64 : Shape := ⟨2, ![1, 64]⟩

class Facts : Prop where
  bcast_S2016_S2016x1_0 : S2016.BroadcastsInDim S2016x1 (![0] : Fin 1 → Fin S2016x1.rank)
  bcast_S_S2x1x128x128 : S_.BroadcastsInDim S2x1x128x128 (![] : Fin 0 → Fin S2x1x128x128.rank)
  reducesTo_S2x1x128x128_S_d0_1_2_3 : S2x1x128x128.ReducesTo [0, 1, 2, 3] S_
  h_S_ : 0 < S_.numel
  bcast_S64_S1x64_1 : S64.BroadcastsInDim S1x64 (![1] : Fin 1 → Fin S1x64.rank)
  bcast_S2016x1_S2016x64_0_1 : S2016x1.BroadcastsInDim S2016x64 (![0, 1] : Fin 2 → Fin S2016x64.rank)
  bcast_S1x64_S2016x64_0_1 : S1x64.BroadcastsInDim S2016x64 (![0, 1] : Fin 2 → Fin S2016x64.rank)
  reducesTo_S2016x64_S_d0_1 : S2016x64.ReducesTo [0, 1] S_

variable [Facts]

noncomputable abbrev lit0t0_0 (i : Nat) : BitVec 32 := match i % 128 with
  | 0 => 0#32
  | 1 => 0#32
  | 2 => 0#32
  | 3 => 0#32
  | 4 => 0#32
  | 5 => 0#32
  | 6 => 0#32
  | 7 => 0#32
  | 8 => 0#32
  | 9 => 0#32
  | 10 => 0#32
  | 11 => 0#32
  | 12 => 0#32
  | 13 => 0#32
  | 14 => 0#32
  | 15 => 0#32
  | 16 => 0#32
  | 17 => 0#32
  | 18 => 0#32
  | 19 => 0#32
  | 20 => 0#32
  | 21 => 0#32
  | 22 => 0#32
  | 23 => 0#32
  | 24 => 0#32
  | 25 => 0#32
  | 26 => 0#32
  | 27 => 0#32
  | 28 => 0#32
  | 29 => 0#32
  | 30 => 0#32
  | 31 => 0#32
  | 32 => 0#32
  | 33 => 0#32
  | 34 => 0#32
  | 35 => 0#32
  | 36 => 0#32
  | 37 => 0#32
  | 38 => 0#32
  | 39 => 0#32
  | 40 => 0#32
  | 41 => 0#32
  | 42 => 0#32
  | 43 => 0#32
  | 44 => 0#32
  | 45 => 0#32
  | 46 => 0#32
  | 47 => 0#32
  | 48 => 0#32
  | 49 => 0#32
  | 50 => 0#32
  | 51 => 0#32
  | 52 => 0#32
  | 53 => 0#32
  | 54 => 0#32
  | 55 => 0#32
  | 56 => 0#32
  | 57 => 0#32
  | 58 => 0#32
  | 59 => 0#32
  | 60 => 0#32
  | 61 => 0#32
  | 62 => 0#32
  | 63 => 1#32
  | 64 => 1#32
  | 65 => 1#32
  | 66 => 1#32
  | 67 => 1#32
  | 68 => 1#32
  | 69 => 1#32
  | 70 => 1#32
  | 71 => 1#32
  | 72 => 1#32
  | 73 => 1#32
  | 74 => 1#32
  | 75 => 1#32
  | 76 => 1#32
  | 77 => 1#32
  | 78 => 1#32
  | 79 => 1#32
  | 80 => 1#32
  | 81 => 1#32
  | 82 => 1#32
  | 83 => 1#32
  | 84 => 1#32
  | 85 => 1#32
  | 86 => 1#32
  | 87 => 1#32
  | 88 => 1#32
  | 89 => 1#32
  | 90 => 1#32
  | 91 => 1#32
  | 92 => 1#32
  | 93 => 1#32
  | 94 => 1#32
  | 95 => 1#32
  | 96 => 1#32
  | 97 => 1#32
  | 98 => 1#32
  | 99 => 1#32
  | 100 => 1#32
  | 101 => 1#32
  | 102 => 1#32
  | 103 => 1#32
  | 104 => 1#32
  | 105 => 1#32
  | 106 => 1#32
  | 107 => 1#32
  | 108 => 1#32
  | 109 => 1#32
  | 110 => 1#32
  | 111 => 1#32
  | 112 => 1#32
  | 113 => 1#32
  | 114 => 1#32
  | 115 => 1#32
  | 116 => 1#32
  | 117 => 1#32
  | 118 => 1#32
  | 119 => 1#32
  | 120 => 1#32
  | 121 => 1#32
  | 122 => 1#32
  | 123 => 1#32
  | 124 => 1#32
  | 125 => 2#32
  | 126 => 2#32
  | 127 => 2#32
  | _ => 0#32

noncomputable abbrev lit0t0_1 (i : Nat) : BitVec 32 := match i % 128 with
  | 0 => 2#32
  | 1 => 2#32
  | 2 => 2#32
  | 3 => 2#32
  | 4 => 2#32
  | 5 => 2#32
  | 6 => 2#32
  | 7 => 2#32
  | 8 => 2#32
  | 9 => 2#32
  | 10 => 2#32
  | 11 => 2#32
  | 12 => 2#32
  | 13 => 2#32
  | 14 => 2#32
  | 15 => 2#32
  | 16 => 2#32
  | 17 => 2#32
  | 18 => 2#32
  | 19 => 2#32
  | 20 => 2#32
  | 21 => 2#32
  | 22 => 2#32
  | 23 => 2#32
  | 24 => 2#32
  | 25 => 2#32
  | 26 => 2#32
  | 27 => 2#32
  | 28 => 2#32
  | 29 => 2#32
  | 30 => 2#32
  | 31 => 2#32
  | 32 => 2#32
  | 33 => 2#32
  | 34 => 2#32
  | 35 => 2#32
  | 36 => 2#32
  | 37 => 2#32
  | 38 => 2#32
  | 39 => 2#32
  | 40 => 2#32
  | 41 => 2#32
  | 42 => 2#32
  | 43 => 2#32
  | 44 => 2#32
  | 45 => 2#32
  | 46 => 2#32
  | 47 => 2#32
  | 48 => 2#32
  | 49 => 2#32
  | 50 => 2#32
  | 51 => 2#32
  | 52 => 2#32
  | 53 => 2#32
  | 54 => 2#32
  | 55 => 2#32
  | 56 => 2#32
  | 57 => 2#32
  | 58 => 3#32
  | 59 => 3#32
  | 60 => 3#32
  | 61 => 3#32
  | 62 => 3#32
  | 63 => 3#32
  | 64 => 3#32
  | 65 => 3#32
  | 66 => 3#32
  | 67 => 3#32
  | 68 => 3#32
  | 69 => 3#32
  | 70 => 3#32
  | 71 => 3#32
  | 72 => 3#32
  | 73 => 3#32
  | 74 => 3#32
  | 75 => 3#32
  | 76 => 3#32
  | 77 => 3#32
  | 78 => 3#32
  | 79 => 3#32
  | 80 => 3#32
  | 81 => 3#32
  | 82 => 3#32
  | 83 => 3#32
  | 84 => 3#32
  | 85 => 3#32
  | 86 => 3#32
  | 87 => 3#32
  | 88 => 3#32
  | 89 => 3#32
  | 90 => 3#32
  | 91 => 3#32
  | 92 => 3#32
  | 93 => 3#32
  | 94 => 3#32
  | 95 => 3#32
  | 96 => 3#32
  | 97 => 3#32
  | 98 => 3#32
  | 99 => 3#32
  | 100 => 3#32
  | 101 => 3#32
  | 102 => 3#32
  | 103 => 3#32
  | 104 => 3#32
  | 105 => 3#32
  | 106 => 3#32
  | 107 => 3#32
  | 108 => 3#32
  | 109 => 3#32
  | 110 => 3#32
  | 111 => 3#32
  | 112 => 3#32
  | 113 => 3#32
  | 114 => 3#32
  | 115 => 3#32
  | 116 => 3#32
  | 117 => 3#32
  | 118 => 4#32
  | 119 => 4#32
  | 120 => 4#32
  | 121 => 4#32
  | 122 => 4#32
  | 123 => 4#32
  | 124 => 4#32
  | 125 => 4#32
  | 126 => 4#32
  | 127 => 4#32
  | _ => 0#32

noncomputable abbrev lit0t0_2 (i : Nat) : BitVec 32 := match i % 128 with
  | 0 => 4#32
  | 1 => 4#32
  | 2 => 4#32
  | 3 => 4#32
  | 4 => 4#32
  | 5 => 4#32
  | 6 => 4#32
  | 7 => 4#32
  | 8 => 4#32
  | 9 => 4#32
  | 10 => 4#32
  | 11 => 4#32
  | 12 => 4#32
  | 13 => 4#32
  | 14 => 4#32
  | 15 => 4#32
  | 16 => 4#32
  | 17 => 4#32
  | 18 => 4#32
  | 19 => 4#32
  | 20 => 4#32
  | 21 => 4#32
  | 22 => 4#32
  | 23 => 4#32
  | 24 => 4#32
  | 25 => 4#32
  | 26 => 4#32
  | 27 => 4#32
  | 28 => 4#32
  | 29 => 4#32
  | 30 => 4#32
  | 31 => 4#32
  | 32 => 4#32
  | 33 => 4#32
  | 34 => 4#32
  | 35 => 4#32
  | 36 => 4#32
  | 37 => 4#32
  | 38 => 4#32
  | 39 => 4#32
  | 40 => 4#32
  | 41 => 4#32
  | 42 => 4#32
  | 43 => 4#32
  | 44 => 4#32
  | 45 => 4#32
  | 46 => 4#32
  | 47 => 4#32
  | 48 => 4#32
  | 49 => 5#32
  | 50 => 5#32
  | 51 => 5#32
  | 52 => 5#32
  | 53 => 5#32
  | 54 => 5#32
  | 55 => 5#32
  | 56 => 5#32
  | 57 => 5#32
  | 58 => 5#32
  | 59 => 5#32
  | 60 => 5#32
  | 61 => 5#32
  | 62 => 5#32
  | 63 => 5#32
  | 64 => 5#32
  | 65 => 5#32
  | 66 => 5#32
  | 67 => 5#32
  | 68 => 5#32
  | 69 => 5#32
  | 70 => 5#32
  | 71 => 5#32
  | 72 => 5#32
  | 73 => 5#32
  | 74 => 5#32
  | 75 => 5#32
  | 76 => 5#32
  | 77 => 5#32
  | 78 => 5#32
  | 79 => 5#32
  | 80 => 5#32
  | 81 => 5#32
  | 82 => 5#32
  | 83 => 5#32
  | 84 => 5#32
  | 85 => 5#32
  | 86 => 5#32
  | 87 => 5#32
  | 88 => 5#32
  | 89 => 5#32
  | 90 => 5#32
  | 91 => 5#32
  | 92 => 5#32
  | 93 => 5#32
  | 94 => 5#32
  | 95 => 5#32
  | 96 => 5#32
  | 97 => 5#32
  | 98 => 5#32
  | 99 => 5#32
  | 100 => 5#32
  | 101 => 5#32
  | 102 => 5#32
  | 103 => 5#32
  | 104 => 5#32
  | 105 => 5#32
  | 106 => 5#32
  | 107 => 6#32
  | 108 => 6#32
  | 109 => 6#32
  | 110 => 6#32
  | 111 => 6#32
  | 112 => 6#32
  | 113 => 6#32
  | 114 => 6#32
  | 115 => 6#32
  | 116 => 6#32
  | 117 => 6#32
  | 118 => 6#32
  | 119 => 6#32
  | 120 => 6#32
  | 121 => 6#32
  | 122 => 6#32
  | 123 => 6#32
  | 124 => 6#32
  | 125 => 6#32
  | 126 => 6#32
  | 127 => 6#32
  | _ => 0#32

noncomputable abbrev lit0t0_3 (i : Nat) : BitVec 32 := match i % 128 with
  | 0 => 6#32
  | 1 => 6#32
  | 2 => 6#32
  | 3 => 6#32
  | 4 => 6#32
  | 5 => 6#32
  | 6 => 6#32
  | 7 => 6#32
  | 8 => 6#32
  | 9 => 6#32
  | 10 => 6#32
  | 11 => 6#32
  | 12 => 6#32
  | 13 => 6#32
  | 14 => 6#32
  | 15 => 6#32
  | 16 => 6#32
  | 17 => 6#32
  | 18 => 6#32
  | 19 => 6#32
  | 20 => 6#32
  | 21 => 6#32
  | 22 => 6#32
  | 23 => 6#32
  | 24 => 6#32
  | 25 => 6#32
  | 26 => 6#32
  | 27 => 6#32
  | 28 => 6#32
  | 29 => 6#32
  | 30 => 6#32
  | 31 => 6#32
  | 32 => 6#32
  | 33 => 6#32
  | 34 => 6#32
  | 35 => 6#32
  | 36 => 7#32
  | 37 => 7#32
  | 38 => 7#32
  | 39 => 7#32
  | 40 => 7#32
  | 41 => 7#32
  | 42 => 7#32
  | 43 => 7#32
  | 44 => 7#32
  | 45 => 7#32
  | 46 => 7#32
  | 47 => 7#32
  | 48 => 7#32
  | 49 => 7#32
  | 50 => 7#32
  | 51 => 7#32
  | 52 => 7#32
  | 53 => 7#32
  | 54 => 7#32
  | 55 => 7#32
  | 56 => 7#32
  | 57 => 7#32
  | 58 => 7#32
  | 59 => 7#32
  | 60 => 7#32
  | 61 => 7#32
  | 62 => 7#32
  | 63 => 7#32
  | 64 => 7#32
  | 65 => 7#32
  | 66 => 7#32
  | 67 => 7#32
  | 68 => 7#32
  | 69 => 7#32
  | 70 => 7#32
  | 71 => 7#32
  | 72 => 7#32
  | 73 => 7#32
  | 74 => 7#32
  | 75 => 7#32
  | 76 => 7#32
  | 77 => 7#32
  | 78 => 7#32
  | 79 => 7#32
  | 80 => 7#32
  | 81 => 7#32
  | 82 => 7#32
  | 83 => 7#32
  | 84 => 7#32
  | 85 => 7#32
  | 86 => 7#32
  | 87 => 7#32
  | 88 => 7#32
  | 89 => 7#32
  | 90 => 7#32
  | 91 => 7#32
  | 92 => 8#32
  | 93 => 8#32
  | 94 => 8#32
  | 95 => 8#32
  | 96 => 8#32
  | 97 => 8#32
  | 98 => 8#32
  | 99 => 8#32
  | 100 => 8#32
  | 101 => 8#32
  | 102 => 8#32
  | 103 => 8#32
  | 104 => 8#32
  | 105 => 8#32
  | 106 => 8#32
  | 107 => 8#32
  | 108 => 8#32
  | 109 => 8#32
  | 110 => 8#32
  | 111 => 8#32
  | 112 => 8#32
  | 113 => 8#32
  | 114 => 8#32
  | 115 => 8#32
  | 116 => 8#32
  | 117 => 8#32
  | 118 => 8#32
  | 119 => 8#32
  | 120 => 8#32
  | 121 => 8#32
  | 122 => 8#32
  | 123 => 8#32
  | 124 => 8#32
  | 125 => 8#32
  | 126 => 8#32
  | 127 => 8#32
  | _ => 0#32

noncomputable abbrev lit0t0_4 (i : Nat) : BitVec 32 := match i % 128 with
  | 0 => 8#32
  | 1 => 8#32
  | 2 => 8#32
  | 3 => 8#32
  | 4 => 8#32
  | 5 => 8#32
  | 6 => 8#32
  | 7 => 8#32
  | 8 => 8#32
  | 9 => 8#32
  | 10 => 8#32
  | 11 => 8#32
  | 12 => 8#32
  | 13 => 8#32
  | 14 => 8#32
  | 15 => 8#32
  | 16 => 8#32
  | 17 => 8#32
  | 18 => 8#32
  | 19 => 9#32
  | 20 => 9#32
  | 21 => 9#32
  | 22 => 9#32
  | 23 => 9#32
  | 24 => 9#32
  | 25 => 9#32
  | 26 => 9#32
  | 27 => 9#32
  | 28 => 9#32
  | 29 => 9#32
  | 30 => 9#32
  | 31 => 9#32
  | 32 => 9#32
  | 33 => 9#32
  | 34 => 9#32
  | 35 => 9#32
  | 36 => 9#32
  | 37 => 9#32
  | 38 => 9#32
  | 39 => 9#32
  | 40 => 9#32
  | 41 => 9#32
  | 42 => 9#32
  | 43 => 9#32
  | 44 => 9#32
  | 45 => 9#32
  | 46 => 9#32
  | 47 => 9#32
  | 48 => 9#32
  | 49 => 9#32
  | 50 => 9#32
  | 51 => 9#32
  | 52 => 9#32
  | 53 => 9#32
  | 54 => 9#32
  | 55 => 9#32
  | 56 => 9#32
  | 57 => 9#32
  | 58 => 9#32
  | 59 => 9#32
  | 60 => 9#32
  | 61 => 9#32
  | 62 => 9#32
  | 63 => 9#32
  | 64 => 9#32
  | 65 => 9#32
  | 66 => 9#32
  | 67 => 9#32
  | 68 => 9#32
  | 69 => 9#32
  | 70 => 9#32
  | 71 => 9#32
  | 72 => 9#32
  | 73 => 10#32
  | 74 => 10#32
  | 75 => 10#32
  | 76 => 10#32
  | 77 => 10#32
  | 78 => 10#32
  | 79 => 10#32
  | 80 => 10#32
  | 81 => 10#32
  | 82 => 10#32
  | 83 => 10#32
  | 84 => 10#32
  | 85 => 10#32
  | 86 => 10#32
  | 87 => 10#32
  | 88 => 10#32
  | 89 => 10#32
  | 90 => 10#32
  | 91 => 10#32
  | 92 => 10#32
  | 93 => 10#32
  | 94 => 10#32
  | 95 => 10#32
  | 96 => 10#32
  | 97 => 10#32
  | 98 => 10#32
  | 99 => 10#32
  | 100 => 10#32
  | 101 => 10#32
  | 102 => 10#32
  | 103 => 10#32
  | 104 => 10#32
  | 105 => 10#32
  | 106 => 10#32
  | 107 => 10#32
  | 108 => 10#32
  | 109 => 10#32
  | 110 => 10#32
  | 111 => 10#32
  | 112 => 10#32
  | 113 => 10#32
  | 114 => 10#32
  | 115 => 10#32
  | 116 => 10#32
  | 117 => 10#32
  | 118 => 10#32
  | 119 => 10#32
  | 120 => 10#32
  | 121 => 10#32
  | 122 => 10#32
  | 123 => 10#32
  | 124 => 10#32
  | 125 => 10#32
  | 126 => 11#32
  | 127 => 11#32
  | _ => 0#32

noncomputable abbrev lit0t0_5 (i : Nat) : BitVec 32 := match i % 128 with
  | 0 => 11#32
  | 1 => 11#32
  | 2 => 11#32
  | 3 => 11#32
  | 4 => 11#32
  | 5 => 11#32
  | 6 => 11#32
  | 7 => 11#32
  | 8 => 11#32
  | 9 => 11#32
  | 10 => 11#32
  | 11 => 11#32
  | 12 => 11#32
  | 13 => 11#32
  | 14 => 11#32
  | 15 => 11#32
  | 16 => 11#32
  | 17 => 11#32
  | 18 => 11#32
  | 19 => 11#32
  | 20 => 11#32
  | 21 => 11#32
  | 22 => 11#32
  | 23 => 11#32
  | 24 => 11#32
  | 25 => 11#32
  | 26 => 11#32
  | 27 => 11#32
  | 28 => 11#32
  | 29 => 11#32
  | 30 => 11#32
  | 31 => 11#32
  | 32 => 11#32
  | 33 => 11#32
  | 34 => 11#32
  | 35 => 11#32
  | 36 => 11#32
  | 37 => 11#32
  | 38 => 11#32
  | 39 => 11#32
  | 40 => 11#32
  | 41 => 11#32
  | 42 => 11#32
  | 43 => 11#32
  | 44 => 11#32
  | 45 => 11#32
  | 46 => 11#32
  | 47 => 11#32
  | 48 => 11#32
  | 49 => 11#32
  | 50 => 12#32
  | 51 => 12#32
  | 52 => 12#32
  | 53 => 12#32
  | 54 => 12#32
  | 55 => 12#32
  | 56 => 12#32
  | 57 => 12#32
  | 58 => 12#32
  | 59 => 12#32
  | 60 => 12#32
  | 61 => 12#32
  | 62 => 12#32
  | 63 => 12#32
  | 64 => 12#32
  | 65 => 12#32
  | 66 => 12#32
  | 67 => 12#32
  | 68 => 12#32
  | 69 => 12#32
  | 70 => 12#32
  | 71 => 12#32
  | 72 => 12#32
  | 73 => 12#32
  | 74 => 12#32
  | 75 => 12#32
  | 76 => 12#32
  | 77 => 12#32
  | 78 => 12#32
  | 79 => 12#32
  | 80 => 12#32
  | 81 => 12#32
  | 82 => 12#32
  | 83 => 12#32
  | 84 => 12#32
  | 85 => 12#32
  | 86 => 12#32
  | 87 => 12#32
  | 88 => 12#32
  | 89 => 12#32
  | 90 => 12#32
  | 91 => 12#32
  | 92 => 12#32
  | 93 => 12#32
  | 94 => 12#32
  | 95 => 12#32
  | 96 => 12#32
  | 97 => 12#32
  | 98 => 12#32
  | 99 => 12#32
  | 100 => 12#32
  | 101 => 13#32
  | 102 => 13#32
  | 103 => 13#32
  | 104 => 13#32
  | 105 => 13#32
  | 106 => 13#32
  | 107 => 13#32
  | 108 => 13#32
  | 109 => 13#32
  | 110 => 13#32
  | 111 => 13#32
  | 112 => 13#32
  | 113 => 13#32
  | 114 => 13#32
  | 115 => 13#32
  | 116 => 13#32
  | 117 => 13#32
  | 118 => 13#32
  | 119 => 13#32
  | 120 => 13#32
  | 121 => 13#32
  | 122 => 13#32
  | 123 => 13#32
  | 124 => 13#32
  | 125 => 13#32
  | 126 => 13#32
  | 127 => 13#32
  | _ => 0#32

noncomputable abbrev lit0t0_6 (i : Nat) : BitVec 32 := match i % 128 with
  | 0 => 13#32
  | 1 => 13#32
  | 2 => 13#32
  | 3 => 13#32
  | 4 => 13#32
  | 5 => 13#32
  | 6 => 13#32
  | 7 => 13#32
  | 8 => 13#32
  | 9 => 13#32
  | 10 => 13#32
  | 11 => 13#32
  | 12 => 13#32
  | 13 => 13#32
  | 14 => 13#32
  | 15 => 13#32
  | 16 => 13#32
  | 17 => 13#32
  | 18 => 13#32
  | 19 => 13#32
  | 20 => 13#32
  | 21 => 13#32
  | 22 => 13#32
  | 23 => 14#32
  | 24 => 14#32
  | 25 => 14#32
  | 26 => 14#32
  | 27 => 14#32
  | 28 => 14#32
  | 29 => 14#32
  | 30 => 14#32
  | 31 => 14#32
  | 32 => 14#32
  | 33 => 14#32
  | 34 => 14#32
  | 35 => 14#32
  | 36 => 14#32
  | 37 => 14#32
  | 38 => 14#32
  | 39 => 14#32
  | 40 => 14#32
  | 41 => 14#32
  | 42 => 14#32
  | 43 => 14#32
  | 44 => 14#32
  | 45 => 14#32
  | 46 => 14#32
  | 47 => 14#32
  | 48 => 14#32
  | 49 => 14#32
  | 50 => 14#32
  | 51 => 14#32
  | 52 => 14#32
  | 53 => 14#32
  | 54 => 14#32
  | 55 => 14#32
  | 56 => 14#32
  | 57 => 14#32
  | 58 => 14#32
  | 59 => 14#32
  | 60 => 14#32
  | 61 => 14#32
  | 62 => 14#32
  | 63 => 14#32
  | 64 => 14#32
  | 65 => 14#32
  | 66 => 14#32
  | 67 => 14#32
  | 68 => 14#32
  | 69 => 14#32
  | 70 => 14#32
  | 71 => 14#32
  | 72 => 15#32
  | 73 => 15#32
  | 74 => 15#32
  | 75 => 15#32
  | 76 => 15#32
  | 77 => 15#32
  | 78 => 15#32
  | 79 => 15#32
  | 80 => 15#32
  | 81 => 15#32
  | 82 => 15#32
  | 83 => 15#32
  | 84 => 15#32
  | 85 => 15#32
  | 86 => 15#32
  | 87 => 15#32
  | 88 => 15#32
  | 89 => 15#32
  | 90 => 15#32
  | 91 => 15#32
  | 92 => 15#32
  | 93 => 15#32
  | 94 => 15#32
  | 95 => 15#32
  | 96 => 15#32
  | 97 => 15#32
  | 98 => 15#32
  | 99 => 15#32
  | 100 => 15#32
  | 101 => 15#32
  | 102 => 15#32
  | 103 => 15#32
  | 104 => 15#32
  | 105 => 15#32
  | 106 => 15#32
  | 107 => 15#32
  | 108 => 15#32
  | 109 => 15#32
  | 110 => 15#32
  | 111 => 15#32
  | 112 => 15#32
  | 113 => 15#32
  | 114 => 15#32
  | 115 => 15#32
  | 116 => 15#32
  | 117 => 15#32
  | 118 => 15#32
  | 119 => 15#32
  | 120 => 16#32
  | 121 => 16#32
  | 122 => 16#32
  | 123 => 16#32
  | 124 => 16#32
  | 125 => 16#32
  | 126 => 16#32
  | 127 => 16#32
  | _ => 0#32

noncomputable abbrev lit0t0_7 (i : Nat) : BitVec 32 := match i % 128 with
  | 0 => 16#32
  | 1 => 16#32
  | 2 => 16#32
  | 3 => 16#32
  | 4 => 16#32
  | 5 => 16#32
  | 6 => 16#32
  | 7 => 16#32
  | 8 => 16#32
  | 9 => 16#32
  | 10 => 16#32
  | 11 => 16#32
  | 12 => 16#32
  | 13 => 16#32
  | 14 => 16#32
  | 15 => 16#32
  | 16 => 16#32
  | 17 => 16#32
  | 18 => 16#32
  | 19 => 16#32
  | 20 => 16#32
  | 21 => 16#32
  | 22 => 16#32
  | 23 => 16#32
  | 24 => 16#32
  | 25 => 16#32
  | 26 => 16#32
  | 27 => 16#32
  | 28 => 16#32
  | 29 => 16#32
  | 30 => 16#32
  | 31 => 16#32
  | 32 => 16#32
  | 33 => 16#32
  | 34 => 16#32
  | 35 => 16#32
  | 36 => 16#32
  | 37 => 16#32
  | 38 => 16#32
  | 39 => 17#32
  | 40 => 17#32
  | 41 => 17#32
  | 42 => 17#32
  | 43 => 17#32
  | 44 => 17#32
  | 45 => 17#32
  | 46 => 17#32
  | 47 => 17#32
  | 48 => 17#32
  | 49 => 17#32
  | 50 => 17#32
  | 51 => 17#32
  | 52 => 17#32
  | 53 => 17#32
  | 54 => 17#32
  | 55 => 17#32
  | 56 => 17#32
  | 57 => 17#32
  | 58 => 17#32
  | 59 => 17#32
  | 60 => 17#32
  | 61 => 17#32
  | 62 => 17#32
  | 63 => 17#32
  | 64 => 17#32
  | 65 => 17#32
  | 66 => 17#32
  | 67 => 17#32
  | 68 => 17#32
  | 69 => 17#32
  | 70 => 17#32
  | 71 => 17#32
  | 72 => 17#32
  | 73 => 17#32
  | 74 => 17#32
  | 75 => 17#32
  | 76 => 17#32
  | 77 => 17#32
  | 78 => 17#32
  | 79 => 17#32
  | 80 => 17#32
  | 81 => 17#32
  | 82 => 17#32
  | 83 => 17#32
  | 84 => 17#32
  | 85 => 18#32
  | 86 => 18#32
  | 87 => 18#32
  | 88 => 18#32
  | 89 => 18#32
  | 90 => 18#32
  | 91 => 18#32
  | 92 => 18#32
  | 93 => 18#32
  | 94 => 18#32
  | 95 => 18#32
  | 96 => 18#32
  | 97 => 18#32
  | 98 => 18#32
  | 99 => 18#32
  | 100 => 18#32
  | 101 => 18#32
  | 102 => 18#32
  | 103 => 18#32
  | 104 => 18#32
  | 105 => 18#32
  | 106 => 18#32
  | 107 => 18#32
  | 108 => 18#32
  | 109 => 18#32
  | 110 => 18#32
  | 111 => 18#32
  | 112 => 18#32
  | 113 => 18#32
  | 114 => 18#32
  | 115 => 18#32
  | 116 => 18#32
  | 117 => 18#32
  | 118 => 18#32
  | 119 => 18#32
  | 120 => 18#32
  | 121 => 18#32
  | 122 => 18#32
  | 123 => 18#32
  | 124 => 18#32
  | 125 => 18#32
  | 126 => 18#32
  | 127 => 18#32
  | _ => 0#32

noncomputable abbrev lit0t0_8 (i : Nat) : BitVec 32 := match i % 128 with
  | 0 => 18#32
  | 1 => 18#32
  | 2 => 19#32
  | 3 => 19#32
  | 4 => 19#32
  | 5 => 19#32
  | 6 => 19#32
  | 7 => 19#32
  | 8 => 19#32
  | 9 => 19#32
  | 10 => 19#32
  | 11 => 19#32
  | 12 => 19#32
  | 13 => 19#32
  | 14 => 19#32
  | 15 => 19#32
  | 16 => 19#32
  | 17 => 19#32
  | 18 => 19#32
  | 19 => 19#32
  | 20 => 19#32
  | 21 => 19#32
  | 22 => 19#32
  | 23 => 19#32
  | 24 => 19#32
  | 25 => 19#32
  | 26 => 19#32
  | 27 => 19#32
  | 28 => 19#32
  | 29 => 19#32
  | 30 => 19#32
  | 31 => 19#32
  | 32 => 19#32
  | 33 => 19#32
  | 34 => 19#32
  | 35 => 19#32
  | 36 => 19#32
  | 37 => 19#32
  | 38 => 19#32
  | 39 => 19#32
  | 40 => 19#32
  | 41 => 19#32
  | 42 => 19#32
  | 43 => 19#32
  | 44 => 19#32
  | 45 => 19#32
  | 46 => 20#32
  | 47 => 20#32
  | 48 => 20#32
  | 49 => 20#32
  | 50 => 20#32
  | 51 => 20#32
  | 52 => 20#32
  | 53 => 20#32
  | 54 => 20#32
  | 55 => 20#32
  | 56 => 20#32
  | 57 => 20#32
  | 58 => 20#32
  | 59 => 20#32
  | 60 => 20#32
  | 61 => 20#32
  | 62 => 20#32
  | 63 => 20#32
  | 64 => 20#32
  | 65 => 20#32
  | 66 => 20#32
  | 67 => 20#32
  | 68 => 20#32
  | 69 => 20#32
  | 70 => 20#32
  | 71 => 20#32
  | 72 => 20#32
  | 73 => 20#32
  | 74 => 20#32
  | 75 => 20#32
  | 76 => 20#32
  | 77 => 20#32
  | 78 => 20#32
  | 79 => 20#32
  | 80 => 20#32
  | 81 => 20#32
  | 82 => 20#32
  | 83 => 20#32
  | 84 => 20#32
  | 85 => 20#32
  | 86 => 20#32
  | 87 => 20#32
  | 88 => 20#32
  | 89 => 21#32
  | 90 => 21#32
  | 91 => 21#32
  | 92 => 21#32
  | 93 => 21#32
  | 94 => 21#32
  | 95 => 21#32
  | 96 => 21#32
  | 97 => 21#32
  | 98 => 21#32
  | 99 => 21#32
  | 100 => 21#32
  | 101 => 21#32
  | 102 => 21#32
  | 103 => 21#32
  | 104 => 21#32
  | 105 => 21#32
  | 106 => 21#32
  | 107 => 21#32
  | 108 => 21#32
  | 109 => 21#32
  | 110 => 21#32
  | 111 => 21#32
  | 112 => 21#32
  | 113 => 21#32
  | 114 => 21#32
  | 115 => 21#32
  | 116 => 21#32
  | 117 => 21#32
  | 118 => 21#32
  | 119 => 21#32
  | 120 => 21#32
  | 121 => 21#32
  | 122 => 21#32
  | 123 => 21#32
  | 124 => 21#32
  | 125 => 21#32
  | 126 => 21#32
  | 127 => 21#32
  | _ => 0#32

noncomputable abbrev lit0t0_9 (i : Nat) : BitVec 32 := match i % 128 with
  | 0 => 21#32
  | 1 => 21#32
  | 2 => 21#32
  | 3 => 22#32
  | 4 => 22#32
  | 5 => 22#32
  | 6 => 22#32
  | 7 => 22#32
  | 8 => 22#32
  | 9 => 22#32
  | 10 => 22#32
  | 11 => 22#32
  | 12 => 22#32
  | 13 => 22#32
  | 14 => 22#32
  | 15 => 22#32
  | 16 => 22#32
  | 17 => 22#32
  | 18 => 22#32
  | 19 => 22#32
  | 20 => 22#32
  | 21 => 22#32
  | 22 => 22#32
  | 23 => 22#32
  | 24 => 22#32
  | 25 => 22#32
  | 26 => 22#32
  | 27 => 22#32
  | 28 => 22#32
  | 29 => 22#32
  | 30 => 22#32
  | 31 => 22#32
  | 32 => 22#32
  | 33 => 22#32
  | 34 => 22#32
  | 35 => 22#32
  | 36 => 22#32
  | 37 => 22#32
  | 38 => 22#32
  | 39 => 22#32
  | 40 => 22#32
  | 41 => 22#32
  | 42 => 22#32
  | 43 => 22#32
  | 44 => 23#32
  | 45 => 23#32
  | 46 => 23#32
  | 47 => 23#32
  | 48 => 23#32
  | 49 => 23#32
  | 50 => 23#32
  | 51 => 23#32
  | 52 => 23#32
  | 53 => 23#32
  | 54 => 23#32
  | 55 => 23#32
  | 56 => 23#32
  | 57 => 23#32
  | 58 => 23#32
  | 59 => 23#32
  | 60 => 23#32
  | 61 => 23#32
  | 62 => 23#32
  | 63 => 23#32
  | 64 => 23#32
  | 65 => 23#32
  | 66 => 23#32
  | 67 => 23#32
  | 68 => 23#32
  | 69 => 23#32
  | 70 => 23#32
  | 71 => 23#32
  | 72 => 23#32
  | 73 => 23#32
  | 74 => 23#32
  | 75 => 23#32
  | 76 => 23#32
  | 77 => 23#32
  | 78 => 23#32
  | 79 => 23#32
  | 80 => 23#32
  | 81 => 23#32
  | 82 => 23#32
  | 83 => 23#32
  | 84 => 24#32
  | 85 => 24#32
  | 86 => 24#32
  | 87 => 24#32
  | 88 => 24#32
  | 89 => 24#32
  | 90 => 24#32
  | 91 => 24#32
  | 92 => 24#32
  | 93 => 24#32
  | 94 => 24#32
  | 95 => 24#32
  | 96 => 24#32
  | 97 => 24#32
  | 98 => 24#32
  | 99 => 24#32
  | 100 => 24#32
  | 101 => 24#32
  | 102 => 24#32
  | 103 => 24#32
  | 104 => 24#32
  | 105 => 24#32
  | 106 => 24#32
  | 107 => 24#32
  | 108 => 24#32
  | 109 => 24#32
  | 110 => 24#32
  | 111 => 24#32
  | 112 => 24#32
  | 113 => 24#32
  | 114 => 24#32
  | 115 => 24#32
  | 116 => 24#32
  | 117 => 24#32
  | 118 => 24#32
  | 119 => 24#32
  | 120 => 24#32
  | 121 => 24#32
  | 122 => 24#32
  | 123 => 25#32
  | 124 => 25#32
  | 125 => 25#32
  | 126 => 25#32
  | 127 => 25#32
  | _ => 0#32

noncomputable abbrev lit0t0_10 (i : Nat) : BitVec 32 := match i % 128 with
  | 0 => 25#32
  | 1 => 25#32
  | 2 => 25#32
  | 3 => 25#32
  | 4 => 25#32
  | 5 => 25#32
  | 6 => 25#32
  | 7 => 25#32
  | 8 => 25#32
  | 9 => 25#32
  | 10 => 25#32
  | 11 => 25#32
  | 12 => 25#32
  | 13 => 25#32
  | 14 => 25#32
  | 15 => 25#32
  | 16 => 25#32
  | 17 => 25#32
  | 18 => 25#32
  | 19 => 25#32
  | 20 => 25#32
  | 21 => 25#32
  | 22 => 25#32
  | 23 => 25#32
  | 24 => 25#32
  | 25 => 25#32
  | 26 => 25#32
  | 27 => 25#32
  | 28 => 25#32
  | 29 => 25#32
  | 30 => 25#32
  | 31 => 25#32
  | 32 => 25#32
  | 33 => 26#32
  | 34 => 26#32
  | 35 => 26#32
  | 36 => 26#32
  | 37 => 26#32
  | 38 => 26#32
  | 39 => 26#32
  | 40 => 26#32
  | 41 => 26#32
  | 42 => 26#32
  | 43 => 26#32
  | 44 => 26#32
  | 45 => 26#32
  | 46 => 26#32
  | 47 => 26#32
  | 48 => 26#32
  | 49 => 26#32
  | 50 => 26#32
  | 51 => 26#32
  | 52 => 26#32
  | 53 => 26#32
  | 54 => 26#32
  | 55 => 26#32
  | 56 => 26#32
  | 57 => 26#32
  | 58 => 26#32
  | 59 => 26#32
  | 60 => 26#32
  | 61 => 26#32
  | 62 => 26#32
  | 63 => 26#32
  | 64 => 26#32
  | 65 => 26#32
  | 66 => 26#32
  | 67 => 26#32
  | 68 => 26#32
  | 69 => 26#32
  | 70 => 27#32
  | 71 => 27#32
  | 72 => 27#32
  | 73 => 27#32
  | 74 => 27#32
  | 75 => 27#32
  | 76 => 27#32
  | 77 => 27#32
  | 78 => 27#32
  | 79 => 27#32
  | 80 => 27#32
  | 81 => 27#32
  | 82 => 27#32
  | 83 => 27#32
  | 84 => 27#32
  | 85 => 27#32
  | 86 => 27#32
  | 87 => 27#32
  | 88 => 27#32
  | 89 => 27#32
  | 90 => 27#32
  | 91 => 27#32
  | 92 => 27#32
  | 93 => 27#32
  | 94 => 27#32
  | 95 => 27#32
  | 96 => 27#32
  | 97 => 27#32
  | 98 => 27#32
  | 99 => 27#32
  | 100 => 27#32
  | 101 => 27#32
  | 102 => 27#32
  | 103 => 27#32
  | 104 => 27#32
  | 105 => 27#32
  | 106 => 28#32
  | 107 => 28#32
  | 108 => 28#32
  | 109 => 28#32
  | 110 => 28#32
  | 111 => 28#32
  | 112 => 28#32
  | 113 => 28#32
  | 114 => 28#32
  | 115 => 28#32
  | 116 => 28#32
  | 117 => 28#32
  | 118 => 28#32
  | 119 => 28#32
  | 120 => 28#32
  | 121 => 28#32
  | 122 => 28#32
  | 123 => 28#32
  | 124 => 28#32
  | 125 => 28#32
  | 126 => 28#32
  | 127 => 28#32
  | _ => 0#32

noncomputable abbrev lit0t0_11 (i : Nat) : BitVec 32 := match i % 128 with
  | 0 => 28#32
  | 1 => 28#32
  | 2 => 28#32
  | 3 => 28#32
  | 4 => 28#32
  | 5 => 28#32
  | 6 => 28#32
  | 7 => 28#32
  | 8 => 28#32
  | 9 => 28#32
  | 10 => 28#32
  | 11 => 28#32
  | 12 => 28#32
  | 13 => 29#32
  | 14 => 29#32
  | 15 => 29#32
  | 16 => 29#32
  | 17 => 29#32
  | 18 => 29#32
  | 19 => 29#32
  | 20 => 29#32
  | 21 => 29#32
  | 22 => 29#32
  | 23 => 29#32
  | 24 => 29#32
  | 25 => 29#32
  | 26 => 29#32
  | 27 => 29#32
  | 28 => 29#32
  | 29 => 29#32
  | 30 => 29#32
  | 31 => 29#32
  | 32 => 29#32
  | 33 => 29#32
  | 34 => 29#32
  | 35 => 29#32
  | 36 => 29#32
  | 37 => 29#32
  | 38 => 29#32
  | 39 => 29#32
  | 40 => 29#32
  | 41 => 29#32
  | 42 => 29#32
  | 43 => 29#32
  | 44 => 29#32
  | 45 => 29#32
  | 46 => 29#32
  | 47 => 30#32
  | 48 => 30#32
  | 49 => 30#32
  | 50 => 30#32
  | 51 => 30#32
  | 52 => 30#32
  | 53 => 30#32
  | 54 => 30#32
  | 55 => 30#32
  | 56 => 30#32
  | 57 => 30#32
  | 58 => 30#32
  | 59 => 30#32
  | 60 => 30#32
  | 61 => 30#32
  | 62 => 30#32
  | 63 => 30#32
  | 64 => 30#32
  | 65 => 30#32
  | 66 => 30#32
  | 67 => 30#32
  | 68 => 30#32
  | 69 => 30#32
  | 70 => 30#32
  | 71 => 30#32
  | 72 => 30#32
  | 73 => 30#32
  | 74 => 30#32
  | 75 => 30#32
  | 76 => 30#32
  | 77 => 30#32
  | 78 => 30#32
  | 79 => 30#32
  | 80 => 31#32
  | 81 => 31#32
  | 82 => 31#32
  | 83 => 31#32
  | 84 => 31#32
  | 85 => 31#32
  | 86 => 31#32
  | 87 => 31#32
  | 88 => 31#32
  | 89 => 31#32
  | 90 => 31#32
  | 91 => 31#32
  | 92 => 31#32
  | 93 => 31#32
  | 94 => 31#32
  | 95 => 31#32
  | 96 => 31#32
  | 97 => 31#32
  | 98 => 31#32
  | 99 => 31#32
  | 100 => 31#32
  | 101 => 31#32
  | 102 => 31#32
  | 103 => 31#32
  | 104 => 31#32
  | 105 => 31#32
  | 106 => 31#32
  | 107 => 31#32
  | 108 => 31#32
  | 109 => 31#32
  | 110 => 31#32
  | 111 => 31#32
  | 112 => 32#32
  | 113 => 32#32
  | 114 => 32#32
  | 115 => 32#32
  | 116 => 32#32
  | 117 => 32#32
  | 118 => 32#32
  | 119 => 32#32
  | 120 => 32#32
  | 121 => 32#32
  | 122 => 32#32
  | 123 => 32#32
  | 124 => 32#32
  | 125 => 32#32
  | 126 => 32#32
  | 127 => 32#32
  | _ => 0#32

noncomputable abbrev lit0t0_12 (i : Nat) : BitVec 32 := match i % 128 with
  | 0 => 32#32
  | 1 => 32#32
  | 2 => 32#32
  | 3 => 32#32
  | 4 => 32#32
  | 5 => 32#32
  | 6 => 32#32
  | 7 => 32#32
  | 8 => 32#32
  | 9 => 32#32
  | 10 => 32#32
  | 11 => 32#32
  | 12 => 32#32
  | 13 => 32#32
  | 14 => 32#32
  | 15 => 33#32
  | 16 => 33#32
  | 17 => 33#32
  | 18 => 33#32
  | 19 => 33#32
  | 20 => 33#32
  | 21 => 33#32
  | 22 => 33#32
  | 23 => 33#32
  | 24 => 33#32
  | 25 => 33#32
  | 26 => 33#32
  | 27 => 33#32
  | 28 => 33#32
  | 29 => 33#32
  | 30 => 33#32
  | 31 => 33#32
  | 32 => 33#32
  | 33 => 33#32
  | 34 => 33#32
  | 35 => 33#32
  | 36 => 33#32
  | 37 => 33#32
  | 38 => 33#32
  | 39 => 33#32
  | 40 => 33#32
  | 41 => 33#32
  | 42 => 33#32
  | 43 => 33#32
  | 44 => 33#32
  | 45 => 34#32
  | 46 => 34#32
  | 47 => 34#32
  | 48 => 34#32
  | 49 => 34#32
  | 50 => 34#32
  | 51 => 34#32
  | 52 => 34#32
  | 53 => 34#32
  | 54 => 34#32
  | 55 => 34#32
  | 56 => 34#32
  | 57 => 34#32
  | 58 => 34#32
  | 59 => 34#32
  | 60 => 34#32
  | 61 => 34#32
  | 62 => 34#32
  | 63 => 34#32
  | 64 => 34#32
  | 65 => 34#32
  | 66 => 34#32
  | 67 => 34#32
  | 68 => 34#32
  | 69 => 34#32
  | 70 => 34#32
  | 71 => 34#32
  | 72 => 34#32
  | 73 => 34#32
  | 74 => 35#32
  | 75 => 35#32
  | 76 => 35#32
  | 77 => 35#32
  | 78 => 35#32
  | 79 => 35#32
  | 80 => 35#32
  | 81 => 35#32
  | 82 => 35#32
  | 83 => 35#32
  | 84 => 35#32
  | 85 => 35#32
  | 86 => 35#32
  | 87 => 35#32
  | 88 => 35#32
  | 89 => 35#32
  | 90 => 35#32
  | 91 => 35#32
  | 92 => 35#32
  | 93 => 35#32
  | 94 => 35#32
  | 95 => 35#32
  | 96 => 35#32
  | 97 => 35#32
  | 98 => 35#32
  | 99 => 35#32
  | 100 => 35#32
  | 101 => 35#32
  | 102 => 36#32
  | 103 => 36#32
  | 104 => 36#32
  | 105 => 36#32
  | 106 => 36#32
  | 107 => 36#32
  | 108 => 36#32
  | 109 => 36#32
  | 110 => 36#32
  | 111 => 36#32
  | 112 => 36#32
  | 113 => 36#32
  | 114 => 36#32
  | 115 => 36#32
  | 116 => 36#32
  | 117 => 36#32
  | 118 => 36#32
  | 119 => 36#32
  | 120 => 36#32
  | 121 => 36#32
  | 122 => 36#32
  | 123 => 36#32
  | 124 => 36#32
  | 125 => 36#32
  | 126 => 36#32
  | 127 => 36#32
  | _ => 0#32

noncomputable abbrev lit0t0_13 (i : Nat) : BitVec 32 := match i % 128 with
  | 0 => 36#32
  | 1 => 37#32
  | 2 => 37#32
  | 3 => 37#32
  | 4 => 37#32
  | 5 => 37#32
  | 6 => 37#32
  | 7 => 37#32
  | 8 => 37#32
  | 9 => 37#32
  | 10 => 37#32
  | 11 => 37#32
  | 12 => 37#32
  | 13 => 37#32
  | 14 => 37#32
  | 15 => 37#32
  | 16 => 37#32
  | 17 => 37#32
  | 18 => 37#32
  | 19 => 37#32
  | 20 => 37#32
  | 21 => 37#32
  | 22 => 37#32
  | 23 => 37#32
  | 24 => 37#32
  | 25 => 37#32
  | 26 => 37#32
  | 27 => 38#32
  | 28 => 38#32
  | 29 => 38#32
  | 30 => 38#32
  | 31 => 38#32
  | 32 => 38#32
  | 33 => 38#32
  | 34 => 38#32
  | 35 => 38#32
  | 36 => 38#32
  | 37 => 38#32
  | 38 => 38#32
  | 39 => 38#32
  | 40 => 38#32
  | 41 => 38#32
  | 42 => 38#32
  | 43 => 38#32
  | 44 => 38#32
  | 45 => 38#32
  | 46 => 38#32
  | 47 => 38#32
  | 48 => 38#32
  | 49 => 38#32
  | 50 => 38#32
  | 51 => 38#32
  | 52 => 39#32
  | 53 => 39#32
  | 54 => 39#32
  | 55 => 39#32
  | 56 => 39#32
  | 57 => 39#32
  | 58 => 39#32
  | 59 => 39#32
  | 60 => 39#32
  | 61 => 39#32
  | 62 => 39#32
  | 63 => 39#32
  | 64 => 39#32
  | 65 => 39#32
  | 66 => 39#32
  | 67 => 39#32
  | 68 => 39#32
  | 69 => 39#32
  | 70 => 39#32
  | 71 => 39#32
  | 72 => 39#32
  | 73 => 39#32
  | 74 => 39#32
  | 75 => 39#32
  | 76 => 40#32
  | 77 => 40#32
  | 78 => 40#32
  | 79 => 40#32
  | 80 => 40#32
  | 81 => 40#32
  | 82 => 40#32
  | 83 => 40#32
  | 84 => 40#32
  | 85 => 40#32
  | 86 => 40#32
  | 87 => 40#32
  | 88 => 40#32
  | 89 => 40#32
  | 90 => 40#32
  | 91 => 40#32
  | 92 => 40#32
  | 93 => 40#32
  | 94 => 40#32
  | 95 => 40#32
  | 96 => 40#32
  | 97 => 40#32
  | 98 => 40#32
  | 99 => 41#32
  | 100 => 41#32
  | 101 => 41#32
  | 102 => 41#32
  | 103 => 41#32
  | 104 => 41#32
  | 105 => 41#32
  | 106 => 41#32
  | 107 => 41#32
  | 108 => 41#32
  | 109 => 41#32
  | 110 => 41#32
  | 111 => 41#32
  | 112 => 41#32
  | 113 => 41#32
  | 114 => 41#32
  | 115 => 41#32
  | 116 => 41#32
  | 117 => 41#32
  | 118 => 41#32
  | 119 => 41#32
  | 120 => 41#32
  | 121 => 42#32
  | 122 => 42#32
  | 123 => 42#32
  | 124 => 42#32
  | 125 => 42#32
  | 126 => 42#32
  | 127 => 42#32
  | _ => 0#32

noncomputable abbrev lit0t0_14 (i : Nat) : BitVec 32 := match i % 128 with
  | 0 => 42#32
  | 1 => 42#32
  | 2 => 42#32
  | 3 => 42#32
  | 4 => 42#32
  | 5 => 42#32
  | 6 => 42#32
  | 7 => 42#32
  | 8 => 42#32
  | 9 => 42#32
  | 10 => 42#32
  | 11 => 42#32
  | 12 => 42#32
  | 13 => 42#32
  | 14 => 43#32
  | 15 => 43#32
  | 16 => 43#32
  | 17 => 43#32
  | 18 => 43#32
  | 19 => 43#32
  | 20 => 43#32
  | 21 => 43#32
  | 22 => 43#32
  | 23 => 43#32
  | 24 => 43#32
  | 25 => 43#32
  | 26 => 43#32
  | 27 => 43#32
  | 28 => 43#32
  | 29 => 43#32
  | 30 => 43#32
  | 31 => 43#32
  | 32 => 43#32
  | 33 => 43#32
  | 34 => 44#32
  | 35 => 44#32
  | 36 => 44#32
  | 37 => 44#32
  | 38 => 44#32
  | 39 => 44#32
  | 40 => 44#32
  | 41 => 44#32
  | 42 => 44#32
  | 43 => 44#32
  | 44 => 44#32
  | 45 => 44#32
  | 46 => 44#32
  | 47 => 44#32
  | 48 => 44#32
  | 49 => 44#32
  | 50 => 44#32
  | 51 => 44#32
  | 52 => 44#32
  | 53 => 45#32
  | 54 => 45#32
  | 55 => 45#32
  | 56 => 45#32
  | 57 => 45#32
  | 58 => 45#32
  | 59 => 45#32
  | 60 => 45#32
  | 61 => 45#32
  | 62 => 45#32
  | 63 => 45#32
  | 64 => 45#32
  | 65 => 45#32
  | 66 => 45#32
  | 67 => 45#32
  | 68 => 45#32
  | 69 => 45#32
  | 70 => 45#32
  | 71 => 46#32
  | 72 => 46#32
  | 73 => 46#32
  | 74 => 46#32
  | 75 => 46#32
  | 76 => 46#32
  | 77 => 46#32
  | 78 => 46#32
  | 79 => 46#32
  | 80 => 46#32
  | 81 => 46#32
  | 82 => 46#32
  | 83 => 46#32
  | 84 => 46#32
  | 85 => 46#32
  | 86 => 46#32
  | 87 => 46#32
  | 88 => 47#32
  | 89 => 47#32
  | 90 => 47#32
  | 91 => 47#32
  | 92 => 47#32
  | 93 => 47#32
  | 94 => 47#32
  | 95 => 47#32
  | 96 => 47#32
  | 97 => 47#32
  | 98 => 47#32
  | 99 => 47#32
  | 100 => 47#32
  | 101 => 47#32
  | 102 => 47#32
  | 103 => 47#32
  | 104 => 48#32
  | 105 => 48#32
  | 106 => 48#32
  | 107 => 48#32
  | 108 => 48#32
  | 109 => 48#32
  | 110 => 48#32
  | 111 => 48#32
  | 112 => 48#32
  | 113 => 48#32
  | 114 => 48#32
  | 115 => 48#32
  | 116 => 48#32
  | 117 => 48#32
  | 118 => 48#32
  | 119 => 49#32
  | 120 => 49#32
  | 121 => 49#32
  | 122 => 49#32
  | 123 => 49#32
  | 124 => 49#32
  | 125 => 49#32
  | 126 => 49#32
  | 127 => 49#32
  | _ => 0#32

noncomputable abbrev lit0t0_15 (i : Nat) : BitVec 32 := match i % 128 with
  | 0 => 49#32
  | 1 => 49#32
  | 2 => 49#32
  | 3 => 49#32
  | 4 => 49#32
  | 5 => 50#32
  | 6 => 50#32
  | 7 => 50#32
  | 8 => 50#32
  | 9 => 50#32
  | 10 => 50#32
  | 11 => 50#32
  | 12 => 50#32
  | 13 => 50#32
  | 14 => 50#32
  | 15 => 50#32
  | 16 => 50#32
  | 17 => 50#32
  | 18 => 51#32
  | 19 => 51#32
  | 20 => 51#32
  | 21 => 51#32
  | 22 => 51#32
  | 23 => 51#32
  | 24 => 51#32
  | 25 => 51#32
  | 26 => 51#32
  | 27 => 51#32
  | 28 => 51#32
  | 29 => 51#32
  | 30 => 52#32
  | 31 => 52#32
  | 32 => 52#32
  | 33 => 52#32
  | 34 => 52#32
  | 35 => 52#32
  | 36 => 52#32
  | 37 => 52#32
  | 38 => 52#32
  | 39 => 52#32
  | 40 => 52#32
  | 41 => 53#32
  | 42 => 53#32
  | 43 => 53#32
  | 44 => 53#32
  | 45 => 53#32
  | 46 => 53#32
  | 47 => 53#32
  | 48 => 53#32
  | 49 => 53#32
  | 50 => 53#32
  | 51 => 54#32
  | 52 => 54#32
  | 53 => 54#32
  | 54 => 54#32
  | 55 => 54#32
  | 56 => 54#32
  | 57 => 54#32
  | 58 => 54#32
  | 59 => 54#32
  | 60 => 55#32
  | 61 => 55#32
  | 62 => 55#32
  | 63 => 55#32
  | 64 => 55#32
  | 65 => 55#32
  | 66 => 55#32
  | 67 => 55#32
  | 68 => 56#32
  | 69 => 56#32
  | 70 => 56#32
  | 71 => 56#32
  | 72 => 56#32
  | 73 => 56#32
  | 74 => 56#32
  | 75 => 57#32
  | 76 => 57#32
  | 77 => 57#32
  | 78 => 57#32
  | 79 => 57#32
  | 80 => 57#32
  | 81 => 58#32
  | 82 => 58#32
  | 83 => 58#32
  | 84 => 58#32
  | 85 => 58#32
  | 86 => 59#32
  | 87 => 59#32
  | 88 => 59#32
  | 89 => 59#32
  | 90 => 60#32
  | 91 => 60#32
  | 92 => 60#32
  | 93 => 61#32
  | 94 => 61#32
  | 95 => 62#32
  | _ => 0#32

noncomputable abbrev lit0t (i : Nat) : BitVec 32 := match i / 128 with
  | 0 => lit0t0_0 i
  | 1 => lit0t0_1 i
  | 2 => lit0t0_2 i
  | 3 => lit0t0_3 i
  | 4 => lit0t0_4 i
  | 5 => lit0t0_5 i
  | 6 => lit0t0_6 i
  | 7 => lit0t0_7 i
  | 8 => lit0t0_8 i
  | 9 => lit0t0_9 i
  | 10 => lit0t0_10 i
  | 11 => lit0t0_11 i
  | 12 => lit0t0_12 i
  | 13 => lit0t0_13 i
  | 14 => lit0t0_14 i
  | 15 => lit0t0_15 i
  | _ => 0#32

noncomputable abbrev lit0 : Fin 2016 → BitVec 32 := fun ⟨i, _⟩ => lit0t i

noncomputable abbrev lit1t0_0 (i : Nat) : BitVec 32 := match i % 128 with
  | 0 => 1#32
  | 1 => 2#32
  | 2 => 3#32
  | 3 => 4#32
  | 4 => 5#32
  | 5 => 6#32
  | 6 => 7#32
  | 7 => 8#32
  | 8 => 9#32
  | 9 => 10#32
  | 10 => 11#32
  | 11 => 12#32
  | 12 => 13#32
  | 13 => 14#32
  | 14 => 15#32
  | 15 => 16#32
  | 16 => 17#32
  | 17 => 18#32
  | 18 => 19#32
  | 19 => 20#32
  | 20 => 21#32
  | 21 => 22#32
  | 22 => 23#32
  | 23 => 24#32
  | 24 => 25#32
  | 25 => 26#32
  | 26 => 27#32
  | 27 => 28#32
  | 28 => 29#32
  | 29 => 30#32
  | 30 => 31#32
  | 31 => 32#32
  | 32 => 33#32
  | 33 => 34#32
  | 34 => 35#32
  | 35 => 36#32
  | 36 => 37#32
  | 37 => 38#32
  | 38 => 39#32
  | 39 => 40#32
  | 40 => 41#32
  | 41 => 42#32
  | 42 => 43#32
  | 43 => 44#32
  | 44 => 45#32
  | 45 => 46#32
  | 46 => 47#32
  | 47 => 48#32
  | 48 => 49#32
  | 49 => 50#32
  | 50 => 51#32
  | 51 => 52#32
  | 52 => 53#32
  | 53 => 54#32
  | 54 => 55#32
  | 55 => 56#32
  | 56 => 57#32
  | 57 => 58#32
  | 58 => 59#32
  | 59 => 60#32
  | 60 => 61#32
  | 61 => 62#32
  | 62 => 63#32
  | 63 => 2#32
  | 64 => 3#32
  | 65 => 4#32
  | 66 => 5#32
  | 67 => 6#32
  | 68 => 7#32
  | 69 => 8#32
  | 70 => 9#32
  | 71 => 10#32
  | 72 => 11#32
  | 73 => 12#32
  | 74 => 13#32
  | 75 => 14#32
  | 76 => 15#32
  | 77 => 16#32
  | 78 => 17#32
  | 79 => 18#32
  | 80 => 19#32
  | 81 => 20#32
  | 82 => 21#32
  | 83 => 22#32
  | 84 => 23#32
  | 85 => 24#32
  | 86 => 25#32
  | 87 => 26#32
  | 88 => 27#32
  | 89 => 28#32
  | 90 => 29#32
  | 91 => 30#32
  | 92 => 31#32
  | 93 => 32#32
  | 94 => 33#32
  | 95 => 34#32
  | 96 => 35#32
  | 97 => 36#32
  | 98 => 37#32
  | 99 => 38#32
  | 100 => 39#32
  | 101 => 40#32
  | 102 => 41#32
  | 103 => 42#32
  | 104 => 43#32
  | 105 => 44#32
  | 106 => 45#32
  | 107 => 46#32
  | 108 => 47#32
  | 109 => 48#32
  | 110 => 49#32
  | 111 => 50#32
  | 112 => 51#32
  | 113 => 52#32
  | 114 => 53#32
  | 115 => 54#32
  | 116 => 55#32
  | 117 => 56#32
  | 118 => 57#32
  | 119 => 58#32
  | 120 => 59#32
  | 121 => 60#32
  | 122 => 61#32
  | 123 => 62#32
  | 124 => 63#32
  | 125 => 3#32
  | 126 => 4#32
  | 127 => 5#32
  | _ => 0#32

noncomputable abbrev lit1t0_1 (i : Nat) : BitVec 32 := match i % 128 with
  | 0 => 6#32
  | 1 => 7#32
  | 2 => 8#32
  | 3 => 9#32
  | 4 => 10#32
  | 5 => 11#32
  | 6 => 12#32
  | 7 => 13#32
  | 8 => 14#32
  | 9 => 15#32
  | 10 => 16#32
  | 11 => 17#32
  | 12 => 18#32
  | 13 => 19#32
  | 14 => 20#32
  | 15 => 21#32
  | 16 => 22#32
  | 17 => 23#32
  | 18 => 24#32
  | 19 => 25#32
  | 20 => 26#32
  | 21 => 27#32
  | 22 => 28#32
  | 23 => 29#32
  | 24 => 30#32
  | 25 => 31#32
  | 26 => 32#32
  | 27 => 33#32
  | 28 => 34#32
  | 29 => 35#32
  | 30 => 36#32
  | 31 => 37#32
  | 32 => 38#32
  | 33 => 39#32
  | 34 => 40#32
  | 35 => 41#32
  | 36 => 42#32
  | 37 => 43#32
  | 38 => 44#32
  | 39 => 45#32
  | 40 => 46#32
  | 41 => 47#32
  | 42 => 48#32
  | 43 => 49#32
  | 44 => 50#32
  | 45 => 51#32
  | 46 => 52#32
  | 47 => 53#32
  | 48 => 54#32
  | 49 => 55#32
  | 50 => 56#32
  | 51 => 57#32
  | 52 => 58#32
  | 53 => 59#32
  | 54 => 60#32
  | 55 => 61#32
  | 56 => 62#32
  | 57 => 63#32
  | 58 => 4#32
  | 59 => 5#32
  | 60 => 6#32
  | 61 => 7#32
  | 62 => 8#32
  | 63 => 9#32
  | 64 => 10#32
  | 65 => 11#32
  | 66 => 12#32
  | 67 => 13#32
  | 68 => 14#32
  | 69 => 15#32
  | 70 => 16#32
  | 71 => 17#32
  | 72 => 18#32
  | 73 => 19#32
  | 74 => 20#32
  | 75 => 21#32
  | 76 => 22#32
  | 77 => 23#32
  | 78 => 24#32
  | 79 => 25#32
  | 80 => 26#32
  | 81 => 27#32
  | 82 => 28#32
  | 83 => 29#32
  | 84 => 30#32
  | 85 => 31#32
  | 86 => 32#32
  | 87 => 33#32
  | 88 => 34#32
  | 89 => 35#32
  | 90 => 36#32
  | 91 => 37#32
  | 92 => 38#32
  | 93 => 39#32
  | 94 => 40#32
  | 95 => 41#32
  | 96 => 42#32
  | 97 => 43#32
  | 98 => 44#32
  | 99 => 45#32
  | 100 => 46#32
  | 101 => 47#32
  | 102 => 48#32
  | 103 => 49#32
  | 104 => 50#32
  | 105 => 51#32
  | 106 => 52#32
  | 107 => 53#32
  | 108 => 54#32
  | 109 => 55#32
  | 110 => 56#32
  | 111 => 57#32
  | 112 => 58#32
  | 113 => 59#32
  | 114 => 60#32
  | 115 => 61#32
  | 116 => 62#32
  | 117 => 63#32
  | 118 => 5#32
  | 119 => 6#32
  | 120 => 7#32
  | 121 => 8#32
  | 122 => 9#32
  | 123 => 10#32
  | 124 => 11#32
  | 125 => 12#32
  | 126 => 13#32
  | 127 => 14#32
  | _ => 0#32

noncomputable abbrev lit1t0_2 (i : Nat) : BitVec 32 := match i % 128 with
  | 0 => 15#32
  | 1 => 16#32
  | 2 => 17#32
  | 3 => 18#32
  | 4 => 19#32
  | 5 => 20#32
  | 6 => 21#32
  | 7 => 22#32
  | 8 => 23#32
  | 9 => 24#32
  | 10 => 25#32
  | 11 => 26#32
  | 12 => 27#32
  | 13 => 28#32
  | 14 => 29#32
  | 15 => 30#32
  | 16 => 31#32
  | 17 => 32#32
  | 18 => 33#32
  | 19 => 34#32
  | 20 => 35#32
  | 21 => 36#32
  | 22 => 37#32
  | 23 => 38#32
  | 24 => 39#32
  | 25 => 40#32
  | 26 => 41#32
  | 27 => 42#32
  | 28 => 43#32
  | 29 => 44#32
  | 30 => 45#32
  | 31 => 46#32
  | 32 => 47#32
  | 33 => 48#32
  | 34 => 49#32
  | 35 => 50#32
  | 36 => 51#32
  | 37 => 52#32
  | 38 => 53#32
  | 39 => 54#32
  | 40 => 55#32
  | 41 => 56#32
  | 42 => 57#32
  | 43 => 58#32
  | 44 => 59#32
  | 45 => 60#32
  | 46 => 61#32
  | 47 => 62#32
  | 48 => 63#32
  | 49 => 6#32
  | 50 => 7#32
  | 51 => 8#32
  | 52 => 9#32
  | 53 => 10#32
  | 54 => 11#32
  | 55 => 12#32
  | 56 => 13#32
  | 57 => 14#32
  | 58 => 15#32
  | 59 => 16#32
  | 60 => 17#32
  | 61 => 18#32
  | 62 => 19#32
  | 63 => 20#32
  | 64 => 21#32
  | 65 => 22#32
  | 66 => 23#32
  | 67 => 24#32
  | 68 => 25#32
  | 69 => 26#32
  | 70 => 27#32
  | 71 => 28#32
  | 72 => 29#32
  | 73 => 30#32
  | 74 => 31#32
  | 75 => 32#32
  | 76 => 33#32
  | 77 => 34#32
  | 78 => 35#32
  | 79 => 36#32
  | 80 => 37#32
  | 81 => 38#32
  | 82 => 39#32
  | 83 => 40#32
  | 84 => 41#32
  | 85 => 42#32
  | 86 => 43#32
  | 87 => 44#32
  | 88 => 45#32
  | 89 => 46#32
  | 90 => 47#32
  | 91 => 48#32
  | 92 => 49#32
  | 93 => 50#32
  | 94 => 51#32
  | 95 => 52#32
  | 96 => 53#32
  | 97 => 54#32
  | 98 => 55#32
  | 99 => 56#32
  | 100 => 57#32
  | 101 => 58#32
  | 102 => 59#32
  | 103 => 60#32
  | 104 => 61#32
  | 105 => 62#32
  | 106 => 63#32
  | 107 => 7#32
  | 108 => 8#32
  | 109 => 9#32
  | 110 => 10#32
  | 111 => 11#32
  | 112 => 12#32
  | 113 => 13#32
  | 114 => 14#32
  | 115 => 15#32
  | 116 => 16#32
  | 117 => 17#32
  | 118 => 18#32
  | 119 => 19#32
  | 120 => 20#32
  | 121 => 21#32
  | 122 => 22#32
  | 123 => 23#32
  | 124 => 24#32
  | 125 => 25#32
  | 126 => 26#32
  | 127 => 27#32
  | _ => 0#32

noncomputable abbrev lit1t0_3 (i : Nat) : BitVec 32 := match i % 128 with
  | 0 => 28#32
  | 1 => 29#32
  | 2 => 30#32
  | 3 => 31#32
  | 4 => 32#32
  | 5 => 33#32
  | 6 => 34#32
  | 7 => 35#32
  | 8 => 36#32
  | 9 => 37#32
  | 10 => 38#32
  | 11 => 39#32
  | 12 => 40#32
  | 13 => 41#32
  | 14 => 42#32
  | 15 => 43#32
  | 16 => 44#32
  | 17 => 45#32
  | 18 => 46#32
  | 19 => 47#32
  | 20 => 48#32
  | 21 => 49#32
  | 22 => 50#32
  | 23 => 51#32
  | 24 => 52#32
  | 25 => 53#32
  | 26 => 54#32
  | 27 => 55#32
  | 28 => 56#32
  | 29 => 57#32
  | 30 => 58#32
  | 31 => 59#32
  | 32 => 60#32
  | 33 => 61#32
  | 34 => 62#32
  | 35 => 63#32
  | 36 => 8#32
  | 37 => 9#32
  | 38 => 10#32
  | 39 => 11#32
  | 40 => 12#32
  | 41 => 13#32
  | 42 => 14#32
  | 43 => 15#32
  | 44 => 16#32
  | 45 => 17#32
  | 46 => 18#32
  | 47 => 19#32
  | 48 => 20#32
  | 49 => 21#32
  | 50 => 22#32
  | 51 => 23#32
  | 52 => 24#32
  | 53 => 25#32
  | 54 => 26#32
  | 55 => 27#32
  | 56 => 28#32
  | 57 => 29#32
  | 58 => 30#32
  | 59 => 31#32
  | 60 => 32#32
  | 61 => 33#32
  | 62 => 34#32
  | 63 => 35#32
  | 64 => 36#32
  | 65 => 37#32
  | 66 => 38#32
  | 67 => 39#32
  | 68 => 40#32
  | 69 => 41#32
  | 70 => 42#32
  | 71 => 43#32
  | 72 => 44#32
  | 73 => 45#32
  | 74 => 46#32
  | 75 => 47#32
  | 76 => 48#32
  | 77 => 49#32
  | 78 => 50#32
  | 79 => 51#32
  | 80 => 52#32
  | 81 => 53#32
  | 82 => 54#32
  | 83 => 55#32
  | 84 => 56#32
  | 85 => 57#32
  | 86 => 58#32
  | 87 => 59#32
  | 88 => 60#32
  | 89 => 61#32
  | 90 => 62#32
  | 91 => 63#32
  | 92 => 9#32
  | 93 => 10#32
  | 94 => 11#32
  | 95 => 12#32
  | 96 => 13#32
  | 97 => 14#32
  | 98 => 15#32
  | 99 => 16#32
  | 100 => 17#32
  | 101 => 18#32
  | 102 => 19#32
  | 103 => 20#32
  | 104 => 21#32
  | 105 => 22#32
  | 106 => 23#32
  | 107 => 24#32
  | 108 => 25#32
  | 109 => 26#32
  | 110 => 27#32
  | 111 => 28#32
  | 112 => 29#32
  | 113 => 30#32
  | 114 => 31#32
  | 115 => 32#32
  | 116 => 33#32
  | 117 => 34#32
  | 118 => 35#32
  | 119 => 36#32
  | 120 => 37#32
  | 121 => 38#32
  | 122 => 39#32
  | 123 => 40#32
  | 124 => 41#32
  | 125 => 42#32
  | 126 => 43#32
  | 127 => 44#32
  | _ => 0#32

noncomputable abbrev lit1t0_4 (i : Nat) : BitVec 32 := match i % 128 with
  | 0 => 45#32
  | 1 => 46#32
  | 2 => 47#32
  | 3 => 48#32
  | 4 => 49#32
  | 5 => 50#32
  | 6 => 51#32
  | 7 => 52#32
  | 8 => 53#32
  | 9 => 54#32
  | 10 => 55#32
  | 11 => 56#32
  | 12 => 57#32
  | 13 => 58#32
  | 14 => 59#32
  | 15 => 60#32
  | 16 => 61#32
  | 17 => 62#32
  | 18 => 63#32
  | 19 => 10#32
  | 20 => 11#32
  | 21 => 12#32
  | 22 => 13#32
  | 23 => 14#32
  | 24 => 15#32
  | 25 => 16#32
  | 26 => 17#32
  | 27 => 18#32
  | 28 => 19#32
  | 29 => 20#32
  | 30 => 21#32
  | 31 => 22#32
  | 32 => 23#32
  | 33 => 24#32
  | 34 => 25#32
  | 35 => 26#32
  | 36 => 27#32
  | 37 => 28#32
  | 38 => 29#32
  | 39 => 30#32
  | 40 => 31#32
  | 41 => 32#32
  | 42 => 33#32
  | 43 => 34#32
  | 44 => 35#32
  | 45 => 36#32
  | 46 => 37#32
  | 47 => 38#32
  | 48 => 39#32
  | 49 => 40#32
  | 50 => 41#32
  | 51 => 42#32
  | 52 => 43#32
  | 53 => 44#32
  | 54 => 45#32
  | 55 => 46#32
  | 56 => 47#32
  | 57 => 48#32
  | 58 => 49#32
  | 59 => 50#32
  | 60 => 51#32
  | 61 => 52#32
  | 62 => 53#32
  | 63 => 54#32
  | 64 => 55#32
  | 65 => 56#32
  | 66 => 57#32
  | 67 => 58#32
  | 68 => 59#32
  | 69 => 60#32
  | 70 => 61#32
  | 71 => 62#32
  | 72 => 63#32
  | 73 => 11#32
  | 74 => 12#32
  | 75 => 13#32
  | 76 => 14#32
  | 77 => 15#32
  | 78 => 16#32
  | 79 => 17#32
  | 80 => 18#32
  | 81 => 19#32
  | 82 => 20#32
  | 83 => 21#32
  | 84 => 22#32
  | 85 => 23#32
  | 86 => 24#32
  | 87 => 25#32
  | 88 => 26#32
  | 89 => 27#32
  | 90 => 28#32
  | 91 => 29#32
  | 92 => 30#32
  | 93 => 31#32
  | 94 => 32#32
  | 95 => 33#32
  | 96 => 34#32
  | 97 => 35#32
  | 98 => 36#32
  | 99 => 37#32
  | 100 => 38#32
  | 101 => 39#32
  | 102 => 40#32
  | 103 => 41#32
  | 104 => 42#32
  | 105 => 43#32
  | 106 => 44#32
  | 107 => 45#32
  | 108 => 46#32
  | 109 => 47#32
  | 110 => 48#32
  | 111 => 49#32
  | 112 => 50#32
  | 113 => 51#32
  | 114 => 52#32
  | 115 => 53#32
  | 116 => 54#32
  | 117 => 55#32
  | 118 => 56#32
  | 119 => 57#32
  | 120 => 58#32
  | 121 => 59#32
  | 122 => 60#32
  | 123 => 61#32
  | 124 => 62#32
  | 125 => 63#32
  | 126 => 12#32
  | 127 => 13#32
  | _ => 0#32

noncomputable abbrev lit1t0_5 (i : Nat) : BitVec 32 := match i % 128 with
  | 0 => 14#32
  | 1 => 15#32
  | 2 => 16#32
  | 3 => 17#32
  | 4 => 18#32
  | 5 => 19#32
  | 6 => 20#32
  | 7 => 21#32
  | 8 => 22#32
  | 9 => 23#32
  | 10 => 24#32
  | 11 => 25#32
  | 12 => 26#32
  | 13 => 27#32
  | 14 => 28#32
  | 15 => 29#32
  | 16 => 30#32
  | 17 => 31#32
  | 18 => 32#32
  | 19 => 33#32
  | 20 => 34#32
  | 21 => 35#32
  | 22 => 36#32
  | 23 => 37#32
  | 24 => 38#32
  | 25 => 39#32
  | 26 => 40#32
  | 27 => 41#32
  | 28 => 42#32
  | 29 => 43#32
  | 30 => 44#32
  | 31 => 45#32
  | 32 => 46#32
  | 33 => 47#32
  | 34 => 48#32
  | 35 => 49#32
  | 36 => 50#32
  | 37 => 51#32
  | 38 => 52#32
  | 39 => 53#32
  | 40 => 54#32
  | 41 => 55#32
  | 42 => 56#32
  | 43 => 57#32
  | 44 => 58#32
  | 45 => 59#32
  | 46 => 60#32
  | 47 => 61#32
  | 48 => 62#32
  | 49 => 63#32
  | 50 => 13#32
  | 51 => 14#32
  | 52 => 15#32
  | 53 => 16#32
  | 54 => 17#32
  | 55 => 18#32
  | 56 => 19#32
  | 57 => 20#32
  | 58 => 21#32
  | 59 => 22#32
  | 60 => 23#32
  | 61 => 24#32
  | 62 => 25#32
  | 63 => 26#32
  | 64 => 27#32
  | 65 => 28#32
  | 66 => 29#32
  | 67 => 30#32
  | 68 => 31#32
  | 69 => 32#32
  | 70 => 33#32
  | 71 => 34#32
  | 72 => 35#32
  | 73 => 36#32
  | 74 => 37#32
  | 75 => 38#32
  | 76 => 39#32
  | 77 => 40#32
  | 78 => 41#32
  | 79 => 42#32
  | 80 => 43#32
  | 81 => 44#32
  | 82 => 45#32
  | 83 => 46#32
  | 84 => 47#32
  | 85 => 48#32
  | 86 => 49#32
  | 87 => 50#32
  | 88 => 51#32
  | 89 => 52#32
  | 90 => 53#32
  | 91 => 54#32
  | 92 => 55#32
  | 93 => 56#32
  | 94 => 57#32
  | 95 => 58#32
  | 96 => 59#32
  | 97 => 60#32
  | 98 => 61#32
  | 99 => 62#32
  | 100 => 63#32
  | 101 => 14#32
  | 102 => 15#32
  | 103 => 16#32
  | 104 => 17#32
  | 105 => 18#32
  | 106 => 19#32
  | 107 => 20#32
  | 108 => 21#32
  | 109 => 22#32
  | 110 => 23#32
  | 111 => 24#32
  | 112 => 25#32
  | 113 => 26#32
  | 114 => 27#32
  | 115 => 28#32
  | 116 => 29#32
  | 117 => 30#32
  | 118 => 31#32
  | 119 => 32#32
  | 120 => 33#32
  | 121 => 34#32
  | 122 => 35#32
  | 123 => 36#32
  | 124 => 37#32
  | 125 => 38#32
  | 126 => 39#32
  | 127 => 40#32
  | _ => 0#32

noncomputable abbrev lit1t0_6 (i : Nat) : BitVec 32 := match i % 128 with
  | 0 => 41#32
  | 1 => 42#32
  | 2 => 43#32
  | 3 => 44#32
  | 4 => 45#32
  | 5 => 46#32
  | 6 => 47#32
  | 7 => 48#32
  | 8 => 49#32
  | 9 => 50#32
  | 10 => 51#32
  | 11 => 52#32
  | 12 => 53#32
  | 13 => 54#32
  | 14 => 55#32
  | 15 => 56#32
  | 16 => 57#32
  | 17 => 58#32
  | 18 => 59#32
  | 19 => 60#32
  | 20 => 61#32
  | 21 => 62#32
  | 22 => 63#32
  | 23 => 15#32
  | 24 => 16#32
  | 25 => 17#32
  | 26 => 18#32
  | 27 => 19#32
  | 28 => 20#32
  | 29 => 21#32
  | 30 => 22#32
  | 31 => 23#32
  | 32 => 24#32
  | 33 => 25#32
  | 34 => 26#32
  | 35 => 27#32
  | 36 => 28#32
  | 37 => 29#32
  | 38 => 30#32
  | 39 => 31#32
  | 40 => 32#32
  | 41 => 33#32
  | 42 => 34#32
  | 43 => 35#32
  | 44 => 36#32
  | 45 => 37#32
  | 46 => 38#32
  | 47 => 39#32
  | 48 => 40#32
  | 49 => 41#32
  | 50 => 42#32
  | 51 => 43#32
  | 52 => 44#32
  | 53 => 45#32
  | 54 => 46#32
  | 55 => 47#32
  | 56 => 48#32
  | 57 => 49#32
  | 58 => 50#32
  | 59 => 51#32
  | 60 => 52#32
  | 61 => 53#32
  | 62 => 54#32
  | 63 => 55#32
  | 64 => 56#32
  | 65 => 57#32
  | 66 => 58#32
  | 67 => 59#32
  | 68 => 60#32
  | 69 => 61#32
  | 70 => 62#32
  | 71 => 63#32
  | 72 => 16#32
  | 73 => 17#32
  | 74 => 18#32
  | 75 => 19#32
  | 76 => 20#32
  | 77 => 21#32
  | 78 => 22#32
  | 79 => 23#32
  | 80 => 24#32
  | 81 => 25#32
  | 82 => 26#32
  | 83 => 27#32
  | 84 => 28#32
  | 85 => 29#32
  | 86 => 30#32
  | 87 => 31#32
  | 88 => 32#32
  | 89 => 33#32
  | 90 => 34#32
  | 91 => 35#32
  | 92 => 36#32
  | 93 => 37#32
  | 94 => 38#32
  | 95 => 39#32
  | 96 => 40#32
  | 97 => 41#32
  | 98 => 42#32
  | 99 => 43#32
  | 100 => 44#32
  | 101 => 45#32
  | 102 => 46#32
  | 103 => 47#32
  | 104 => 48#32
  | 105 => 49#32
  | 106 => 50#32
  | 107 => 51#32
  | 108 => 52#32
  | 109 => 53#32
  | 110 => 54#32
  | 111 => 55#32
  | 112 => 56#32
  | 113 => 57#32
  | 114 => 58#32
  | 115 => 59#32
  | 116 => 60#32
  | 117 => 61#32
  | 118 => 62#32
  | 119 => 63#32
  | 120 => 17#32
  | 121 => 18#32
  | 122 => 19#32
  | 123 => 20#32
  | 124 => 21#32
  | 125 => 22#32
  | 126 => 23#32
  | 127 => 24#32
  | _ => 0#32

noncomputable abbrev lit1t0_7 (i : Nat) : BitVec 32 := match i % 128 with
  | 0 => 25#32
  | 1 => 26#32
  | 2 => 27#32
  | 3 => 28#32
  | 4 => 29#32
  | 5 => 30#32
  | 6 => 31#32
  | 7 => 32#32
  | 8 => 33#32
  | 9 => 34#32
  | 10 => 35#32
  | 11 => 36#32
  | 12 => 37#32
  | 13 => 38#32
  | 14 => 39#32
  | 15 => 40#32
  | 16 => 41#32
  | 17 => 42#32
  | 18 => 43#32
  | 19 => 44#32
  | 20 => 45#32
  | 21 => 46#32
  | 22 => 47#32
  | 23 => 48#32
  | 24 => 49#32
  | 25 => 50#32
  | 26 => 51#32
  | 27 => 52#32
  | 28 => 53#32
  | 29 => 54#32
  | 30 => 55#32
  | 31 => 56#32
  | 32 => 57#32
  | 33 => 58#32
  | 34 => 59#32
  | 35 => 60#32
  | 36 => 61#32
  | 37 => 62#32
  | 38 => 63#32
  | 39 => 18#32
  | 40 => 19#32
  | 41 => 20#32
  | 42 => 21#32
  | 43 => 22#32
  | 44 => 23#32
  | 45 => 24#32
  | 46 => 25#32
  | 47 => 26#32
  | 48 => 27#32
  | 49 => 28#32
  | 50 => 29#32
  | 51 => 30#32
  | 52 => 31#32
  | 53 => 32#32
  | 54 => 33#32
  | 55 => 34#32
  | 56 => 35#32
  | 57 => 36#32
  | 58 => 37#32
  | 59 => 38#32
  | 60 => 39#32
  | 61 => 40#32
  | 62 => 41#32
  | 63 => 42#32
  | 64 => 43#32
  | 65 => 44#32
  | 66 => 45#32
  | 67 => 46#32
  | 68 => 47#32
  | 69 => 48#32
  | 70 => 49#32
  | 71 => 50#32
  | 72 => 51#32
  | 73 => 52#32
  | 74 => 53#32
  | 75 => 54#32
  | 76 => 55#32
  | 77 => 56#32
  | 78 => 57#32
  | 79 => 58#32
  | 80 => 59#32
  | 81 => 60#32
  | 82 => 61#32
  | 83 => 62#32
  | 84 => 63#32
  | 85 => 19#32
  | 86 => 20#32
  | 87 => 21#32
  | 88 => 22#32
  | 89 => 23#32
  | 90 => 24#32
  | 91 => 25#32
  | 92 => 26#32
  | 93 => 27#32
  | 94 => 28#32
  | 95 => 29#32
  | 96 => 30#32
  | 97 => 31#32
  | 98 => 32#32
  | 99 => 33#32
  | 100 => 34#32
  | 101 => 35#32
  | 102 => 36#32
  | 103 => 37#32
  | 104 => 38#32
  | 105 => 39#32
  | 106 => 40#32
  | 107 => 41#32
  | 108 => 42#32
  | 109 => 43#32
  | 110 => 44#32
  | 111 => 45#32
  | 112 => 46#32
  | 113 => 47#32
  | 114 => 48#32
  | 115 => 49#32
  | 116 => 50#32
  | 117 => 51#32
  | 118 => 52#32
  | 119 => 53#32
  | 120 => 54#32
  | 121 => 55#32
  | 122 => 56#32
  | 123 => 57#32
  | 124 => 58#32
  | 125 => 59#32
  | 126 => 60#32
  | 127 => 61#32
  | _ => 0#32

noncomputable abbrev lit1t0_8 (i : Nat) : BitVec 32 := match i % 128 with
  | 0 => 62#32
  | 1 => 63#32
  | 2 => 20#32
  | 3 => 21#32
  | 4 => 22#32
  | 5 => 23#32
  | 6 => 24#32
  | 7 => 25#32
  | 8 => 26#32
  | 9 => 27#32
  | 10 => 28#32
  | 11 => 29#32
  | 12 => 30#32
  | 13 => 31#32
  | 14 => 32#32
  | 15 => 33#32
  | 16 => 34#32
  | 17 => 35#32
  | 18 => 36#32
  | 19 => 37#32
  | 20 => 38#32
  | 21 => 39#32
  | 22 => 40#32
  | 23 => 41#32
  | 24 => 42#32
  | 25 => 43#32
  | 26 => 44#32
  | 27 => 45#32
  | 28 => 46#32
  | 29 => 47#32
  | 30 => 48#32
  | 31 => 49#32
  | 32 => 50#32
  | 33 => 51#32
  | 34 => 52#32
  | 35 => 53#32
  | 36 => 54#32
  | 37 => 55#32
  | 38 => 56#32
  | 39 => 57#32
  | 40 => 58#32
  | 41 => 59#32
  | 42 => 60#32
  | 43 => 61#32
  | 44 => 62#32
  | 45 => 63#32
  | 46 => 21#32
  | 47 => 22#32
  | 48 => 23#32
  | 49 => 24#32
  | 50 => 25#32
  | 51 => 26#32
  | 52 => 27#32
  | 53 => 28#32
  | 54 => 29#32
  | 55 => 30#32
  | 56 => 31#32
  | 57 => 32#32
  | 58 => 33#32
  | 59 => 34#32
  | 60 => 35#32
  | 61 => 36#32
  | 62 => 37#32
  | 63 => 38#32
  | 64 => 39#32
  | 65 => 40#32
  | 66 => 41#32
  | 67 => 42#32
  | 68 => 43#32
  | 69 => 44#32
  | 70 => 45#32
  | 71 => 46#32
  | 72 => 47#32
  | 73 => 48#32
  | 74 => 49#32
  | 75 => 50#32
  | 76 => 51#32
  | 77 => 52#32
  | 78 => 53#32
  | 79 => 54#32
  | 80 => 55#32
  | 81 => 56#32
  | 82 => 57#32
  | 83 => 58#32
  | 84 => 59#32
  | 85 => 60#32
  | 86 => 61#32
  | 87 => 62#32
  | 88 => 63#32
  | 89 => 22#32
  | 90 => 23#32
  | 91 => 24#32
  | 92 => 25#32
  | 93 => 26#32
  | 94 => 27#32
  | 95 => 28#32
  | 96 => 29#32
  | 97 => 30#32
  | 98 => 31#32
  | 99 => 32#32
  | 100 => 33#32
  | 101 => 34#32
  | 102 => 35#32
  | 103 => 36#32
  | 104 => 37#32
  | 105 => 38#32
  | 106 => 39#32
  | 107 => 40#32
  | 108 => 41#32
  | 109 => 42#32
  | 110 => 43#32
  | 111 => 44#32
  | 112 => 45#32
  | 113 => 46#32
  | 114 => 47#32
  | 115 => 48#32
  | 116 => 49#32
  | 117 => 50#32
  | 118 => 51#32
  | 119 => 52#32
  | 120 => 53#32
  | 121 => 54#32
  | 122 => 55#32
  | 123 => 56#32
  | 124 => 57#32
  | 125 => 58#32
  | 126 => 59#32
  | 127 => 60#32
  | _ => 0#32

noncomputable abbrev lit1t0_9 (i : Nat) : BitVec 32 := match i % 128 with
  | 0 => 61#32
  | 1 => 62#32
  | 2 => 63#32
  | 3 => 23#32
  | 4 => 24#32
  | 5 => 25#32
  | 6 => 26#32
  | 7 => 27#32
  | 8 => 28#32
  | 9 => 29#32
  | 10 => 30#32
  | 11 => 31#32
  | 12 => 32#32
  | 13 => 33#32
  | 14 => 34#32
  | 15 => 35#32
  | 16 => 36#32
  | 17 => 37#32
  | 18 => 38#32
  | 19 => 39#32
  | 20 => 40#32
  | 21 => 41#32
  | 22 => 42#32
  | 23 => 43#32
  | 24 => 44#32
  | 25 => 45#32
  | 26 => 46#32
  | 27 => 47#32
  | 28 => 48#32
  | 29 => 49#32
  | 30 => 50#32
  | 31 => 51#32
  | 32 => 52#32
  | 33 => 53#32
  | 34 => 54#32
  | 35 => 55#32
  | 36 => 56#32
  | 37 => 57#32
  | 38 => 58#32
  | 39 => 59#32
  | 40 => 60#32
  | 41 => 61#32
  | 42 => 62#32
  | 43 => 63#32
  | 44 => 24#32
  | 45 => 25#32
  | 46 => 26#32
  | 47 => 27#32
  | 48 => 28#32
  | 49 => 29#32
  | 50 => 30#32
  | 51 => 31#32
  | 52 => 32#32
  | 53 => 33#32
  | 54 => 34#32
  | 55 => 35#32
  | 56 => 36#32
  | 57 => 37#32
  | 58 => 38#32
  | 59 => 39#32
  | 60 => 40#32
  | 61 => 41#32
  | 62 => 42#32
  | 63 => 43#32
  | 64 => 44#32
  | 65 => 45#32
  | 66 => 46#32
  | 67 => 47#32
  | 68 => 48#32
  | 69 => 49#32
  | 70 => 50#32
  | 71 => 51#32
  | 72 => 52#32
  | 73 => 53#32
  | 74 => 54#32
  | 75 => 55#32
  | 76 => 56#32
  | 77 => 57#32
  | 78 => 58#32
  | 79 => 59#32
  | 80 => 60#32
  | 81 => 61#32
  | 82 => 62#32
  | 83 => 63#32
  | 84 => 25#32
  | 85 => 26#32
  | 86 => 27#32
  | 87 => 28#32
  | 88 => 29#32
  | 89 => 30#32
  | 90 => 31#32
  | 91 => 32#32
  | 92 => 33#32
  | 93 => 34#32
  | 94 => 35#32
  | 95 => 36#32
  | 96 => 37#32
  | 97 => 38#32
  | 98 => 39#32
  | 99 => 40#32
  | 100 => 41#32
  | 101 => 42#32
  | 102 => 43#32
  | 103 => 44#32
  | 104 => 45#32
  | 105 => 46#32
  | 106 => 47#32
  | 107 => 48#32
  | 108 => 49#32
  | 109 => 50#32
  | 110 => 51#32
  | 111 => 52#32
  | 112 => 53#32
  | 113 => 54#32
  | 114 => 55#32
  | 115 => 56#32
  | 116 => 57#32
  | 117 => 58#32
  | 118 => 59#32
  | 119 => 60#32
  | 120 => 61#32
  | 121 => 62#32
  | 122 => 63#32
  | 123 => 26#32
  | 124 => 27#32
  | 125 => 28#32
  | 126 => 29#32
  | 127 => 30#32
  | _ => 0#32

noncomputable abbrev lit1t0_10 (i : Nat) : BitVec 32 := match i % 128 with
  | 0 => 31#32
  | 1 => 32#32
  | 2 => 33#32
  | 3 => 34#32
  | 4 => 35#32
  | 5 => 36#32
  | 6 => 37#32
  | 7 => 38#32
  | 8 => 39#32
  | 9 => 40#32
  | 10 => 41#32
  | 11 => 42#32
  | 12 => 43#32
  | 13 => 44#32
  | 14 => 45#32
  | 15 => 46#32
  | 16 => 47#32
  | 17 => 48#32
  | 18 => 49#32
  | 19 => 50#32
  | 20 => 51#32
  | 21 => 52#32
  | 22 => 53#32
  | 23 => 54#32
  | 24 => 55#32
  | 25 => 56#32
  | 26 => 57#32
  | 27 => 58#32
  | 28 => 59#32
  | 29 => 60#32
  | 30 => 61#32
  | 31 => 62#32
  | 32 => 63#32
  | 33 => 27#32
  | 34 => 28#32
  | 35 => 29#32
  | 36 => 30#32
  | 37 => 31#32
  | 38 => 32#32
  | 39 => 33#32
  | 40 => 34#32
  | 41 => 35#32
  | 42 => 36#32
  | 43 => 37#32
  | 44 => 38#32
  | 45 => 39#32
  | 46 => 40#32
  | 47 => 41#32
  | 48 => 42#32
  | 49 => 43#32
  | 50 => 44#32
  | 51 => 45#32
  | 52 => 46#32
  | 53 => 47#32
  | 54 => 48#32
  | 55 => 49#32
  | 56 => 50#32
  | 57 => 51#32
  | 58 => 52#32
  | 59 => 53#32
  | 60 => 54#32
  | 61 => 55#32
  | 62 => 56#32
  | 63 => 57#32
  | 64 => 58#32
  | 65 => 59#32
  | 66 => 60#32
  | 67 => 61#32
  | 68 => 62#32
  | 69 => 63#32
  | 70 => 28#32
  | 71 => 29#32
  | 72 => 30#32
  | 73 => 31#32
  | 74 => 32#32
  | 75 => 33#32
  | 76 => 34#32
  | 77 => 35#32
  | 78 => 36#32
  | 79 => 37#32
  | 80 => 38#32
  | 81 => 39#32
  | 82 => 40#32
  | 83 => 41#32
  | 84 => 42#32
  | 85 => 43#32
  | 86 => 44#32
  | 87 => 45#32
  | 88 => 46#32
  | 89 => 47#32
  | 90 => 48#32
  | 91 => 49#32
  | 92 => 50#32
  | 93 => 51#32
  | 94 => 52#32
  | 95 => 53#32
  | 96 => 54#32
  | 97 => 55#32
  | 98 => 56#32
  | 99 => 57#32
  | 100 => 58#32
  | 101 => 59#32
  | 102 => 60#32
  | 103 => 61#32
  | 104 => 62#32
  | 105 => 63#32
  | 106 => 29#32
  | 107 => 30#32
  | 108 => 31#32
  | 109 => 32#32
  | 110 => 33#32
  | 111 => 34#32
  | 112 => 35#32
  | 113 => 36#32
  | 114 => 37#32
  | 115 => 38#32
  | 116 => 39#32
  | 117 => 40#32
  | 118 => 41#32
  | 119 => 42#32
  | 120 => 43#32
  | 121 => 44#32
  | 122 => 45#32
  | 123 => 46#32
  | 124 => 47#32
  | 125 => 48#32
  | 126 => 49#32
  | 127 => 50#32
  | _ => 0#32

noncomputable abbrev lit1t0_11 (i : Nat) : BitVec 32 := match i % 128 with
  | 0 => 51#32
  | 1 => 52#32
  | 2 => 53#32
  | 3 => 54#32
  | 4 => 55#32
  | 5 => 56#32
  | 6 => 57#32
  | 7 => 58#32
  | 8 => 59#32
  | 9 => 60#32
  | 10 => 61#32
  | 11 => 62#32
  | 12 => 63#32
  | 13 => 30#32
  | 14 => 31#32
  | 15 => 32#32
  | 16 => 33#32
  | 17 => 34#32
  | 18 => 35#32
  | 19 => 36#32
  | 20 => 37#32
  | 21 => 38#32
  | 22 => 39#32
  | 23 => 40#32
  | 24 => 41#32
  | 25 => 42#32
  | 26 => 43#32
  | 27 => 44#32
  | 28 => 45#32
  | 29 => 46#32
  | 30 => 47#32
  | 31 => 48#32
  | 32 => 49#32
  | 33 => 50#32
  | 34 => 51#32
  | 35 => 52#32
  | 36 => 53#32
  | 37 => 54#32
  | 38 => 55#32
  | 39 => 56#32
  | 40 => 57#32
  | 41 => 58#32
  | 42 => 59#32
  | 43 => 60#32
  | 44 => 61#32
  | 45 => 62#32
  | 46 => 63#32
  | 47 => 31#32
  | 48 => 32#32
  | 49 => 33#32
  | 50 => 34#32
  | 51 => 35#32
  | 52 => 36#32
  | 53 => 37#32
  | 54 => 38#32
  | 55 => 39#32
  | 56 => 40#32
  | 57 => 41#32
  | 58 => 42#32
  | 59 => 43#32
  | 60 => 44#32
  | 61 => 45#32
  | 62 => 46#32
  | 63 => 47#32
  | 64 => 48#32
  | 65 => 49#32
  | 66 => 50#32
  | 67 => 51#32
  | 68 => 52#32
  | 69 => 53#32
  | 70 => 54#32
  | 71 => 55#32
  | 72 => 56#32
  | 73 => 57#32
  | 74 => 58#32
  | 75 => 59#32
  | 76 => 60#32
  | 77 => 61#32
  | 78 => 62#32
  | 79 => 63#32
  | 80 => 32#32
  | 81 => 33#32
  | 82 => 34#32
  | 83 => 35#32
  | 84 => 36#32
  | 85 => 37#32
  | 86 => 38#32
  | 87 => 39#32
  | 88 => 40#32
  | 89 => 41#32
  | 90 => 42#32
  | 91 => 43#32
  | 92 => 44#32
  | 93 => 45#32
  | 94 => 46#32
  | 95 => 47#32
  | 96 => 48#32
  | 97 => 49#32
  | 98 => 50#32
  | 99 => 51#32
  | 100 => 52#32
  | 101 => 53#32
  | 102 => 54#32
  | 103 => 55#32
  | 104 => 56#32
  | 105 => 57#32
  | 106 => 58#32
  | 107 => 59#32
  | 108 => 60#32
  | 109 => 61#32
  | 110 => 62#32
  | 111 => 63#32
  | 112 => 33#32
  | 113 => 34#32
  | 114 => 35#32
  | 115 => 36#32
  | 116 => 37#32
  | 117 => 38#32
  | 118 => 39#32
  | 119 => 40#32
  | 120 => 41#32
  | 121 => 42#32
  | 122 => 43#32
  | 123 => 44#32
  | 124 => 45#32
  | 125 => 46#32
  | 126 => 47#32
  | 127 => 48#32
  | _ => 0#32

noncomputable abbrev lit1t0_12 (i : Nat) : BitVec 32 := match i % 128 with
  | 0 => 49#32
  | 1 => 50#32
  | 2 => 51#32
  | 3 => 52#32
  | 4 => 53#32
  | 5 => 54#32
  | 6 => 55#32
  | 7 => 56#32
  | 8 => 57#32
  | 9 => 58#32
  | 10 => 59#32
  | 11 => 60#32
  | 12 => 61#32
  | 13 => 62#32
  | 14 => 63#32
  | 15 => 34#32
  | 16 => 35#32
  | 17 => 36#32
  | 18 => 37#32
  | 19 => 38#32
  | 20 => 39#32
  | 21 => 40#32
  | 22 => 41#32
  | 23 => 42#32
  | 24 => 43#32
  | 25 => 44#32
  | 26 => 45#32
  | 27 => 46#32
  | 28 => 47#32
  | 29 => 48#32
  | 30 => 49#32
  | 31 => 50#32
  | 32 => 51#32
  | 33 => 52#32
  | 34 => 53#32
  | 35 => 54#32
  | 36 => 55#32
  | 37 => 56#32
  | 38 => 57#32
  | 39 => 58#32
  | 40 => 59#32
  | 41 => 60#32
  | 42 => 61#32
  | 43 => 62#32
  | 44 => 63#32
  | 45 => 35#32
  | 46 => 36#32
  | 47 => 37#32
  | 48 => 38#32
  | 49 => 39#32
  | 50 => 40#32
  | 51 => 41#32
  | 52 => 42#32
  | 53 => 43#32
  | 54 => 44#32
  | 55 => 45#32
  | 56 => 46#32
  | 57 => 47#32
  | 58 => 48#32
  | 59 => 49#32
  | 60 => 50#32
  | 61 => 51#32
  | 62 => 52#32
  | 63 => 53#32
  | 64 => 54#32
  | 65 => 55#32
  | 66 => 56#32
  | 67 => 57#32
  | 68 => 58#32
  | 69 => 59#32
  | 70 => 60#32
  | 71 => 61#32
  | 72 => 62#32
  | 73 => 63#32
  | 74 => 36#32
  | 75 => 37#32
  | 76 => 38#32
  | 77 => 39#32
  | 78 => 40#32
  | 79 => 41#32
  | 80 => 42#32
  | 81 => 43#32
  | 82 => 44#32
  | 83 => 45#32
  | 84 => 46#32
  | 85 => 47#32
  | 86 => 48#32
  | 87 => 49#32
  | 88 => 50#32
  | 89 => 51#32
  | 90 => 52#32
  | 91 => 53#32
  | 92 => 54#32
  | 93 => 55#32
  | 94 => 56#32
  | 95 => 57#32
  | 96 => 58#32
  | 97 => 59#32
  | 98 => 60#32
  | 99 => 61#32
  | 100 => 62#32
  | 101 => 63#32
  | 102 => 37#32
  | 103 => 38#32
  | 104 => 39#32
  | 105 => 40#32
  | 106 => 41#32
  | 107 => 42#32
  | 108 => 43#32
  | 109 => 44#32
  | 110 => 45#32
  | 111 => 46#32
  | 112 => 47#32
  | 113 => 48#32
  | 114 => 49#32
  | 115 => 50#32
  | 116 => 51#32
  | 117 => 52#32
  | 118 => 53#32
  | 119 => 54#32
  | 120 => 55#32
  | 121 => 56#32
  | 122 => 57#32
  | 123 => 58#32
  | 124 => 59#32
  | 125 => 60#32
  | 126 => 61#32
  | 127 => 62#32
  | _ => 0#32

noncomputable abbrev lit1t0_13 (i : Nat) : BitVec 32 := match i % 128 with
  | 0 => 63#32
  | 1 => 38#32
  | 2 => 39#32
  | 3 => 40#32
  | 4 => 41#32
  | 5 => 42#32
  | 6 => 43#32
  | 7 => 44#32
  | 8 => 45#32
  | 9 => 46#32
  | 10 => 47#32
  | 11 => 48#32
  | 12 => 49#32
  | 13 => 50#32
  | 14 => 51#32
  | 15 => 52#32
  | 16 => 53#32
  | 17 => 54#32
  | 18 => 55#32
  | 19 => 56#32
  | 20 => 57#32
  | 21 => 58#32
  | 22 => 59#32
  | 23 => 60#32
  | 24 => 61#32
  | 25 => 62#32
  | 26 => 63#32
  | 27 => 39#32
  | 28 => 40#32
  | 29 => 41#32
  | 30 => 42#32
  | 31 => 43#32
  | 32 => 44#32
  | 33 => 45#32
  | 34 => 46#32
  | 35 => 47#32
  | 36 => 48#32
  | 37 => 49#32
  | 38 => 50#32
  | 39 => 51#32
  | 40 => 52#32
  | 41 => 53#32
  | 42 => 54#32
  | 43 => 55#32
  | 44 => 56#32
  | 45 => 57#32
  | 46 => 58#32
  | 47 => 59#32
  | 48 => 60#32
  | 49 => 61#32
  | 50 => 62#32
  | 51 => 63#32
  | 52 => 40#32
  | 53 => 41#32
  | 54 => 42#32
  | 55 => 43#32
  | 56 => 44#32
  | 57 => 45#32
  | 58 => 46#32
  | 59 => 47#32
  | 60 => 48#32
  | 61 => 49#32
  | 62 => 50#32
  | 63 => 51#32
  | 64 => 52#32
  | 65 => 53#32
  | 66 => 54#32
  | 67 => 55#32
  | 68 => 56#32
  | 69 => 57#32
  | 70 => 58#32
  | 71 => 59#32
  | 72 => 60#32
  | 73 => 61#32
  | 74 => 62#32
  | 75 => 63#32
  | 76 => 41#32
  | 77 => 42#32
  | 78 => 43#32
  | 79 => 44#32
  | 80 => 45#32
  | 81 => 46#32
  | 82 => 47#32
  | 83 => 48#32
  | 84 => 49#32
  | 85 => 50#32
  | 86 => 51#32
  | 87 => 52#32
  | 88 => 53#32
  | 89 => 54#32
  | 90 => 55#32
  | 91 => 56#32
  | 92 => 57#32
  | 93 => 58#32
  | 94 => 59#32
  | 95 => 60#32
  | 96 => 61#32
  | 97 => 62#32
  | 98 => 63#32
  | 99 => 42#32
  | 100 => 43#32
  | 101 => 44#32
  | 102 => 45#32
  | 103 => 46#32
  | 104 => 47#32
  | 105 => 48#32
  | 106 => 49#32
  | 107 => 50#32
  | 108 => 51#32
  | 109 => 52#32
  | 110 => 53#32
  | 111 => 54#32
  | 112 => 55#32
  | 113 => 56#32
  | 114 => 57#32
  | 115 => 58#32
  | 116 => 59#32
  | 117 => 60#32
  | 118 => 61#32
  | 119 => 62#32
  | 120 => 63#32
  | 121 => 43#32
  | 122 => 44#32
  | 123 => 45#32
  | 124 => 46#32
  | 125 => 47#32
  | 126 => 48#32
  | 127 => 49#32
  | _ => 0#32

noncomputable abbrev lit1t0_14 (i : Nat) : BitVec 32 := match i % 128 with
  | 0 => 50#32
  | 1 => 51#32
  | 2 => 52#32
  | 3 => 53#32
  | 4 => 54#32
  | 5 => 55#32
  | 6 => 56#32
  | 7 => 57#32
  | 8 => 58#32
  | 9 => 59#32
  | 10 => 60#32
  | 11 => 61#32
  | 12 => 62#32
  | 13 => 63#32
  | 14 => 44#32
  | 15 => 45#32
  | 16 => 46#32
  | 17 => 47#32
  | 18 => 48#32
  | 19 => 49#32
  | 20 => 50#32
  | 21 => 51#32
  | 22 => 52#32
  | 23 => 53#32
  | 24 => 54#32
  | 25 => 55#32
  | 26 => 56#32
  | 27 => 57#32
  | 28 => 58#32
  | 29 => 59#32
  | 30 => 60#32
  | 31 => 61#32
  | 32 => 62#32
  | 33 => 63#32
  | 34 => 45#32
  | 35 => 46#32
  | 36 => 47#32
  | 37 => 48#32
  | 38 => 49#32
  | 39 => 50#32
  | 40 => 51#32
  | 41 => 52#32
  | 42 => 53#32
  | 43 => 54#32
  | 44 => 55#32
  | 45 => 56#32
  | 46 => 57#32
  | 47 => 58#32
  | 48 => 59#32
  | 49 => 60#32
  | 50 => 61#32
  | 51 => 62#32
  | 52 => 63#32
  | 53 => 46#32
  | 54 => 47#32
  | 55 => 48#32
  | 56 => 49#32
  | 57 => 50#32
  | 58 => 51#32
  | 59 => 52#32
  | 60 => 53#32
  | 61 => 54#32
  | 62 => 55#32
  | 63 => 56#32
  | 64 => 57#32
  | 65 => 58#32
  | 66 => 59#32
  | 67 => 60#32
  | 68 => 61#32
  | 69 => 62#32
  | 70 => 63#32
  | 71 => 47#32
  | 72 => 48#32
  | 73 => 49#32
  | 74 => 50#32
  | 75 => 51#32
  | 76 => 52#32
  | 77 => 53#32
  | 78 => 54#32
  | 79 => 55#32
  | 80 => 56#32
  | 81 => 57#32
  | 82 => 58#32
  | 83 => 59#32
  | 84 => 60#32
  | 85 => 61#32
  | 86 => 62#32
  | 87 => 63#32
  | 88 => 48#32
  | 89 => 49#32
  | 90 => 50#32
  | 91 => 51#32
  | 92 => 52#32
  | 93 => 53#32
  | 94 => 54#32
  | 95 => 55#32
  | 96 => 56#32
  | 97 => 57#32
  | 98 => 58#32
  | 99 => 59#32
  | 100 => 60#32
  | 101 => 61#32
  | 102 => 62#32
  | 103 => 63#32
  | 104 => 49#32
  | 105 => 50#32
  | 106 => 51#32
  | 107 => 52#32
  | 108 => 53#32
  | 109 => 54#32
  | 110 => 55#32
  | 111 => 56#32
  | 112 => 57#32
  | 113 => 58#32
  | 114 => 59#32
  | 115 => 60#32
  | 116 => 61#32
  | 117 => 62#32
  | 118 => 63#32
  | 119 => 50#32
  | 120 => 51#32
  | 121 => 52#32
  | 122 => 53#32
  | 123 => 54#32
  | 124 => 55#32
  | 125 => 56#32
  | 126 => 57#32
  | 127 => 58#32
  | _ => 0#32

noncomputable abbrev lit1t0_15 (i : Nat) : BitVec 32 := match i % 128 with
  | 0 => 59#32
  | 1 => 60#32
  | 2 => 61#32
  | 3 => 62#32
  | 4 => 63#32
  | 5 => 51#32
  | 6 => 52#32
  | 7 => 53#32
  | 8 => 54#32
  | 9 => 55#32
  | 10 => 56#32
  | 11 => 57#32
  | 12 => 58#32
  | 13 => 59#32
  | 14 => 60#32
  | 15 => 61#32
  | 16 => 62#32
  | 17 => 63#32
  | 18 => 52#32
  | 19 => 53#32
  | 20 => 54#32
  | 21 => 55#32
  | 22 => 56#32
  | 23 => 57#32
  | 24 => 58#32
  | 25 => 59#32
  | 26 => 60#32
  | 27 => 61#32
  | 28 => 62#32
  | 29 => 63#32
  | 30 => 53#32
  | 31 => 54#32
  | 32 => 55#32
  | 33 => 56#32
  | 34 => 57#32
  | 35 => 58#32
  | 36 => 59#32
  | 37 => 60#32
  | 38 => 61#32
  | 39 => 62#32
  | 40 => 63#32
  | 41 => 54#32
  | 42 => 55#32
  | 43 => 56#32
  | 44 => 57#32
  | 45 => 58#32
  | 46 => 59#32
  | 47 => 60#32
  | 48 => 61#32
  | 49 => 62#32
  | 50 => 63#32
  | 51 => 55#32
  | 52 => 56#32
  | 53 => 57#32
  | 54 => 58#32
  | 55 => 59#32
  | 56 => 60#32
  | 57 => 61#32
  | 58 => 62#32
  | 59 => 63#32
  | 60 => 56#32
  | 61 => 57#32
  | 62 => 58#32
  | 63 => 59#32
  | 64 => 60#32
  | 65 => 61#32
  | 66 => 62#32
  | 67 => 63#32
  | 68 => 57#32
  | 69 => 58#32
  | 70 => 59#32
  | 71 => 60#32
  | 72 => 61#32
  | 73 => 62#32
  | 74 => 63#32
  | 75 => 58#32
  | 76 => 59#32
  | 77 => 60#32
  | 78 => 61#32
  | 79 => 62#32
  | 80 => 63#32
  | 81 => 59#32
  | 82 => 60#32
  | 83 => 61#32
  | 84 => 62#32
  | 85 => 63#32
  | 86 => 60#32
  | 87 => 61#32
  | 88 => 62#32
  | 89 => 63#32
  | 90 => 61#32
  | 91 => 62#32
  | 92 => 63#32
  | 93 => 62#32
  | 94 => 63#32
  | 95 => 63#32
  | _ => 0#32

noncomputable abbrev lit1t (i : Nat) : BitVec 32 := match i / 128 with
  | 0 => lit1t0_0 i
  | 1 => lit1t0_1 i
  | 2 => lit1t0_2 i
  | 3 => lit1t0_3 i
  | 4 => lit1t0_4 i
  | 5 => lit1t0_5 i
  | 6 => lit1t0_6 i
  | 7 => lit1t0_7 i
  | 8 => lit1t0_8 i
  | 9 => lit1t0_9 i
  | 10 => lit1t0_10 i
  | 11 => lit1t0_11 i
  | 12 => lit1t0_12 i
  | 13 => lit1t0_13 i
  | 14 => lit1t0_14 i
  | 15 => lit1t0_15 i
  | _ => 0#32

noncomputable abbrev lit1 : Fin 2016 → BitVec 32 := fun ⟨i, _⟩ => lit1t i

def fn_part1 {F : FTy → Type} [FloatOps F] (main_arg3 : FVec F S2016x64 .f32) (main_v13 : IVec S_ 1) (main_v18 : FVec F S2016x64 .f32) : IVec S_ 1 :=
  let main_v19 : IVec S2016x64 1 := cmpf .oeq main_arg3 main_v18
  let main_c_3 : IVec S_ 1 := constantI S_ 1 1#1
  let main_v20 : IVec S_ 1 := (fun x v => Host.reduce IntOp.andi x v reducesTo_S2016x64_S_d0_1 h_S_) main_v19 main_c_3
  let main_v21 : IVec S_ 1 := andi main_v13 main_v20
  main_v21

def fn {F : FTy → Type} [FloatOps F] (main_arg0 : FVec F S2x1x128x128 .f32) (main_arg1 : FVec F S2x1x2x128x128 .f32) (main_arg2 : FVec F S2016x64 .f32) (main_arg3 : FVec F S2016x64 .f32) : IVec S_ 1 :=
  let main_c : IVec S2016 32 := fun i => lit0 (S2016.rowMajor i)
  let main_c_0 : IVec S2016 32 := fun i => lit1 (S2016.rowMajor i)
  let main_v0 : IVec S2016x1 32 := broadcastInDim S2016x1 ![0] bcast_S2016_S2016x1_0 main_c
  let main_v1 : IVec S2016x1 32 := broadcastInDim S2016x1 ![0] bcast_S2016_S2016x1_0 main_c_0
  let main_v2 : IVec S64 32 := iotaInDim S64 32 0
  let main_cst : FVec F S_ .f32 := constant S_ .f32 0xFF800000#32
  let main_v3 : FVec F S2x1x128x128 .f32 := broadcastInDim S2x1x128x128 ![] bcast_S_S2x1x128x128 main_cst
  let main_v4 : IVec S2x1x128x128 1 := cmpf .ogt main_arg0 main_v3
  let main_c_1 : IVec S_ 1 := constantI S_ 1 1#1
  let main_v5 : IVec S_ 1 := (fun x v => Host.reduce IntOp.andi x v reducesTo_S2x1x128x128_S_d0_1_2_3 h_S_) main_v4 main_c_1
  let main_v6 : IVec S1x64 32 := broadcastInDim S1x64 ![1] bcast_S64_S1x64_1 main_v2
  let main_v7 : IVec S2016x64 32 := broadcastInDim S2016x64 ![0, 1] bcast_S2016x1_S2016x64_0_1 main_v0
  let main_v8 : IVec S2016x64 32 := broadcastInDim S2016x64 ![0, 1] bcast_S1x64_S2016x64_0_1 main_v6
  let main_v9 : IVec S2016x64 1 := cmpi .eq main_v7 main_v8
  let main_v10 : FVec F S2016x64 .f32 := uitofp .f32 main_v9
  let main_v11 : IVec S2016x64 1 := cmpf .oeq main_arg2 main_v10
  let main_c_2 : IVec S_ 1 := constantI S_ 1 1#1
  let main_v12 : IVec S_ 1 := (fun x v => Host.reduce IntOp.andi x v reducesTo_S2016x64_S_d0_1 h_S_) main_v11 main_c_2
  let main_v13 : IVec S_ 1 := andi main_v5 main_v12
  let main_v14 : IVec S1x64 32 := broadcastInDim S1x64 ![1] bcast_S64_S1x64_1 main_v2
  let main_v15 : IVec S2016x64 32 := broadcastInDim S2016x64 ![0, 1] bcast_S2016x1_S2016x64_0_1 main_v1
  let main_v16 : IVec S2016x64 32 := broadcastInDim S2016x64 ![0, 1] bcast_S1x64_S2016x64_0_1 main_v14
  let main_v17 : IVec S2016x64 1 := cmpi .eq main_v15 main_v16
  let main_v18 : FVec F S2016x64 .f32 := uitofp .f32 main_v17
  fn_part1 (F := F) main_arg3 main_v13 main_v18
-- ==== Kernel.lean ====
abbrev S2x128x128x128 : Shape := ⟨4, ![2, 128, 128, 128]⟩
abbrev S2x2016x128 : Shape := ⟨3, ![2, 2016, 128]⟩
abbrev S2x2016x8 : Shape := ⟨3, ![2, 2016, 8]⟩
abbrev S1032x1024 : Shape := ⟨2, ![1032, 1024]⟩
abbrev S1024 : Shape := ⟨1, ![1024]⟩
abbrev S1024x1024 : Shape := ⟨2, ![1024, 1024]⟩
abbrev S1024x1 : Shape := ⟨2, ![1024, 1]⟩
abbrev S1 : Shape := ⟨1, ![1]⟩
abbrev S32768x128 : Shape := ⟨2, ![32768, 128]⟩
abbrev S4032x128 : Shape := ⟨2, ![4032, 128]⟩
abbrev S4032x1024 : Shape := ⟨2, ![4032, 1024]⟩
abbrev S128 : Shape := ⟨1, ![128]⟩
abbrev S128x128 : Shape := ⟨2, ![128, 128]⟩
abbrev S_ : Shape := ⟨0, ![]⟩
abbrev S1x128 : Shape := ⟨2, ![1, 128]⟩
abbrev S16 : Shape := ⟨1, ![16]⟩
abbrev S1x16 : Shape := ⟨2, ![1, 16]⟩
abbrev S1x1024 : Shape := ⟨2, ![1, 1024]⟩
abbrev S128x8x1024 : Shape := ⟨3, ![128, 8, 1024]⟩
abbrev S8x128x1024 : Shape := ⟨3, ![8, 128, 1024]⟩
abbrev S8x1024 : Shape := ⟨2, ![8, 1024]⟩
abbrev S4032x8 : Shape := ⟨2, ![4032, 8]⟩
abbrev S1x1 : Shape := ⟨2, ![1, 1]⟩
abbrev S504x1024 : Shape := ⟨2, ![504, 1024]⟩
abbrev S504x8 : Shape := ⟨2, ![504, 8]⟩
abbrev S504x128 : Shape := ⟨2, ![504, 128]⟩
abbrev S504 : Shape := ⟨1, ![504]⟩
abbrev S504x1 : Shape := ⟨2, ![504, 1]⟩
abbrev S4032x1 : Shape := ⟨2, ![4032, 1]⟩
abbrev S4032 : Shape := ⟨1, ![4032]⟩
abbrev S2x2016 : Shape := ⟨2, ![2, 2016]⟩

abbrev nBuf : Table → Nat
  | .hbm => 29
  | .local .tc .vmem => 13
  | .local .scVector .vmem => 4
  | _ => 0

abbrev bufTy : (tb : Table) → Fin (nBuf tb) → BufTy
  | .hbm, ⟨0, _⟩ => ⟨S2x128x128x128, .f32⟩
  | .hbm, ⟨1, _⟩ => ⟨S2x2016x128, .i32⟩
  | .hbm, ⟨2, _⟩ => ⟨S2x2016x128, .f32⟩
  | .hbm, ⟨3, _⟩ => ⟨S2x2016x8, .f32⟩
  | .hbm, ⟨4, _⟩ => ⟨S1032x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024x1, .f32⟩
  | .hbm, ⟨9, _⟩ => ⟨S1, .f32⟩
  | .hbm, ⟨10, _⟩ => ⟨S2x128x128x128, .f32⟩
  | .hbm, ⟨11, _⟩ => ⟨S32768x128, .f32⟩
  | .hbm, ⟨12, _⟩ => ⟨S4032x128, .i32⟩
  | .hbm, ⟨13, _⟩ => ⟨S4032x128, .f32⟩
  | .hbm, ⟨14, _⟩ => ⟨S4032x1024, .f32⟩
  | .hbm, ⟨15, _⟩ => ⟨S1024x1024, .f32⟩
  | .hbm, ⟨16, _⟩ => ⟨S128x8x1024, .f32⟩
  | .hbm, ⟨17, _⟩ => ⟨S8x128x1024, .f32⟩
  | .hbm, ⟨18, _⟩ => ⟨S1024x1024, .f32⟩
  | .hbm, ⟨19, _⟩ => ⟨S8x1024, .f32⟩
  | .hbm, ⟨20, _⟩ => ⟨S4032x8, .f32⟩
  | .hbm, ⟨21, _⟩ => ⟨S1x1024, .f32⟩
  | .hbm, ⟨22, _⟩ => ⟨S1x1024, .f32⟩
  | .hbm, ⟨23, _⟩ => ⟨S1x1024, .f32⟩
  | .hbm, ⟨24, _⟩ => ⟨S1x1, .f32⟩
  | .hbm, ⟨25, _⟩ => ⟨S4032x128, .f32⟩
  | .hbm, ⟨26, _⟩ => ⟨S4032x1, .f32⟩
  | .hbm, ⟨27, _⟩ => ⟨S4032, .f32⟩
  | .hbm, ⟨28, _⟩ => ⟨S2x2016, .f32⟩
  | .local .tc .vmem, ⟨0, _⟩ => ⟨S504x1024, .f32⟩
  | .local .tc .vmem, ⟨1, _⟩ => ⟨S504x1024, .f32⟩
  | .local .tc .vmem, ⟨2, _⟩ => ⟨S504x8, .f32⟩
  | .local .tc .vmem, ⟨3, _⟩ => ⟨S504x8, .f32⟩
  | .local .tc .vmem, ⟨4, _⟩ => ⟨S1024x1024, .f32⟩
  | .local .tc .vmem, ⟨5, _⟩ => ⟨S8x1024, .f32⟩
  | .local .tc .vmem, ⟨6, _⟩ => ⟨S1x1024, .f32⟩
  | .local .tc .vmem, ⟨7, _⟩ => ⟨S1024x1024, .f32⟩
  | .local .tc .vmem, ⟨8, _⟩ => ⟨S1x1024, .f32⟩
  | .local .tc .vmem, ⟨9, _⟩ => ⟨S1x1024, .f32⟩
  | .local .tc .vmem, ⟨10, _⟩ => ⟨S1x1, .f32⟩
  | .local .tc .vmem, ⟨11, _⟩ => ⟨S504x128, .f32⟩
  | .local .tc .vmem, ⟨12, _⟩ => ⟨S504x128, .f32⟩
  | .local .scVector .vmem, ⟨0, _⟩ => ⟨S128, .i32⟩
  | .local .scVector .vmem, ⟨1, _⟩ => ⟨S128, .f32⟩
  | .local .scVector .vmem, ⟨2, _⟩ => ⟨S128x128, .f32⟩
  | .local .scVector .vmem, ⟨3, _⟩ => ⟨S1024, .f32⟩
  | _, _ => ⟨S2x128x128x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 17 → Bool
  | ⟨0, _⟩ => false
  | ⟨1, _⟩ => false
  | ⟨2, _⟩ => false
  | ⟨3, _⟩ => false
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTables nBuf rfl bufTy 4 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v1_scv : Ref sig .scVector := ⟨.hbm, 11, rfl⟩
abbrev main_v2_scv : Ref sig .scVector := ⟨.hbm, 12, rfl⟩
abbrev main_v3_scv : Ref sig .scVector := ⟨.hbm, 13, rfl⟩
abbrev main_v4_scv : Ref sig .scVector := ⟨.hbm, 14, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg3_0 : Ref sig .tc := ⟨.vmem, 5, rfl⟩
abbrev cc1_stg4_0 : Ref sig .tc := ⟨.vmem, 6, rfl⟩
abbrev cc1_stg5_0 : Ref sig .tc := ⟨.vmem, 7, rfl⟩
abbrev cc1_stg6_0 : Ref sig .tc := ⟨.vmem, 8, rfl⟩
abbrev cc1_stg7_0 : Ref sig .tc := ⟨.vmem, 9, rfl⟩
abbrev cc1_stg8_0 : Ref sig .tc := ⟨.vmem, 10, rfl⟩
abbrev cc1_stg9_0 : Ref sig .tc := ⟨.vmem, 11, rfl⟩
abbrev cc1_stg9_1 : Ref sig .tc := ⟨.vmem, 12, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem7_0 : DmaSem sig := 13
abbrev cc1_sem8_0 : DmaSem sig := 14
abbrev cc1_sem9_0 : DmaSem sig := 15
abbrev cc1_sem9_1 : DmaSem sig := 16
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c126_i32_1 : BitVec 32 := 126#32
  let v3 : BitVec 32 := Scalar.addi c0_i32_0 c126_i32_1
  let c1_i32 : BitVec 32 := 1#32
  ⟨c0_i32_0, v3, c1_i32⟩
def k0_off1 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c126_i32 : BitVec 32 := 126#32
  let v2 : BitVec 32 := Scalar.muli v1 c126_i32
  let c0_i32_0 : BitVec 32 := 0#32
  let c1_i32 : BitVec 32 := 1#32
  let arg11 : BitVec 32 := Scf.iv c0_i32_0 c1_i32 k0_t1
  let v4 : BitVec 32 := Scalar.addi v2 arg11
  let c0_i32_1939_r0 : BitVec 32 := 0#32
  ![v4.toNat, 0]
def k0_off2 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c126_i32 : BitVec 32 := 126#32
  let v2 : BitVec 32 := Scalar.muli v1 c126_i32
  let c0_i32_0 : BitVec 32 := 0#32
  let c1_i32 : BitVec 32 := 1#32
  let arg11 : BitVec 32 := Scf.iv c0_i32_0 c1_i32 k0_t1
  let v4 : BitVec 32 := Scalar.addi v2 arg11
  let c0_i32_1939_r2 : BitVec 32 := 0#32
  ![v4.toNat, 0]
abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S504x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S504x8 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1024x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S8x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1024x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S504x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S2x128x128x128 : Shape := ⟨4, ![2, 128, 128, 128]⟩
abbrev S2x2016x128 : Shape := ⟨3, ![2, 2016, 128]⟩
abbrev S2x2016x8 : Shape := ⟨3, ![2, 2016, 8]⟩
abbrev S1032x1024 : Shape := ⟨2, ![1032, 1024]⟩
abbrev S1024 : Shape := ⟨1, ![1024]⟩
abbrev S1024x1024 : Shape := ⟨2, ![1024, 1024]⟩
abbrev S1024x1 : Shape := ⟨2, ![1024, 1]⟩
abbrev S1 : Shape := ⟨1, ![1]⟩
abbrev S128x2x128x128 : Shape := ⟨4, ![128, 2, 128, 128]⟩
abbrev S128x32768 : Shape := ⟨2, ![128, 32768]⟩
abbrev S4032x4x32 : Shape := ⟨3, ![4032, 4, 32]⟩
abbrev S1x4032x4x32 : Shape := ⟨4, ![1, 4032, 4, 32]⟩
abbrev S4032x1x32 : Shape := ⟨3, ![4032, 1, 32]⟩
abbrev S4032x32 : Shape := ⟨2, ![4032, 32]⟩
abbrev S_ : Shape := ⟨0, ![]⟩
abbrev S4032x32x1 : Shape := ⟨3, ![4032, 32, 1]⟩
abbrev S128x4032x32 : Shape := ⟨3, ![128, 4032, 32]⟩
abbrev S1x4032x1x32 : Shape := ⟨4, ![1, 4032, 1, 32]⟩
abbrev S1x4032x32 : Shape := ⟨3, ![1, 4032, 32]⟩
abbrev S4032x128x32 : Shape := ⟨3, ![4032, 128, 32]⟩
abbrev S4032x128x8x4 : Shape := ⟨4, ![4032, 128, 8, 4]⟩
abbrev S4032x128x8 : Shape := ⟨3, ![4032, 128, 8]⟩
abbrev S4032x1024 : Shape := ⟨2, ![4032, 1024]⟩
abbrev S4032x8 : Shape := ⟨2, ![4032, 8]⟩
abbrev S4032x1032 : Shape := ⟨2, ![4032, 1032]⟩
abbrev S1x1024 : Shape := ⟨2, ![1, 1024]⟩
abbrev S4032x1 : Shape := ⟨2, ![4032, 1]⟩
abbrev S1x1 : Shape := ⟨2, ![1, 1]⟩
abbrev S4032 : Shape := ⟨1, ![4032]⟩
abbrev S2x2016 : Shape := ⟨2, ![2, 2016]⟩

abbrev nBuf : Space → Nat
  | .hbm => 112
  | .vmem => 0
  | .smem => 0
  | _ => 0

abbrev bufTy : (tb : Table) → Fin (tcTables nBuf tb) → BufTy
  | .hbm, ⟨0, _⟩ => ⟨S2x128x128x128, .f32⟩
  | .hbm, ⟨1, _⟩ => ⟨S2x2016x128, .i32⟩
  | .hbm, ⟨2, _⟩ => ⟨S2x2016x128, .f32⟩
  | .hbm, ⟨3, _⟩ => ⟨S2x2016x8, .f32⟩
  | .hbm, ⟨4, _⟩ => ⟨S1032x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024x1, .f32⟩
  | .hbm, ⟨9, _⟩ => ⟨S1, .f32⟩
  | .hbm, ⟨10, _⟩ => ⟨S128x2x128x128, .f32⟩
  | .hbm, ⟨11, _⟩ => ⟨S128x32768, .f32⟩
  | .hbm, ⟨12, _⟩ => ⟨S4032x4x32, .i32⟩
  | .hbm, ⟨13, _⟩ => ⟨S1x4032x4x32, .f32⟩
  | .hbm, ⟨14, _⟩ => ⟨S4032x1x32, .i32⟩
  | .hbm, ⟨15, _⟩ => ⟨S4032x32, .i32⟩
  | .hbm, ⟨16, _⟩ => ⟨S_, .i32⟩
  | .hbm, ⟨17, _⟩ => ⟨S4032x32, .i32⟩
  | .hbm, ⟨18, _⟩ => ⟨S4032x32, .i1⟩
  | .hbm, ⟨19, _⟩ => ⟨S_, .i32⟩
  | .hbm, ⟨20, _⟩ => ⟨S4032x32, .i32⟩
  | .hbm, ⟨21, _⟩ => ⟨S4032x32, .i32⟩
  | .hbm, ⟨22, _⟩ => ⟨S4032x32, .i32⟩
  | .hbm, ⟨23, _⟩ => ⟨S4032x32x1, .i32⟩
  | .hbm, ⟨24, _⟩ => ⟨S128x4032x32, .f32⟩
  | .hbm, ⟨25, _⟩ => ⟨S1x4032x1x32, .f32⟩
  | .hbm, ⟨26, _⟩ => ⟨S1x4032x32, .f32⟩
  | .hbm, ⟨27, _⟩ => ⟨S128x4032x32, .f32⟩
  | .hbm, ⟨28, _⟩ => ⟨S128x4032x32, .f32⟩
  | .hbm, ⟨29, _⟩ => ⟨S4032x1x32, .i32⟩
  | .hbm, ⟨30, _⟩ => ⟨S4032x32, .i32⟩
  | .hbm, ⟨31, _⟩ => ⟨S_, .i32⟩
  | .hbm, ⟨32, _⟩ => ⟨S4032x32, .i32⟩
  | .hbm, ⟨33, _⟩ => ⟨S4032x32, .i1⟩
  | .hbm, ⟨34, _⟩ => ⟨S_, .i32⟩
  | .hbm, ⟨35, _⟩ => ⟨S4032x32, .i32⟩
  | .hbm, ⟨36, _⟩ => ⟨S4032x32, .i32⟩
  | .hbm, ⟨37, _⟩ => ⟨S4032x32, .i32⟩
  | .hbm, ⟨38, _⟩ => ⟨S4032x32x1, .i32⟩
  | .hbm, ⟨39, _⟩ => ⟨S128x4032x32, .f32⟩
  | .hbm, ⟨40, _⟩ => ⟨S1x4032x1x32, .f32⟩
  | .hbm, ⟨41, _⟩ => ⟨S1x4032x32, .f32⟩
  | .hbm, ⟨42, _⟩ => ⟨S128x4032x32, .f32⟩
  | .hbm, ⟨43, _⟩ => ⟨S128x4032x32, .f32⟩
  | .hbm, ⟨44, _⟩ => ⟨S128x4032x32, .f32⟩
  | .hbm, ⟨45, _⟩ => ⟨S4032x1x32, .i32⟩
  | .hbm, ⟨46, _⟩ => ⟨S4032x32, .i32⟩
  | .hbm, ⟨47, _⟩ => ⟨S_, .i32⟩
  | .hbm, ⟨48, _⟩ => ⟨S4032x32, .i32⟩
  | .hbm, ⟨49, _⟩ => ⟨S4032x32, .i1⟩
  | .hbm, ⟨50, _⟩ => ⟨S_, .i32⟩
  | .hbm, ⟨51, _⟩ => ⟨S4032x32, .i32⟩
  | .hbm, ⟨52, _⟩ => ⟨S4032x32, .i32⟩
  | .hbm, ⟨53, _⟩ => ⟨S4032x32, .i32⟩
  | .hbm, ⟨54, _⟩ => ⟨S4032x32x1, .i32⟩
  | .hbm, ⟨55, _⟩ => ⟨S128x4032x32, .f32⟩
  | .hbm, ⟨56, _⟩ => ⟨S1x4032x1x32, .f32⟩
  | .hbm, ⟨57, _⟩ => ⟨S1x4032x32, .f32⟩
  | .hbm, ⟨58, _⟩ => ⟨S128x4032x32, .f32⟩
  | .hbm, ⟨59, _⟩ => ⟨S128x4032x32, .f32⟩
  | .hbm, ⟨60, _⟩ => ⟨S128x4032x32, .f32⟩
  | .hbm, ⟨61, _⟩ => ⟨S4032x1x32, .i32⟩
  | .hbm, ⟨62, _⟩ => ⟨S4032x32, .i32⟩
  | .hbm, ⟨63, _⟩ => ⟨S_, .i32⟩
  | .hbm, ⟨64, _⟩ => ⟨S4032x32, .i32⟩
  | .hbm, ⟨65, _⟩ => ⟨S4032x32, .i1⟩
  | .hbm, ⟨66, _⟩ => ⟨S_, .i32⟩
  | .hbm, ⟨67, _⟩ => ⟨S4032x32, .i32⟩
  | .hbm, ⟨68, _⟩ => ⟨S4032x32, .i32⟩
  | .hbm, ⟨69, _⟩ => ⟨S4032x32, .i32⟩
  | .hbm, ⟨70, _⟩ => ⟨S4032x32x1, .i32⟩
  | .hbm, ⟨71, _⟩ => ⟨S128x4032x32, .f32⟩
  | .hbm, ⟨72, _⟩ => ⟨S1x4032x1x32, .f32⟩
  | .hbm, ⟨73, _⟩ => ⟨S1x4032x32, .f32⟩
  | .hbm, ⟨74, _⟩ => ⟨S128x4032x32, .f32⟩
  | .hbm, ⟨75, _⟩ => ⟨S128x4032x32, .f32⟩
  | .hbm, ⟨76, _⟩ => ⟨S128x4032x32, .f32⟩
  | .hbm, ⟨77, _⟩ => ⟨S4032x128x32, .f32⟩
  | .hbm, ⟨78, _⟩ => ⟨S4032x128x8x4, .f32⟩
  | .hbm, ⟨79, _⟩ => ⟨S_, .f32⟩
  | .hbm, ⟨80, _⟩ => ⟨S4032x128x8, .f32⟩
  | .hbm, ⟨81, _⟩ => ⟨S4032x1024, .f32⟩
  | .hbm, ⟨82, _⟩ => ⟨S4032x8, .f32⟩
  | .hbm, ⟨83, _⟩ => ⟨S4032x1032, .f32⟩
  | .hbm, ⟨84, _⟩ => ⟨S4032x1024, .f32⟩
  | .hbm, ⟨85, _⟩ => ⟨S1x1024, .f32⟩
  | .hbm, ⟨86, _⟩ => ⟨S4032x1024, .f32⟩
  | .hbm, ⟨87, _⟩ => ⟨S4032x1024, .f32⟩
  | .hbm, ⟨88, _⟩ => ⟨S_, .f32⟩
  | .hbm, ⟨89, _⟩ => ⟨S4032x1024, .f32⟩
  | .hbm, ⟨90, _⟩ => ⟨S4032x1024, .f32⟩
  | .hbm, ⟨91, _⟩ => ⟨S4032x1024, .f32⟩
  | .hbm, ⟨92, _⟩ => ⟨S1x1024, .f32⟩
  | .hbm, ⟨93, _⟩ => ⟨S4032x1024, .f32⟩
  | .hbm, ⟨94, _⟩ => ⟨S4032x1024, .f32⟩
  | .hbm, ⟨95, _⟩ => ⟨S_, .f32⟩
  | .hbm, ⟨96, _⟩ => ⟨S4032x1024, .f32⟩
  | .hbm, ⟨97, _⟩ => ⟨S4032x1024, .f32⟩
  | .hbm, ⟨98, _⟩ => ⟨S4032x1, .f32⟩
  | .hbm, ⟨99, _⟩ => ⟨S1x1, .f32⟩
  | .hbm, ⟨100, _⟩ => ⟨S4032x1, .f32⟩
  | .hbm, ⟨101, _⟩ => ⟨S4032x1, .f32⟩
  | .hbm, ⟨102, _⟩ => ⟨S4032, .f32⟩
  | .hbm, ⟨103, _⟩ => ⟨S4032, .f32⟩
  | .hbm, ⟨104, _⟩ => ⟨S4032, .f32⟩
  | .hbm, ⟨105, _⟩ => ⟨S_, .f32⟩
  | .hbm, ⟨106, _⟩ => ⟨S4032, .f32⟩
  | .hbm, ⟨107, _⟩ => ⟨S4032, .f32⟩
  | .hbm, ⟨108, _⟩ => ⟨S_, .f32⟩
  | .hbm, ⟨109, _⟩ => ⟨S4032, .f32⟩
  | .hbm, ⟨110, _⟩ => ⟨S4032, .f32⟩
  | .hbm, ⟨111, _⟩ => ⟨S2x2016, .f32⟩
  | _, _ => ⟨S2x128x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c : Ref sig .tc := ⟨.hbm, 16, rfl⟩
abbrev main_v6 : Ref sig .tc := ⟨.hbm, 17, rfl⟩
abbrev main_v7 : Ref sig .tc := ⟨.hbm, 18, rfl⟩
abbrev main_c_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_1 : Ref sig .tc := ⟨.hbm, 31, rfl⟩
abbrev main_v19 : Ref sig .tc := ⟨.hbm, 32, rfl⟩
abbrev main_v20 : Ref sig .tc := ⟨.hbm, 33, rfl⟩
abbrev main_c_2 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c_3 : Ref sig .tc := ⟨.hbm, 47, rfl⟩
abbrev main_v33 : Ref sig .tc := ⟨.hbm, 48, rfl⟩
abbrev main_v34 : Ref sig .tc := ⟨.hbm, 49, rfl⟩
abbrev main_c_4 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_c_5 : Ref sig .tc := ⟨.hbm, 63, rfl⟩
abbrev main_v47 : Ref sig .tc := ⟨.hbm, 64, rfl⟩
abbrev main_v48 : Ref sig .tc := ⟨.hbm, 65, rfl⟩
abbrev main_c_6 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_cst : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_call0_cst : Ref sig .tc := ⟨.hbm, 88, rfl⟩
abbrev main_call0_v0 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_call1_cst : Ref sig .tc := ⟨.hbm, 95, rfl⟩
abbrev main_call1_v0 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_cst_7 : Ref sig .tc := ⟨.hbm, 105, rfl⟩
abbrev main_v82 : Ref sig .tc := ⟨.hbm, 106, rfl⟩
abbrev main_v83 : Ref sig .tc := ⟨.hbm, 107, rfl⟩
abbrev main_cst_8 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩

abbrev nD : Nat := 1
abbrev τ : Topo := Topo.v7x

variable {F : FTy → Type} [FloatOps F]
-- ==== Select.lean ====
abbrev S2x1x128x128 : Shape := ⟨4, ![2, 1, 128, 128]⟩
abbrev S2x1x2x128x128 : Shape := ⟨5, ![2, 1, 2, 128, 128]⟩
abbrev S2016x64 : Shape := ⟨2, ![2016, 64]⟩
abbrev S_ : Shape := ⟨0, ![]⟩
abbrev S31 : Shape := ⟨1, ![31]⟩
abbrev S1 : Shape := ⟨1, ![1]⟩
abbrev S32 : Shape := ⟨1, ![32]⟩
abbrev S1x32 : Shape := ⟨2, ![1, 32]⟩
abbrev S2x2016x4 : Shape := ⟨3, ![2, 2016, 4]⟩
abbrev S2x2016x8 : Shape := ⟨3, ![2, 2016, 8]⟩
abbrev S2x2016x128 : Shape := ⟨3, ![2, 2016, 128]⟩
abbrev S1x1x128x128 : Shape := ⟨4, ![1, 1, 128, 128]⟩
abbrev S1x1x2x128x128 : Shape := ⟨5, ![1, 1, 2, 128, 128]⟩
abbrev S1x2016x4 : Shape := ⟨3, ![1, 2016, 4]⟩
abbrev S1x2016x8 : Shape := ⟨3, ![1, 2016, 8]⟩
abbrev S1x2016x128 : Shape := ⟨3, ![1, 2016, 128]⟩
abbrev S128x128 : Shape := ⟨2, ![128, 128]⟩
abbrev S1x128 : Shape := ⟨2, ![1, 128]⟩
abbrev S127x128 : Shape := ⟨2, ![127, 128]⟩
abbrev S128x1 : Shape := ⟨2, ![128, 1]⟩
abbrev S128x127 : Shape := ⟨2, ![128, 127]⟩
abbrev S64x1 : Shape := ⟨2, ![64, 1]⟩
abbrev S1x128x128 : Shape := ⟨3, ![1, 128, 128]⟩
abbrev S1x1x1 : Shape := ⟨3, ![1, 1, 1]⟩
abbrev S64x128 : Shape := ⟨2, ![64, 128]⟩
abbrev S1x1x1x128x128 : Shape := ⟨5, ![1, 1, 1, 128, 128]⟩
abbrev S64 : Shape := ⟨1, ![64]⟩
abbrev S64x2 : Shape := ⟨2, ![64, 2]⟩
abbrev S2016x2 : Shape := ⟨2, ![2016, 2]⟩
abbrev S2016 : Shape := ⟨1, ![2016]⟩
abbrev S2016x1 : Shape := ⟨2, ![2016, 1]⟩
abbrev S2016x8 : Shape := ⟨2, ![2016, 8]⟩
abbrev S2016x4 : Shape := ⟨2, ![2016, 4]⟩
abbrev S2016x32 : Shape := ⟨2, ![2016, 32]⟩
abbrev S2016x128 : Shape := ⟨2, ![2016, 128]⟩

abbrev nBuf : Space → Nat
  | .hbm => 32
  | .vmem => 15
  | .smem => 0
  | _ => 0

abbrev bufTy : (tb : Table) → Fin (tcTables nBuf tb) → BufTy
  | .hbm, ⟨0, _⟩ => ⟨S2x1x128x128, .f32⟩
  | .hbm, ⟨1, _⟩ => ⟨S2x1x2x128x128, .f32⟩
  | .hbm, ⟨2, _⟩ => ⟨S2016x64, .f32⟩
  | .hbm, ⟨3, _⟩ => ⟨S2016x64, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S31, .f32⟩
  | .hbm, ⟨12, _⟩ => ⟨S_, .f32⟩
  | .hbm, ⟨13, _⟩ => ⟨S31, .f32⟩
  | .hbm, ⟨14, _⟩ => ⟨S31, .f32⟩
  | .hbm, ⟨15, _⟩ => ⟨S1, .f32⟩
  | .hbm, ⟨16, _⟩ => ⟨S_, .f32⟩
  | .hbm, ⟨17, _⟩ => ⟨S31, .f32⟩
  | .hbm, ⟨18, _⟩ => ⟨S31, .f32⟩
  | .hbm, ⟨19, _⟩ => ⟨S31, .f32⟩
  | .hbm, ⟨20, _⟩ => ⟨S31, .f32⟩
  | .hbm, ⟨21, _⟩ => ⟨S1, .f32⟩
  | .hbm, ⟨22, _⟩ => ⟨S31, .f32⟩
  | .hbm, ⟨23, _⟩ => ⟨S31, .f32⟩
  | .hbm, ⟨24, _⟩ => ⟨S31, .f32⟩
  | .hbm, ⟨25, _⟩ => ⟨S1, .f32⟩
  | .hbm, ⟨26, _⟩ => ⟨S32, .f32⟩
  | .hbm, ⟨27, _⟩ => ⟨S1x32, .f32⟩
  | .hbm, ⟨28, _⟩ => ⟨S2x2016x4, .f32⟩
  | .hbm, ⟨29, _⟩ => ⟨S2x2016x8, .f32⟩
  | .hbm, ⟨30, _⟩ => ⟨S2x2016x128, .i32⟩
  | .hbm, ⟨31, _⟩ => ⟨S2x2016x128, .f32⟩
  | .local _ .vmem, ⟨0, _⟩ => ⟨S1x32, .f32⟩
  | .local _ .vmem, ⟨1, _⟩ => ⟨S2016x64, .f32⟩
  | .local _ .vmem, ⟨2, _⟩ => ⟨S2016x64, .f32⟩
  | .local _ .vmem, ⟨3, _⟩ => ⟨S1x1x128x128, .f32⟩
  | .local _ .vmem, ⟨4, _⟩ => ⟨S1x1x128x128, .f32⟩
  | .local _ .vmem, ⟨5, _⟩ => ⟨S1x1x2x128x128, .f32⟩
  | .local _ .vmem, ⟨6, _⟩ => ⟨S1x1x2x128x128, .f32⟩
  | .local _ .vmem, ⟨7, _⟩ => ⟨S1x2016x4, .f32⟩
  | .local _ .vmem, ⟨8, _⟩ => ⟨S1x2016x4, .f32⟩
  | .local _ .vmem, ⟨9, _⟩ => ⟨S1x2016x8, .f32⟩
  | .local _ .vmem, ⟨10, _⟩ => ⟨S1x2016x8, .f32⟩
  | .local _ .vmem, ⟨11, _⟩ => ⟨S1x2016x128, .i32⟩
  | .local _ .vmem, ⟨12, _⟩ => ⟨S1x2016x128, .i32⟩
  | .local _ .vmem, ⟨13, _⟩ => ⟨S1x2016x128, .f32⟩
  | .local _ .vmem, ⟨14, _⟩ => ⟨S1x2016x128, .f32⟩
  | _, _ => ⟨S2x1x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_cst : Ref sig .tc := ⟨.hbm, 9, rfl⟩
abbrev main_call0_v3 : Ref sig .tc := ⟨.hbm, 10, rfl⟩
abbrev main_call0_v4 : Ref sig .tc := ⟨.hbm, 11, rfl⟩
abbrev main_call0_cst_0 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_cst_1 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_v15 : Ref sig .tc := ⟨.hbm, 24, rfl⟩
abbrev main_call0_v16 : Ref sig .tc := ⟨.hbm, 25, rfl⟩
abbrev main_v0 : Ref sig .tc := ⟨.hbm, 26, rfl⟩
abbrev main_v1 : Ref sig .tc := ⟨.hbm, 27, rfl⟩
abbrev main_v2_0 : Ref sig .tc := ⟨.hbm, 28, rfl⟩
abbrev main_v2_1 : Ref sig .tc := ⟨.hbm, 29, rfl⟩
abbrev main_v2_2 : Ref sig .tc := ⟨.hbm, 30, rfl⟩
abbrev main_v2_3 : Ref sig .tc := ⟨.hbm, 31, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![2], ![false]⟩

@[reducible] def k0_t1_loop : Scf.Loop 32 :=
  let c0_i32_5 : BitVec 32 := 0#32
  let c64_i32 : BitVec 32 := 64#32
  let v27 : BitVec 32 := Scalar.addi c0_i32_5 c64_i32
  let c1_i32 : BitVec 32 := 1#32
  ⟨c0_i32_5, v27, c1_i32⟩
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2016x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2016x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x2x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x2016x4 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x2016x8 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x2016x128 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x2016x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== SelectReferenceIdeal.lean ====
abbrev S2x1x128x128 : Shape := ⟨4, ![2, 1, 128, 128]⟩
abbrev S2x1x2x128x128 : Shape := ⟨5, ![2, 1, 2, 128, 128]⟩
abbrev S2016x64 : Shape := ⟨2, ![2016, 64]⟩
abbrev S2016 : Shape := ⟨1, ![2016]⟩
abbrev S2x128x128 : Shape := ⟨3, ![2, 128, 128]⟩
abbrev S_ : Shape := ⟨0, ![]⟩
abbrev S2x16384 : Shape := ⟨2, ![2, 16384]⟩
abbrev S2x64 : Shape := ⟨2, ![2, 64]⟩
abbrev S2x2x16384 : Shape := ⟨3, ![2, 2, 16384]⟩
abbrev S2x1x16384 : Shape := ⟨3, ![2, 1, 16384]⟩
abbrev S2x64x1 : Shape := ⟨3, ![2, 64, 1]⟩
abbrev S1 : Shape := ⟨1, ![1]⟩
abbrev S1x1x1 : Shape := ⟨3, ![1, 1, 1]⟩
abbrev S2x64x2 : Shape := ⟨3, ![2, 64, 2]⟩
abbrev S2016x1 : Shape := ⟨2, ![2016, 1]⟩
abbrev S2x2016x2 : Shape := ⟨3, ![2, 2016, 2]⟩
abbrev S2x2016 : Shape := ⟨2, ![2, 2016]⟩
abbrev S2x2016x1 : Shape := ⟨3, ![2, 2016, 1]⟩
abbrev S2016x2 : Shape := ⟨2, ![2016, 2]⟩
abbrev S2x2016x8 : Shape := ⟨3, ![2, 2016, 8]⟩
abbrev S31 : Shape := ⟨1, ![31]⟩
abbrev S32 : Shape := ⟨1, ![32]⟩
abbrev S32x1 : Shape := ⟨2, ![32, 1]⟩
abbrev S2x2016x1x2 : Shape := ⟨4, ![2, 2016, 1, 2]⟩
abbrev S1x1x32x1 : Shape := ⟨4, ![1, 1, 32, 1]⟩
abbrev S2x2016x32x2 : Shape := ⟨4, ![2, 2016, 32, 2]⟩
abbrev S2x2016x32x1 : Shape := ⟨4, ![2, 2016, 32, 1]⟩
abbrev S2x2016x32 : Shape := ⟨3, ![2, 2016, 32]⟩
abbrev S2 : Shape := ⟨1, ![2]⟩
abbrev S2x1x1 : Shape := ⟨3, ![2, 1, 1]⟩
abbrev S2x2016x128 : Shape := ⟨3, ![2, 2016, 128]⟩
abbrev S2x2016x4 : Shape := ⟨3, ![2, 2016, 4]⟩

abbrev nBuf : Space → Nat
  | .hbm => 302
  | .vmem => 0
  | .smem => 0
  | _ => 0

abbrev hbmTy0_0 (i : Nat) : BufTy := match i % 128 with
  | 0 => ⟨S2x1x128x128, .f32⟩
  | 1 => ⟨S2x1x2x128x128, .f32⟩
  | 2 => ⟨S2016x64, .f32⟩
  | 3 => ⟨S2016x64, .f32⟩
  | 4 => ⟨S2016, .i32⟩
  | 5 => ⟨S2016, .i32⟩
  | 6 => ⟨S2x128x128, .f32⟩
  | 7 => ⟨S_, .f32⟩
  | 8 => ⟨S_, .f32⟩
  | 9 => ⟨S2x128x128, .f32⟩
  | 10 => ⟨S2x128x128, .i1⟩
  | 11 => ⟨S2x128x128, .f32⟩
  | 12 => ⟨S2x128x128, .f32⟩
  | 13 => ⟨S2x16384, .f32⟩
  | 14 => ⟨S2x64, .f32⟩
  | 15 => ⟨S2x64, .i32⟩
  | 16 => ⟨S2x2x16384, .f32⟩
  | 17 => ⟨S_, .i32⟩
  | 18 => ⟨S_, .i32⟩
  | 19 => ⟨S2x64, .i32⟩
  | 20 => ⟨S2x64, .i32⟩
  | 21 => ⟨S2x64, .i32⟩
  | 22 => ⟨S_, .i32⟩
  | 23 => ⟨S2x64, .i32⟩
  | 24 => ⟨S2x64, .i1⟩
  | 25 => ⟨S2x64, .i32⟩
  | 26 => ⟨S2x64, .i32⟩
  | 27 => ⟨S_, .i32⟩
  | 28 => ⟨S2x64, .i32⟩
  | 29 => ⟨S2x64, .i1⟩
  | 30 => ⟨S2x64, .i1⟩
  | 31 => ⟨S_, .i32⟩
  | 32 => ⟨S2x64, .i32⟩
  | 33 => ⟨S2x64, .i32⟩
  | 34 => ⟨S2x64, .i32⟩
  | 35 => ⟨S2x64, .f32⟩
  | 36 => ⟨S2x1x16384, .f32⟩
  | 37 => ⟨S2x16384, .f32⟩
  | 38 => ⟨S_, .i32⟩
  | 39 => ⟨S2x64, .i32⟩
  | 40 => ⟨S2x64, .i1⟩
  | 41 => ⟨S_, .i32⟩
  | 42 => ⟨S2x64, .i32⟩
  | 43 => ⟨S2x64, .i32⟩
  | 44 => ⟨S2x64, .i32⟩
  | 45 => ⟨S2x64x1, .i32⟩
  | 46 => ⟨S1, .i32⟩
  | 47 => ⟨S_, .i32⟩
  | 48 => ⟨S2x64x1, .i32⟩
  | 49 => ⟨S2x64x1, .i1⟩
  | 50 => ⟨S1x1x1, .i32⟩
  | 51 => ⟨S2x64x1, .i32⟩
  | 52 => ⟨S2x64x1, .i1⟩
  | 53 => ⟨S2x64x1, .i1⟩
  | 54 => ⟨S_, .i1⟩
  | 55 => ⟨S2x64, .i1⟩
  | 56 => ⟨S2x64, .f32⟩
  | 57 => ⟨S_, .f32⟩
  | 58 => ⟨S2x64, .f32⟩
  | 59 => ⟨S2x64, .f32⟩
  | 60 => ⟨S2x64, .f32⟩
  | 61 => ⟨S_, .f32⟩
  | 62 => ⟨S2x64, .f32⟩
  | 63 => ⟨S2x64, .f32⟩
  | 64 => ⟨S_, .i32⟩
  | 65 => ⟨S_, .i32⟩
  | 66 => ⟨S_, .i32⟩
  | 67 => ⟨S_, .i1⟩
  | 68 => ⟨S_, .i32⟩
  | 69 => ⟨S_, .i32⟩
  | 70 => ⟨S2x64, .i32⟩
  | 71 => ⟨S2x64, .i32⟩
  | 72 => ⟨S_, .i32⟩
  | 73 => ⟨S2x64, .i32⟩
  | 74 => ⟨S2x64, .i1⟩
  | 75 => ⟨S_, .i32⟩
  | 76 => ⟨S2x64, .i32⟩
  | 77 => ⟨S2x64, .i1⟩
  | 78 => ⟨S_, .i32⟩
  | 79 => ⟨S_, .i1⟩
  | 80 => ⟨S2x64, .i1⟩
  | 81 => ⟨S2x64, .i1⟩
  | 82 => ⟨S2x64, .i1⟩
  | 83 => ⟨S2x64, .i32⟩
  | 84 => ⟨S2x64, .i32⟩
  | 85 => ⟨S2x64, .i32⟩
  | 86 => ⟨S2x64, .f32⟩
  | 87 => ⟨S2x1x16384, .f32⟩
  | 88 => ⟨S2x16384, .f32⟩
  | 89 => ⟨S_, .i32⟩
  | 90 => ⟨S2x64, .i32⟩
  | 91 => ⟨S2x64, .i1⟩
  | 92 => ⟨S_, .i32⟩
  | 93 => ⟨S2x64, .i32⟩
  | 94 => ⟨S2x64, .i32⟩
  | 95 => ⟨S2x64, .i32⟩
  | 96 => ⟨S2x64x1, .i32⟩
  | 97 => ⟨S1, .i32⟩
  | 98 => ⟨S_, .i32⟩
  | 99 => ⟨S2x64x1, .i32⟩
  | 100 => ⟨S2x64x1, .i1⟩
  | 101 => ⟨S1x1x1, .i32⟩
  | 102 => ⟨S2x64x1, .i32⟩
  | 103 => ⟨S2x64x1, .i1⟩
  | 104 => ⟨S2x64x1, .i1⟩
  | 105 => ⟨S_, .i1⟩
  | 106 => ⟨S2x64, .i1⟩
  | 107 => ⟨S2x64, .f32⟩
  | 108 => ⟨S_, .f32⟩
  | 109 => ⟨S2x64, .f32⟩
  | 110 => ⟨S2x64, .f32⟩
  | 111 => ⟨S2x64, .f32⟩
  | 112 => ⟨S_, .f32⟩
  | 113 => ⟨S2x64, .f32⟩
  | 114 => ⟨S2x64, .f32⟩
  | 115 => ⟨S2x64x1, .f32⟩
  | 116 => ⟨S2x64x1, .f32⟩
  | 117 => ⟨S2x64x2, .f32⟩
  | 118 => ⟨S_, .i32⟩
  | 119 => ⟨S2016, .i32⟩
  | 120 => ⟨S2016, .i1⟩
  | 121 => ⟨S_, .i32⟩
  | 122 => ⟨S2016, .i32⟩
  | 123 => ⟨S2016, .i32⟩
  | 124 => ⟨S2016, .i32⟩
  | 125 => ⟨S2016x1, .i32⟩
  | 126 => ⟨S2x2016x2, .f32⟩
  | 127 => ⟨S_, .i32⟩
  | _ => ⟨S2x1x128x128, .f32⟩

abbrev hbmTy0_1 (i : Nat) : BufTy := match i % 128 with
  | 0 => ⟨S2016, .i32⟩
  | 1 => ⟨S2016, .i1⟩
  | 2 => ⟨S_, .i32⟩
  | 3 => ⟨S2016, .i32⟩
  | 4 => ⟨S2016, .i32⟩
  | 5 => ⟨S2016, .i32⟩
  | 6 => ⟨S2016x1, .i32⟩
  | 7 => ⟨S2x2016x2, .f32⟩
  | 8 => ⟨S2x2016x2, .f32⟩
  | 9 => ⟨S2x2016x2, .f32⟩
  | 10 => ⟨S_, .f32⟩
  | 11 => ⟨S2x2016, .f32⟩
  | 12 => ⟨S2x2016x1, .f32⟩
  | 13 => ⟨S2x2016x1, .f32⟩
  | 14 => ⟨S_, .f32⟩
  | 15 => ⟨S2x2016x1, .f32⟩
  | 16 => ⟨S2x2016x1, .f32⟩
  | 17 => ⟨S2x2016x2, .f32⟩
  | 18 => ⟨S2x2016x2, .f32⟩
  | 19 => ⟨S_, .i32⟩
  | 20 => ⟨S2016, .i32⟩
  | 21 => ⟨S2016, .i1⟩
  | 22 => ⟨S_, .i32⟩
  | 23 => ⟨S2016, .i32⟩
  | 24 => ⟨S2016, .i1⟩
  | 25 => ⟨S2016x1, .i1⟩
  | 26 => ⟨S2016x1, .i1⟩
  | 27 => ⟨S2016x2, .i1⟩
  | 28 => ⟨S2016x2, .f32⟩
  | 29 => ⟨S_, .f32⟩
  | 30 => ⟨S2x2016x2, .f32⟩
  | 31 => ⟨S2x2016x2, .f32⟩
  | 32 => ⟨S_, .f32⟩
  | 33 => ⟨S2x2016x2, .f32⟩
  | 34 => ⟨S2x2016x2, .f32⟩
  | 35 => ⟨S2x2016x2, .f32⟩
  | 36 => ⟨S2x2016x8, .f32⟩
  | 37 => ⟨S_, .f32⟩
  | 38 => ⟨S_, .f32⟩
  | 39 => ⟨S_, .f32⟩
  | 40 => ⟨S_, .f32⟩
  | 41 => ⟨S_, .f32⟩
  | 42 => ⟨S_, .f32⟩
  | 43 => ⟨S_, .f32⟩
  | 44 => ⟨S31, .f32⟩
  | 45 => ⟨S_, .f32⟩
  | 46 => ⟨S31, .f32⟩
  | 47 => ⟨S31, .f32⟩
  | 48 => ⟨S1, .f32⟩
  | 49 => ⟨S_, .f32⟩
  | 50 => ⟨S31, .f32⟩
  | 51 => ⟨S31, .f32⟩
  | 52 => ⟨S31, .f32⟩
  | 53 => ⟨S31, .f32⟩
  | 54 => ⟨S1, .f32⟩
  | 55 => ⟨S31, .f32⟩
  | 56 => ⟨S31, .f32⟩
  | 57 => ⟨S31, .f32⟩
  | 58 => ⟨S1, .f32⟩
  | 59 => ⟨S32, .f32⟩
  | 60 => ⟨S32x1, .f32⟩
  | 61 => ⟨S2x2016x1x2, .f32⟩
  | 62 => ⟨S1x1x32x1, .f32⟩
  | 63 => ⟨S2x2016x32x2, .f32⟩
  | 64 => ⟨S2x2016x32x2, .f32⟩
  | 65 => ⟨S2x2016x32x2, .f32⟩
  | 66 => ⟨S2x2016x1x2, .f32⟩
  | 67 => ⟨S_, .f32⟩
  | 68 => ⟨S32x1, .f32⟩
  | 69 => ⟨S32x1, .f32⟩
  | 70 => ⟨S1x1x32x1, .f32⟩
  | 71 => ⟨S2x2016x32x2, .f32⟩
  | 72 => ⟨S2x2016x32x2, .f32⟩
  | 73 => ⟨S2x2016x32x2, .f32⟩
  | 74 => ⟨S2x2016x32x2, .f32⟩
  | 75 => ⟨S_, .f32⟩
  | 76 => ⟨S2x2016x32x2, .f32⟩
  | 77 => ⟨S2x2016x32x2, .f32⟩
  | 78 => ⟨S2x2016x32x1, .f32⟩
  | 79 => ⟨S2x2016x32, .f32⟩
  | 80 => ⟨S2x2016x32x1, .f32⟩
  | 81 => ⟨S2x2016x32, .f32⟩
  | 82 => ⟨S2x2016x32, .f32⟩
  | 83 => ⟨S_, .i32⟩
  | 84 => ⟨S_, .i32⟩
  | 85 => ⟨S_, .f32⟩
  | 86 => ⟨S2x2016x32, .f32⟩
  | 87 => ⟨S2x2016x32, .f32⟩
  | 88 => ⟨S_, .f32⟩
  | 89 => ⟨S2x2016x32, .f32⟩
  | 90 => ⟨S2x2016x32, .f32⟩
  | 91 => ⟨S2x2016x32, .f32⟩
  | 92 => ⟨S_, .i32⟩
  | 93 => ⟨S_, .i32⟩
  | 94 => ⟨S_, .f32⟩
  | 95 => ⟨S2x2016x32, .f32⟩
  | 96 => ⟨S2x2016x32, .f32⟩
  | 97 => ⟨S_, .f32⟩
  | 98 => ⟨S2x2016x32, .f32⟩
  | 99 => ⟨S2x2016x32, .f32⟩
  | 100 => ⟨S_, .f32⟩
  | 101 => ⟨S2x2016x32, .f32⟩
  | 102 => ⟨S2x2016x32, .f32⟩
  | 103 => ⟨S_, .i32⟩
  | 104 => ⟨S_, .i32⟩
  | 105 => ⟨S_, .f32⟩
  | 106 => ⟨S2x2016x32, .f32⟩
  | 107 => ⟨S2x2016x32, .f32⟩
  | 108 => ⟨S_, .f32⟩
  | 109 => ⟨S2x2016x32, .f32⟩
  | 110 => ⟨S2x2016x32, .f32⟩
  | 111 => ⟨S_, .f32⟩
  | 112 => ⟨S2x2016x32, .f32⟩
  | 113 => ⟨S2x2016x32, .f32⟩
  | 114 => ⟨S_, .i32⟩
  | 115 => ⟨S_, .i32⟩
  | 116 => ⟨S_, .f32⟩
  | 117 => ⟨S2x2016x32, .f32⟩
  | 118 => ⟨S2x2016x32, .f32⟩
  | 119 => ⟨S_, .f32⟩
  | 120 => ⟨S2x2016x32, .f32⟩
  | 121 => ⟨S2x2016x32, .f32⟩
  | 122 => ⟨S2, .i32⟩
  | 123 => ⟨S2x1x1, .i32⟩
  | 124 => ⟨S_, .i32⟩
  | 125 => ⟨S2x1x1, .i32⟩
  | 126 => ⟨S2x1x1, .i32⟩
  | 127 => ⟨S2x2016x32, .i32⟩
  | _ => ⟨S2x1x128x128, .f32⟩

abbrev hbmTy0_2 (i : Nat) : BufTy := match i % 128 with
  | 0 => ⟨S_, .i32⟩
  | 1 => ⟨S2x2016x32, .i32⟩
  | 2 => ⟨S2x2016x32, .i32⟩
  | 3 => ⟨S2x2016x32, .i32⟩
  | 4 => ⟨S2x2016x32, .i32⟩
  | 5 => ⟨S2x2016x32, .i32⟩
  | 6 => ⟨S2x2016x32, .i32⟩
  | 7 => ⟨S2x2016x32, .i32⟩
  | 8 => ⟨S_, .i32⟩
  | 9 => ⟨S2x2016x32, .i32⟩
  | 10 => ⟨S2x2016x32, .i32⟩
  | 11 => ⟨S2x2016x32, .i32⟩
  | 12 => ⟨S2x2016x32, .i32⟩
  | 13 => ⟨S2x2016x32, .i32⟩
  | 14 => ⟨S2x2016x32, .i32⟩
  | 15 => ⟨S2x2016x32, .i32⟩
  | 16 => ⟨S_, .i32⟩
  | 17 => ⟨S2x2016x32, .i32⟩
  | 18 => ⟨S2x2016x32, .i32⟩
  | 19 => ⟨S2x2016x32, .i32⟩
  | 20 => ⟨S2x2016x32, .i32⟩
  | 21 => ⟨S2x2016x32, .i32⟩
  | 22 => ⟨S2x2016x32, .i32⟩
  | 23 => ⟨S2x2016x32, .i32⟩
  | 24 => ⟨S_, .i32⟩
  | 25 => ⟨S2x2016x32, .i32⟩
  | 26 => ⟨S2x2016x32, .i32⟩
  | 27 => ⟨S2x2016x32, .i32⟩
  | 28 => ⟨S2x2016x32, .i32⟩
  | 29 => ⟨S2x2016x32, .i32⟩
  | 30 => ⟨S2x2016x32, .i32⟩
  | 31 => ⟨S2x2016x128, .i32⟩
  | 32 => ⟨S2x2016x32, .f32⟩
  | 33 => ⟨S2x2016x32, .f32⟩
  | 34 => ⟨S2x2016x32, .f32⟩
  | 35 => ⟨S2x2016x32, .f32⟩
  | 36 => ⟨S2x2016x32, .f32⟩
  | 37 => ⟨S2x2016x32, .f32⟩
  | 38 => ⟨S2x2016x32, .f32⟩
  | 39 => ⟨S2x2016x32, .f32⟩
  | 40 => ⟨S2x2016x32, .f32⟩
  | 41 => ⟨S2x2016x32, .f32⟩
  | 42 => ⟨S2x2016x32, .f32⟩
  | 43 => ⟨S2x2016x32, .f32⟩
  | 44 => ⟨S2x2016x128, .f32⟩
  | 45 => ⟨S2x2016x4, .f32⟩
  | _ => ⟨S2x1x128x128, .f32⟩

abbrev hbmTy (i : Nat) : BufTy := match i / 128 with
  | 0 => hbmTy0_0 i
  | 1 => hbmTy0_1 i
  | 2 => hbmTy0_2 i
  | _ => ⟨S2x1x128x128, .f32⟩

abbrev bufTy : (tb : Table) → Fin (tcTables nBuf tb) → BufTy
  | .hbm, ⟨i, _⟩ => hbmTy i
  | _, _ => ⟨S2x1x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_values : Ref sig .tc := ⟨.hbm, 14, rfl⟩
abbrev main_indices : Ref sig .tc := ⟨.hbm, 15, rfl⟩
abbrev main_v7 : Ref sig .tc := ⟨.hbm, 16, rfl⟩
abbrev main_c_1 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_c : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_0 : Ref sig .tc := ⟨.hbm, 31, rfl⟩
abbrev main_call0_v12 : Ref sig .tc := ⟨.hbm, 32, rfl⟩
abbrev main_call0_v13 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_call1_c : Ref sig .tc := ⟨.hbm, 38, rfl⟩
abbrev main_call1_v0 : Ref sig .tc := ⟨.hbm, 39, rfl⟩
abbrev main_call1_v1 : Ref sig .tc := ⟨.hbm, 40, rfl⟩
abbrev main_call1_c_0 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_v5 : Ref sig .tc := ⟨.hbm, 45, rfl⟩
abbrev main_call1_c_1 : Ref sig .tc := ⟨.hbm, 46, rfl⟩
abbrev main_call1_c_2 : Ref sig .tc := ⟨.hbm, 47, rfl⟩
abbrev main_call1_v6 : Ref sig .tc := ⟨.hbm, 48, rfl⟩
abbrev main_call1_v7 : Ref sig .tc := ⟨.hbm, 49, rfl⟩
abbrev main_call1_v8 : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_c_3 : Ref sig .tc := ⟨.hbm, 54, rfl⟩
abbrev main_call1_v12 : Ref sig .tc := ⟨.hbm, 55, rfl⟩
abbrev main_call1_v13 : Ref sig .tc := ⟨.hbm, 56, rfl⟩
abbrev main_call1_cst : Ref sig .tc := ⟨.hbm, 57, rfl⟩
abbrev main_call1_v14 : Ref sig .tc := ⟨.hbm, 58, rfl⟩
abbrev main_v12 : Ref sig .tc := ⟨.hbm, 59, rfl⟩
abbrev main_v13 : Ref sig .tc := ⟨.hbm, 60, rfl⟩
abbrev main_cst_2 : Ref sig .tc := ⟨.hbm, 61, rfl⟩
abbrev main_v14 : Ref sig .tc := ⟨.hbm, 62, rfl⟩
abbrev main_v15 : Ref sig .tc := ⟨.hbm, 63, rfl⟩
abbrev main_c_3 : Ref sig .tc := ⟨.hbm, 64, rfl⟩
abbrev main_call2_v0 : Ref sig .tc := ⟨.hbm, 65, rfl⟩
abbrev main_call2_c : Ref sig .tc := ⟨.hbm, 66, rfl⟩
abbrev main_call2_v1 : Ref sig .tc := ⟨.hbm, 67, rfl⟩
abbrev main_call2_c_0 : Ref sig .tc := ⟨.hbm, 68, rfl⟩
abbrev main_call2_v2 : Ref sig .tc := ⟨.hbm, 69, rfl⟩
abbrev main_call2_v3 : Ref sig .tc := ⟨.hbm, 70, rfl⟩
abbrev main_call2_v4 : Ref sig .tc := ⟨.hbm, 71, rfl⟩
abbrev main_call2_c_1 : Ref sig .tc := ⟨.hbm, 72, rfl⟩
abbrev main_call2_v5 : Ref sig .tc := ⟨.hbm, 73, rfl⟩
abbrev main_call2_v6 : Ref sig .tc := ⟨.hbm, 74, rfl⟩
abbrev main_call2_c_2 : Ref sig .tc := ⟨.hbm, 75, rfl⟩
abbrev main_call2_v7 : Ref sig .tc := ⟨.hbm, 76, rfl⟩
abbrev main_call2_v8 : Ref sig .tc := ⟨.hbm, 77, rfl⟩
abbrev main_call2_c_3 : Ref sig .tc := ⟨.hbm, 78, rfl⟩
abbrev main_call2_v9 : Ref sig .tc := ⟨.hbm, 79, rfl⟩
abbrev main_call2_v10 : Ref sig .tc := ⟨.hbm, 80, rfl⟩
abbrev main_call2_v11 : Ref sig .tc := ⟨.hbm, 81, rfl⟩
abbrev main_call2_v12 : Ref sig .tc := ⟨.hbm, 82, rfl⟩
abbrev main_call2_v13 : Ref sig .tc := ⟨.hbm, 83, rfl⟩
abbrev main_call2_v14 : Ref sig .tc := ⟨.hbm, 84, rfl⟩
abbrev main_v16 : Ref sig .tc := ⟨.hbm, 85, rfl⟩
abbrev main_v17 : Ref sig .tc := ⟨.hbm, 86, rfl⟩
abbrev main_v18 : Ref sig .tc := ⟨.hbm, 87, rfl⟩
abbrev main_v19 : Ref sig .tc := ⟨.hbm, 88, rfl⟩
abbrev main_call3_c : Ref sig .tc := ⟨.hbm, 89, rfl⟩
abbrev main_call3_v0 : Ref sig .tc := ⟨.hbm, 90, rfl⟩
abbrev main_call3_v1 : Ref sig .tc := ⟨.hbm, 91, rfl⟩
abbrev main_call3_c_0 : Ref sig .tc := ⟨.hbm, 92, rfl⟩
abbrev main_call3_v2 : Ref sig .tc := ⟨.hbm, 93, rfl⟩
abbrev main_call3_v3 : Ref sig .tc := ⟨.hbm, 94, rfl⟩
abbrev main_call3_v4 : Ref sig .tc := ⟨.hbm, 95, rfl⟩
abbrev main_call3_v5 : Ref sig .tc := ⟨.hbm, 96, rfl⟩
abbrev main_call3_c_1 : Ref sig .tc := ⟨.hbm, 97, rfl⟩
abbrev main_call3_c_2 : Ref sig .tc := ⟨.hbm, 98, rfl⟩
abbrev main_call3_v6 : Ref sig .tc := ⟨.hbm, 99, rfl⟩
abbrev main_call3_v7 : Ref sig .tc := ⟨.hbm, 100, rfl⟩
abbrev main_call3_v8 : Ref sig .tc := ⟨.hbm, 101, rfl⟩
abbrev main_call3_v9 : Ref sig .tc := ⟨.hbm, 102, rfl⟩
abbrev main_call3_v10 : Ref sig .tc := ⟨.hbm, 103, rfl⟩
abbrev main_call3_v11 : Ref sig .tc := ⟨.hbm, 104, rfl⟩
abbrev main_call3_c_3 : Ref sig .tc := ⟨.hbm, 105, rfl⟩
abbrev main_call3_v12 : Ref sig .tc := ⟨.hbm, 106, rfl⟩
abbrev main_call3_v13 : Ref sig .tc := ⟨.hbm, 107, rfl⟩
abbrev main_call3_cst : Ref sig .tc := ⟨.hbm, 108, rfl⟩
abbrev main_call3_v14 : Ref sig .tc := ⟨.hbm, 109, rfl⟩
abbrev main_v20 : Ref sig .tc := ⟨.hbm, 110, rfl⟩
abbrev main_v21 : Ref sig .tc := ⟨.hbm, 111, rfl⟩
abbrev main_cst_4 : Ref sig .tc := ⟨.hbm, 112, rfl⟩
abbrev main_v22 : Ref sig .tc := ⟨.hbm, 113, rfl⟩
abbrev main_v23 : Ref sig .tc := ⟨.hbm, 114, rfl⟩
abbrev main_v24 : Ref sig .tc := ⟨.hbm, 115, rfl⟩
abbrev main_v25 : Ref sig .tc := ⟨.hbm, 116, rfl⟩
abbrev main_v26 : Ref sig .tc := ⟨.hbm, 117, rfl⟩
abbrev main_c_5 : Ref sig .tc := ⟨.hbm, 118, rfl⟩
abbrev main_v27 : Ref sig .tc := ⟨.hbm, 119, rfl⟩
abbrev main_v28 : Ref sig .tc := ⟨.hbm, 120, rfl⟩
abbrev main_c_6 : Ref sig .tc := ⟨.hbm, 121, rfl⟩
abbrev main_v29 : Ref sig .tc := ⟨.hbm, 122, rfl⟩
abbrev main_v30 : Ref sig .tc := ⟨.hbm, 123, rfl⟩
abbrev main_v31 : Ref sig .tc := ⟨.hbm, 124, rfl⟩
abbrev main_v32 : Ref sig .tc := ⟨.hbm, 125, rfl⟩
abbrev main_v33 : Ref sig .tc := ⟨.hbm, 126, rfl⟩
abbrev main_c_7 : Ref sig .tc := ⟨.hbm, 127, rfl⟩
abbrev main_v34 : Ref sig .tc := ⟨.hbm, 128, rfl⟩
abbrev main_v35 : Ref sig .tc := ⟨.hbm, 129, rfl⟩
abbrev main_c_8 : Ref sig .tc := ⟨.hbm, 130, rfl⟩
abbrev main_v36 : Ref sig .tc := ⟨.hbm, 131, rfl⟩
abbrev main_v37 : Ref sig .tc := ⟨.hbm, 132, rfl⟩
abbrev main_v38 : Ref sig .tc := ⟨.hbm, 133, rfl⟩
abbrev main_v39 : Ref sig .tc := ⟨.hbm, 134, rfl⟩
abbrev main_v40 : Ref sig .tc := ⟨.hbm, 135, rfl⟩
abbrev main_v41 : Ref sig .tc := ⟨.hbm, 136, rfl⟩
abbrev main_v42 : Ref sig .tc := ⟨.hbm, 137, rfl⟩
abbrev main_cst_9 : Ref sig .tc := ⟨.hbm, 138, rfl⟩
abbrev main_v43 : Ref sig .tc := ⟨.hbm, 139, rfl⟩
abbrev main_v44 : Ref sig .tc := ⟨.hbm, 140, rfl⟩
abbrev main_v45 : Ref sig .tc := ⟨.hbm, 141, rfl⟩
abbrev main_cst_10 : Ref sig .tc := ⟨.hbm, 142, rfl⟩
abbrev main_v46 : Ref sig .tc := ⟨.hbm, 143, rfl⟩
abbrev main_v47 : Ref sig .tc := ⟨.hbm, 144, rfl⟩
abbrev main_v48 : Ref sig .tc := ⟨.hbm, 145, rfl⟩
abbrev main_v49 : Ref sig .tc := ⟨.hbm, 146, rfl⟩
abbrev main_c_11 : Ref sig .tc := ⟨.hbm, 147, rfl⟩
abbrev main_v50 : Ref sig .tc := ⟨.hbm, 148, rfl⟩
abbrev main_v51 : Ref sig .tc := ⟨.hbm, 149, rfl⟩
abbrev main_c_12 : Ref sig .tc := ⟨.hbm, 150, rfl⟩
abbrev main_v52 : Ref sig .tc := ⟨.hbm, 151, rfl⟩
abbrev main_v53 : Ref sig .tc := ⟨.hbm, 152, rfl⟩
abbrev main_v54 : Ref sig .tc := ⟨.hbm, 153, rfl⟩
abbrev main_v55 : Ref sig .tc := ⟨.hbm, 154, rfl⟩
abbrev main_v56 : Ref sig .tc := ⟨.hbm, 155, rfl⟩
abbrev main_v57 : Ref sig .tc := ⟨.hbm, 156, rfl⟩
abbrev main_cst_13 : Ref sig .tc := ⟨.hbm, 157, rfl⟩
abbrev main_v58 : Ref sig .tc := ⟨.hbm, 158, rfl⟩
abbrev main_v59 : Ref sig .tc := ⟨.hbm, 159, rfl⟩
abbrev main_cst_14 : Ref sig .tc := ⟨.hbm, 160, rfl⟩
abbrev main_v60 : Ref sig .tc := ⟨.hbm, 161, rfl⟩
abbrev main_v61 : Ref sig .tc := ⟨.hbm, 162, rfl⟩
abbrev main_v62 : Ref sig .tc := ⟨.hbm, 163, rfl⟩
abbrev main_v63 : Ref sig .tc := ⟨.hbm, 164, rfl⟩
abbrev main_cst_15 : Ref sig .tc := ⟨.hbm, 165, rfl⟩
abbrev main_cst_16 : Ref sig .tc := ⟨.hbm, 166, rfl⟩
abbrev main_call4_v0 : Ref sig .tc := ⟨.hbm, 167, rfl⟩
abbrev main_call4_v1 : Ref sig .tc := ⟨.hbm, 168, rfl⟩
abbrev main_call4_v2 : Ref sig .tc := ⟨.hbm, 169, rfl⟩
abbrev main_call4_cst : Ref sig .tc := ⟨.hbm, 170, rfl⟩
abbrev main_call4_v3 : Ref sig .tc := ⟨.hbm, 171, rfl⟩
abbrev main_call4_v4 : Ref sig .tc := ⟨.hbm, 172, rfl⟩
abbrev main_call4_cst_0 : Ref sig .tc := ⟨.hbm, 173, rfl⟩
abbrev main_call4_v5 : Ref sig .tc := ⟨.hbm, 174, rfl⟩
abbrev main_call4_v6 : Ref sig .tc := ⟨.hbm, 175, rfl⟩
abbrev main_call4_v7 : Ref sig .tc := ⟨.hbm, 176, rfl⟩
abbrev main_call4_cst_1 : Ref sig .tc := ⟨.hbm, 177, rfl⟩
abbrev main_call4_v8 : Ref sig .tc := ⟨.hbm, 178, rfl⟩
abbrev main_call4_v9 : Ref sig .tc := ⟨.hbm, 179, rfl⟩
abbrev main_call4_v10 : Ref sig .tc := ⟨.hbm, 180, rfl⟩
abbrev main_call4_v11 : Ref sig .tc := ⟨.hbm, 181, rfl⟩
abbrev main_call4_v12 : Ref sig .tc := ⟨.hbm, 182, rfl⟩
abbrev main_call4_v13 : Ref sig .tc := ⟨.hbm, 183, rfl⟩
abbrev main_call4_v14 : Ref sig .tc := ⟨.hbm, 184, rfl⟩
abbrev main_call4_v15 : Ref sig .tc := ⟨.hbm, 185, rfl⟩
abbrev main_call4_v16 : Ref sig .tc := ⟨.hbm, 186, rfl⟩
abbrev main_v64 : Ref sig .tc := ⟨.hbm, 187, rfl⟩
abbrev main_v65 : Ref sig .tc := ⟨.hbm, 188, rfl⟩
abbrev main_v66 : Ref sig .tc := ⟨.hbm, 189, rfl⟩
abbrev main_v67 : Ref sig .tc := ⟨.hbm, 190, rfl⟩
abbrev main_v68 : Ref sig .tc := ⟨.hbm, 191, rfl⟩
abbrev main_v69 : Ref sig .tc := ⟨.hbm, 192, rfl⟩
abbrev main_v70 : Ref sig .tc := ⟨.hbm, 193, rfl⟩
abbrev main_v71 : Ref sig .tc := ⟨.hbm, 194, rfl⟩
abbrev main_cst_17 : Ref sig .tc := ⟨.hbm, 195, rfl⟩
abbrev main_v72 : Ref sig .tc := ⟨.hbm, 196, rfl⟩
abbrev main_v73 : Ref sig .tc := ⟨.hbm, 197, rfl⟩
abbrev main_v74 : Ref sig .tc := ⟨.hbm, 198, rfl⟩
abbrev main_v75 : Ref sig .tc := ⟨.hbm, 199, rfl⟩
abbrev main_v76 : Ref sig .tc := ⟨.hbm, 200, rfl⟩
abbrev main_v77 : Ref sig .tc := ⟨.hbm, 201, rfl⟩
abbrev main_v78 : Ref sig .tc := ⟨.hbm, 202, rfl⟩
abbrev main_cst_18 : Ref sig .tc := ⟨.hbm, 203, rfl⟩
abbrev main_v79 : Ref sig .tc := ⟨.hbm, 204, rfl⟩
abbrev main_v80 : Ref sig .tc := ⟨.hbm, 205, rfl⟩
abbrev main_v81 : Ref sig .tc := ⟨.hbm, 206, rfl⟩
abbrev main_v82 : Ref sig .tc := ⟨.hbm, 207, rfl⟩
abbrev main_v83 : Ref sig .tc := ⟨.hbm, 208, rfl⟩
abbrev main_v84 : Ref sig .tc := ⟨.hbm, 209, rfl⟩
abbrev main_v85 : Ref sig .tc := ⟨.hbm, 210, rfl⟩
abbrev main_c_19 : Ref sig .tc := ⟨.hbm, 211, rfl⟩
abbrev main_c_20 : Ref sig .tc := ⟨.hbm, 212, rfl⟩
abbrev main_call5_v0 : Ref sig .tc := ⟨.hbm, 213, rfl⟩
abbrev main_call5_v1 : Ref sig .tc := ⟨.hbm, 214, rfl⟩
abbrev main_call5_v2 : Ref sig .tc := ⟨.hbm, 215, rfl⟩
abbrev main_call5_v3 : Ref sig .tc := ⟨.hbm, 216, rfl⟩
abbrev main_call5_v4 : Ref sig .tc := ⟨.hbm, 217, rfl⟩
abbrev main_v86 : Ref sig .tc := ⟨.hbm, 218, rfl⟩
abbrev main_v87 : Ref sig .tc := ⟨.hbm, 219, rfl⟩
abbrev main_c_21 : Ref sig .tc := ⟨.hbm, 220, rfl⟩
abbrev main_c_22 : Ref sig .tc := ⟨.hbm, 221, rfl⟩
abbrev main_call6_v0 : Ref sig .tc := ⟨.hbm, 222, rfl⟩
abbrev main_call6_v1 : Ref sig .tc := ⟨.hbm, 223, rfl⟩
abbrev main_call6_v2 : Ref sig .tc := ⟨.hbm, 224, rfl⟩
abbrev main_call6_v3 : Ref sig .tc := ⟨.hbm, 225, rfl⟩
abbrev main_call6_v4 : Ref sig .tc := ⟨.hbm, 226, rfl⟩
abbrev main_v88 : Ref sig .tc := ⟨.hbm, 227, rfl⟩
abbrev main_cst_23 : Ref sig .tc := ⟨.hbm, 228, rfl⟩
abbrev main_v89 : Ref sig .tc := ⟨.hbm, 229, rfl⟩
abbrev main_v90 : Ref sig .tc := ⟨.hbm, 230, rfl⟩
abbrev main_c_24 : Ref sig .tc := ⟨.hbm, 231, rfl⟩
abbrev main_c_25 : Ref sig .tc := ⟨.hbm, 232, rfl⟩
abbrev main_call7_v0 : Ref sig .tc := ⟨.hbm, 233, rfl⟩
abbrev main_call7_v1 : Ref sig .tc := ⟨.hbm, 234, rfl⟩
abbrev main_call7_v2 : Ref sig .tc := ⟨.hbm, 235, rfl⟩
abbrev main_call7_v3 : Ref sig .tc := ⟨.hbm, 236, rfl⟩
abbrev main_call7_v4 : Ref sig .tc := ⟨.hbm, 237, rfl⟩
abbrev main_v91 : Ref sig .tc := ⟨.hbm, 238, rfl⟩
abbrev main_cst_26 : Ref sig .tc := ⟨.hbm, 239, rfl⟩
abbrev main_v92 : Ref sig .tc := ⟨.hbm, 240, rfl⟩
abbrev main_v93 : Ref sig .tc := ⟨.hbm, 241, rfl⟩
abbrev main_c_27 : Ref sig .tc := ⟨.hbm, 242, rfl⟩
abbrev main_c_28 : Ref sig .tc := ⟨.hbm, 243, rfl⟩
abbrev main_call8_v0 : Ref sig .tc := ⟨.hbm, 244, rfl⟩
abbrev main_call8_v1 : Ref sig .tc := ⟨.hbm, 245, rfl⟩
abbrev main_call8_v2 : Ref sig .tc := ⟨.hbm, 246, rfl⟩
abbrev main_call8_v3 : Ref sig .tc := ⟨.hbm, 247, rfl⟩
abbrev main_call8_v4 : Ref sig .tc := ⟨.hbm, 248, rfl⟩
abbrev main_v94 : Ref sig .tc := ⟨.hbm, 249, rfl⟩
abbrev main_v95 : Ref sig .tc := ⟨.hbm, 250, rfl⟩
abbrev main_v96 : Ref sig .tc := ⟨.hbm, 251, rfl⟩
abbrev main_c_29 : Ref sig .tc := ⟨.hbm, 252, rfl⟩
abbrev main_v97 : Ref sig .tc := ⟨.hbm, 253, rfl⟩
abbrev main_v98 : Ref sig .tc := ⟨.hbm, 254, rfl⟩
abbrev main_v99 : Ref sig .tc := ⟨.hbm, 255, rfl⟩
abbrev main_c_30 : Ref sig .tc := ⟨.hbm, 256, rfl⟩
abbrev main_v100 : Ref sig .tc := ⟨.hbm, 257, rfl⟩
abbrev main_v101 : Ref sig .tc := ⟨.hbm, 258, rfl⟩
abbrev main_v102 : Ref sig .tc := ⟨.hbm, 259, rfl⟩
abbrev main_v103 : Ref sig .tc := ⟨.hbm, 260, rfl⟩
abbrev main_v104 : Ref sig .tc := ⟨.hbm, 261, rfl⟩
abbrev main_v105 : Ref sig .tc := ⟨.hbm, 262, rfl⟩
abbrev main_v106 : Ref sig .tc := ⟨.hbm, 263, rfl⟩
abbrev main_c_31 : Ref sig .tc := ⟨.hbm, 264, rfl⟩
abbrev main_v107 : Ref sig .tc := ⟨.hbm, 265, rfl⟩
abbrev main_v108 : Ref sig .tc := ⟨.hbm, 266, rfl⟩
abbrev main_v109 : Ref sig .tc := ⟨.hbm, 267, rfl⟩
abbrev main_v110 : Ref sig .tc := ⟨.hbm, 268, rfl⟩
abbrev main_v111 : Ref sig .tc := ⟨.hbm, 269, rfl⟩
abbrev main_v112 : Ref sig .tc := ⟨.hbm, 270, rfl⟩
abbrev main_v113 : Ref sig .tc := ⟨.hbm, 271, rfl⟩
abbrev main_c_32 : Ref sig .tc := ⟨.hbm, 272, rfl⟩
abbrev main_v114 : Ref sig .tc := ⟨.hbm, 273, rfl⟩
abbrev main_v115 : Ref sig .tc := ⟨.hbm, 274, rfl⟩
abbrev main_v116 : Ref sig .tc := ⟨.hbm, 275, rfl⟩
abbrev main_v117 : Ref sig .tc := ⟨.hbm, 276, rfl⟩
abbrev main_v118 : Ref sig .tc := ⟨.hbm, 277, rfl⟩
abbrev main_v119 : Ref sig .tc := ⟨.hbm, 278, rfl⟩
abbrev main_v120 : Ref sig .tc := ⟨.hbm, 279, rfl⟩
abbrev main_c_33 : Ref sig .tc := ⟨.hbm, 280, rfl⟩
abbrev main_v121 : Ref sig .tc := ⟨.hbm, 281, rfl⟩
abbrev main_v122 : Ref sig .tc := ⟨.hbm, 282, rfl⟩
abbrev main_v123 : Ref sig .tc := ⟨.hbm, 283, rfl⟩
abbrev main_v124 : Ref sig .tc := ⟨.hbm, 284, rfl⟩
abbrev main_v125 : Ref sig .tc := ⟨.hbm, 285, rfl⟩
abbrev main_v126 : Ref sig .tc := ⟨.hbm, 286, rfl⟩
abbrev main_v127 : Ref sig .tc := ⟨.hbm, 287, rfl⟩
abbrev main_v128 : Ref sig .tc := ⟨.hbm, 288, rfl⟩
abbrev main_v129 : Ref sig .tc := ⟨.hbm, 289, rfl⟩
abbrev main_v130 : Ref sig .tc := ⟨.hbm, 290, rfl⟩
abbrev main_v131 : Ref sig .tc := ⟨.hbm, 291, rfl⟩
abbrev main_v132 : Ref sig .tc := ⟨.hbm, 292, rfl⟩
abbrev main_v133 : Ref sig .tc := ⟨.hbm, 293, rfl⟩
abbrev main_v134 : Ref sig .tc := ⟨.hbm, 294, rfl⟩
abbrev main_v135 : Ref sig .tc := ⟨.hbm, 295, rfl⟩
abbrev main_v136 : Ref sig .tc := ⟨.hbm, 296, rfl⟩
abbrev main_v137 : Ref sig .tc := ⟨.hbm, 297, rfl⟩
abbrev main_v138 : Ref sig .tc := ⟨.hbm, 298, rfl⟩
abbrev main_v139 : Ref sig .tc := ⟨.hbm, 299, rfl⟩
abbrev main_v140 : Ref sig .tc := ⟨.hbm, 300, rfl⟩
abbrev main_v141 : Ref sig .tc := ⟨.hbm, 301, rfl⟩

abbrev nD : Nat := 1
abbrev τ : Topo := Topo.v7x

variable {F : FTy → Type} [FloatOps F]
-- ==== Proof.Pool.lean ====
module

public import Idealize.ShloMosaic.Lib.Pointwise.Index
public import Idealize.ShloMosaic.PureOps

@[expose] public section

noncomputable section

/-!
# What the pooled gather computes

For every row of boxes: 32 sampling points, each a blend of four pixels of the flattened image (the four
neighbours of a bilinear sample), and the largest of every four neighbouring points, channel by channel.
The definitions are generic in the float instance, and keep the order of the additions and of the maxima.
-/

namespace Cert.Proof.Pool

open Idealize.ShloMosaic

variable {F : FTy → Type} [FloatOps F]

/-- Point `p` of a row: the four corners' pixels, `p`, `32 + p`, `64 + p` and `96 + p` in the row's list, by their weights. -/
def mixed (w x : Fin 128 → F .f32) (p : Fin 32) : F .f32 :=
  FloatOps.addf (FloatOps.addf (FloatOps.addf (FloatOps.mulf (w ⟨p.val, by omega⟩) (x ⟨p.val, by omega⟩))
      (FloatOps.mulf (w ⟨32 + p.val, by omega⟩) (x ⟨32 + p.val, by omega⟩)))
      (FloatOps.mulf (w ⟨64 + p.val, by omega⟩) (x ⟨64 + p.val, by omega⟩)))
      (FloatOps.mulf (w ⟨96 + p.val, by omega⟩) (x ⟨96 + p.val, by omega⟩))

/-- Output point `g` of a row: the largest of the four points `4 g` … `4 g + 3`. -/
def pooled (w x : Fin 128 → F .f32) (g : Fin 8) : F .f32 :=
  FloatOps.maximumf (FloatOps.maximumf (FloatOps.maximumf (mixed w x ⟨4 * g.val, by omega⟩) (mixed w x ⟨4 * g.val + 1, by omega⟩))
    (mixed w x ⟨4 * g.val + 2, by omega⟩)) (mixed w x ⟨4 * g.val + 3, by omega⟩)

/-- A row of the result, laid out point by point, the 128 channels of a point side by side;
    `x j c` is channel `c` of the row's pixel `j`. -/
def poolRow (w : Fin 128 → F .f32) (x : Fin 128 → Fin 128 → F .f32) (n : Fin 1024) : F .f32 :=
  pooled w (fun j => x j ⟨n.val % 128, by omega⟩) ⟨n.val / 128, by omega⟩

/-- The pixel an index word names. -/
def pixel (b : BitVec 32) : Fin 32768 := ⟨b.toNat % 32768, by omega⟩

/-- The whole result from the image `X` (pixel, channel), the pixels `I` and the weights `W` of every row. -/
def poolAll (X : (⟨2, ![32768, 128]⟩ : Shape).Idx → F .f32) (I : (⟨2, ![4032, 128]⟩ : Shape).Idx → BitVec 32)
    (W : (⟨2, ![4032, 128]⟩ : Shape).Idx → F .f32) (l : Fin 4032) (n : Fin 1024) : F .f32 :=
  poolRow (fun j => W (ix2 l j)) (fun j c => X (ix2 (pixel (I (ix2 l j))) c)) n

end Cert.Proof.Pool

end
-- ==== Proof.Ideal.Value.lean ====
module

public import proofs.«01_k».proof.Defs
public import proofs.«01_k».proof.Proof.Pool
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.ValueLayout
public import Idealize.ShloMosaic.Lib.Tactic
public import proofs.«01_k».proof.Proof.Gen.KernelIdeal
public import proofs.«01_k».proof.Proof.Gen.KernelIdeal.Skeleton

@[expose] public section

noncomputable section

/-!
# The values of one trip of a tile's loop

A trip fetches a row of pixel numbers and a row of weights, gathers the row's 128 pixels, and stores the
row's 1024 results in 64 stores of 16. Here those 64 stores are one list, by recursion on their number, and
what they leave is the specification's row (`Pool.poolRow`).
-/

namespace Cert.Proof.Ideal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 1) fun p => (pcfgs (F := F) p).Adm
abbrev K : SparseCore.Cfg τ sig (ΛP (F := F)) 1 := sc (F := F)
abbrev 𝒱₀ : Variants := Variants.none
abbrev UH : Type := URounds (GSem nD τ sig) ℕ
abbrev UP : Type := URounds (GSem nD τ sig) Unit
abbrev UU : Type := UH × (UP × Counters)

local notation "𝕄" => MT nD τ sig (HIx 1) (Elt F) ℕ UU ℕ

local notation "xV" => (Memref.whole Cert.KernelIdeal.main_v1_scv : Memref Cert.KernelIdeal.sig Kind.scVector Space.hbm Cert.KernelIdeal.S32768x128 EltTy.f32)
local notation "iV" => (Memref.whole Cert.KernelIdeal.main_v2_scv : Memref Cert.KernelIdeal.sig Kind.scVector Space.hbm Cert.KernelIdeal.S4032x128 EltTy.i32)
local notation "wV" => (Memref.whole Cert.KernelIdeal.main_v3_scv : Memref Cert.KernelIdeal.sig Kind.scVector Space.hbm Cert.KernelIdeal.S4032x128 EltTy.f32)
local notation "oV" => (Memref.whole Cert.KernelIdeal.main_v4_scv : Memref Cert.KernelIdeal.sig Kind.scVector Space.hbm Cert.KernelIdeal.S4032x1024 EltTy.f32)
local notation "idxV" => (Memref.whole Cert.KernelIdeal.cc0_scratch0 : Memref Cert.KernelIdeal.sig Kind.scVector Space.vmem Cert.KernelIdeal.S128 EltTy.i32)
local notation "wtsV" => (Memref.whole Cert.KernelIdeal.cc0_scratch1 : Memref Cert.KernelIdeal.sig Kind.scVector Space.vmem Cert.KernelIdeal.S128 EltTy.f32)
local notation "rowsV" => (Memref.whole Cert.KernelIdeal.cc0_scratch2 : Memref Cert.KernelIdeal.sig Kind.scVector Space.vmem Cert.KernelIdeal.S128x128 EltTy.f32)
local notation "accV" => (Memref.whole Cert.KernelIdeal.cc0_scratch3 : Memref Cert.KernelIdeal.sig Kind.scVector Space.vmem Cert.KernelIdeal.S1024 EltTy.f32)

variable [FloatOps F]

variable (d : Dev nD) (L : grid0.Coords)

abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

/-- Row `k` of a tile's rows of the index table, as the body addresses it. -/
abbrev iRow (k : Fin k0_t1_loop.trips) : Memref sig .scVector .hbm S128 .i32 :=
  ((iV).slice (Rect.unit (s := S4032x128) (k0_off1 L k) S1x128.size (k0_off1_inb L k)) (fun _ => rfl)).squeeze S128 squeezes_S1x128_S128
abbrev wRow (k : Fin k0_t1_loop.trips) : Memref sig .scVector .hbm S128 .f32 :=
  ((wV).slice (Rect.unit (s := S4032x128) (k0_off1 L k) S1x128.size (k0_off1_inb L k)) (fun _ => rfl)).squeeze S128 squeezes_S1x128_S128
abbrev oRow (k : Fin k0_t1_loop.trips) : Memref sig .scVector .hbm S1024 .f32 :=
  ((oV).slice (Rect.unit (s := S4032x1024) (k0_off2 L k) S1x1024.size (k0_off2_inb L k)) (fun _ => rfl)).squeeze S1024 squeezes_S1x1024_S1024

theorem inb_of_row (I : Buf (Elt F) ((iV).view.loc (thr d L))) (hI : ∀ j : S4032x128.Idx, BitVec.toNat (w := 32) (I j) < 32768)
    (k : Fin k0_t1_loop.trips) (g0 : Buf (Elt F) ((idxV).view.loc (thr d L))) (pay : S128.Idx → Elt F .i32)
    (hpay : pay = (iRow L k).view.read (Elt F) I) :
    ∀ x, ((idxV).view.read (Elt F) (View.write (Elt F) (idxV).view g0 pay Finset.univ) x).toNat
      < S32768x128.size gathers_S32768x128_S128x128.axis := by
  subst hpay; intro x
  rw [View.write_whole_univ]
  simp only [Memref.view_whole, View.read_whole]
  rw [View.read_apply]
  exact hI _

theorem inb_acc (n : ℕ) (h : n < 64) : ∀ a, (![16 * n] : Fin 1 → ℕ) a + S16.size a ≤ S1024.size a := by
  intro a; match a with | 0 => show 16 * n + 16 ≤ 1024; omega
theorem inb_wts (n : Fin 8) : ∀ a, (![16 * n.val] : Fin 1 → ℕ) a + S16.size a ≤ S128.size a := by
  intro a; match a with | 0 => show 16 * n.val + 16 ≤ 128; omega
theorem inb_rows (r : Fin 128) (c : Fin 8) : ∀ a, (![r.val, 16 * c.val] : Fin 2 → ℕ) a + S1x16.size a ≤ S128x128.size a := by
  intro a; match a with
  | 0 => show r.val + 1 ≤ 128; omega
  | 1 => show 16 * c.val + 16 ≤ 128; omega
theorem slices_lane (n : ℕ) (h : n < 16) : S16.Slices ![n] S1 := by
  refine ⟨rfl, fun a => ?_⟩
  match a with | 0 => show n + 1 ≤ 16; omega

/-- Sixteen copies of word `j` of the weights' row. -/
def wLane (w : Fin 8 → Vec F S16 .f32) (j : Fin 128) : FVec F S16 .f32 :=
  broadcast S16 (extractAt ![0] (extractStridedSlice S1 ![j.val % 16]
    (shapeCast S16 (w ⟨j.val / 16, by omega⟩) shapeCasts_S16_S16) (slices_lane _ (by omega))) inpos_S1_p0)

/-- Sixteen channels of gathered pixel `j`. -/
def rLane (R : Fin 128 → Fin 8 → Vec F S1x16 .f32) (j : Fin 128) (c : Fin 8) : FVec F S16 .f32 :=
  shapeCast S16 (R j c) shapeCasts_S1x16_S16

/-- Sixteen channels of point `p`. -/
def cLane (R : Fin 128 → Fin 8 → Vec F S1x16 .f32) (w : Fin 8 → Vec F S16 .f32) (p : Fin 32) (c : Fin 8) : FVec F S16 .f32 :=
  addf (addf (addf (mulf (wLane w ⟨p.val, by omega⟩) (rLane R ⟨p.val, by omega⟩ c))
      (mulf (wLane w ⟨32 + p.val, by omega⟩) (rLane R ⟨32 + p.val, by omega⟩ c)))
      (mulf (wLane w ⟨64 + p.val, by omega⟩) (rLane R ⟨64 + p.val, by omega⟩ c)))
      (mulf (wLane w ⟨96 + p.val, by omega⟩) (rLane R ⟨96 + p.val, by omega⟩ c))

/-- What store `n` of a trip stores: sixteen channels of an output point. -/
def block (R : Fin 128 → Fin 8 → Vec F S1x16 .f32) (w : Fin 8 → Vec F S16 .f32) (n : ℕ) (h : n < 64) : FVec F S16 .f32 :=
  shapeCast S16 (maximumf (maximumf (maximumf
    (cLane R w ⟨4 * (n / 8), by omega⟩ ⟨n % 8, by omega⟩)
    (cLane R w ⟨4 * (n / 8) + 1, by omega⟩ ⟨n % 8, by omega⟩))
    (cLane R w ⟨4 * (n / 8) + 2, by omega⟩ ⟨n % 8, by omega⟩))
    (cLane R w ⟨4 * (n / 8) + 3, by omega⟩ ⟨n % 8, by omega⟩)) shapeCasts_S16_S16

/-- The first `n` stores of a trip, the latest first. -/
def blocks (R : Fin 128 → Fin 8 → Vec F S1x16 .f32) (w : Fin 8 → Vec F S16 .f32) :
    (n : ℕ) → n ≤ 64 → List (View.Piece (Elt F) S1024 .f32)
  | 0, _ => []
  | n + 1, h => ⟨Rect.unit ![16 * n] S16.size (inb_acc n h), block R w n h⟩ :: blocks R w n (Nat.le_of_succ_le h)

/-- What the loads of the weights' row read. -/
def wLoads (g : Buf (Elt F) ((wtsV).view.loc (thr d L))) (j : Fin 8) : Vec F S16 .f32 :=
  View.readAt (Elt F) (wtsV).view (Rect.unit (s := S128) ![16 * j.val] S16.size (inb_wts j)).toLoadRect g
/-- What the loads of the gathered rows read. -/
def rLoads (G : S128x128.Idx → F .f32) (j : Fin 128) (c : Fin 8) : Vec F S1x16 .f32 :=
  (rowsV).view.readCov [⟨Rect.whole cc0_scratch2.ty.shape, G⟩] (Rect.unit (s := S128x128) ![j.val, 16 * c.val] S1x16.size (inb_rows j c)).toLoadRect

theorem wLane_apply (w : Fin 8 → Vec F S16 .f32) (f : Fin 128 → F .f32)
    (hw : ∀ (j : Fin 8) (x : Fin 16), w j (ix1 x) = f ⟨16 * j.val + x.val, by omega⟩) (j : Fin 128) (x : S16.Idx) :
    wLane w j x = f j := by
  unfold wLane
  rw [shapeCast_self]
  refine (congrArg (w ⟨j.val / 16, by omega⟩) (eq_ix1 _)).trans ((hw _ _).trans (congrArg f (Fin.ext ?_)))
  show 16 * (j.val / 16) + (j.val % 16 + 0) = j.val
  omega

theorem rLane_apply (R : Fin 128 → Fin 8 → Vec F S1x16 .f32) (f : Fin 128 → Fin 128 → F .f32)
    (hR : ∀ (j : Fin 128) (c : Fin 8) (x : Fin 16), R j c (ix2 0 x) = f j ⟨16 * c.val + x.val, by omega⟩)
    (j : Fin 128) (c : Fin 8) (x : Fin 16) : rLane R j c (ix1 x) = f j ⟨16 * c.val + x.val, by omega⟩ := by
  unfold rLane
  exact (ValueIdx.shapeCast_1a_a_apply _ _ x).trans (hR j c x)

theorem block_apply (R : Fin 128 → Fin 8 → Vec F S1x16 .f32) (w : Fin 8 → Vec F S16 .f32) (fw : Fin 128 → F .f32)
    (f : Fin 128 → Fin 128 → F .f32)
    (hw : ∀ (j : Fin 8) (x : Fin 16), w j (ix1 x) = fw ⟨16 * j.val + x.val, by omega⟩)
    (hR : ∀ (j : Fin 128) (c : Fin 8) (x : Fin 16), R j c (ix2 0 x) = f j ⟨16 * c.val + x.val, by omega⟩)
    (n : ℕ) (h : n < 64) (x : Fin 16) : block R w n h (ix1 x) = Pool.poolRow fw f ⟨16 * n + x.val, by omega⟩ := by
  have hx : (⟨(16 * n + x.val) % 128, by omega⟩ : Fin 128) = ⟨16 * (n % 8) + x.val, by omega⟩ := Fin.ext (by show (16 * n + x.val) % 128 = 16 * (n % 8) + x.val; omega)
  have hg : (⟨(16 * n + x.val) / 128, by omega⟩ : Fin 8) = ⟨n / 8, by omega⟩ := Fin.ext (by show (16 * n + x.val) / 128 = n / 8; omega)
  unfold block Pool.poolRow
  rw [shapeCast_self, hx, hg]
  simp only [maximumf, cLane, addf, mulf, wLane_apply w fw hw, rLane_apply R f hR]
  rfl

/-- The stores leave, at every word they cover, the specification's row. -/
theorem blocks_agree (R : Fin 128 → Fin 8 → Vec F S1x16 .f32) (w : Fin 8 → Vec F S16 .f32) (fw : Fin 128 → F .f32)
    (f : Fin 128 → Fin 128 → F .f32)
    (hw : ∀ (j : Fin 8) (x : Fin 16), w j (ix1 x) = fw ⟨16 * j.val + x.val, by omega⟩)
    (hR : ∀ (j : Fin 128) (c : Fin 8) (x : Fin 16), R j c (ix2 0 x) = f j ⟨16 * c.val + x.val, by omega⟩) :
    ∀ (n : ℕ) (h : n ≤ 64), ∀ p ∈ blocks R w n h, ∀ x, p.2 x = Pool.poolRow fw f (p.1.emb x 0)
  | 0, _, p, hp, _ => nomatch hp
  | n + 1, h, p, hp, x => by
      rcases List.mem_cons.mp hp with rfl | hp
      · refine (congrArg (block R w n h) (eq_ix1 x)).trans ((block_apply R w fw f hw hR n h _).trans (congrArg _ (Fin.ext ?_)))
        show 16 * n + (x 0).val = 16 * n + 1 * (x 0).val
        omega
      · exact blocks_agree R w fw f hw hR n _ p hp x

theorem blocks_cover (R : Fin 128 → Fin 8 → Vec F S1x16 .f32) (w : Fin 8 → Vec F S16 .f32) :
    ∀ (n : ℕ) (h : n ≤ 64) (y : S1024.Idx), (y 0).val < 16 * n → ∃ p ∈ blocks R w n h, y ∈ p.1.set
  | 0, _, _, hy => absurd hy (by omega)
  | n + 1, h, y, hy => by
      by_cases hlt : (y 0).val < 16 * n
      · obtain ⟨p, hp, hm⟩ := blocks_cover R w n (Nat.le_of_succ_le h) y hlt
        exact ⟨p, List.mem_cons_of_mem _ hp, hm⟩
      · refine ⟨_, List.mem_cons_self, ?_⟩
        rw [Rect.mem_set_unit]
        intro a
        match a with
        | 0 => exact ⟨by show 16 * n ≤ (y 0).val; omega, by show (y 0).val < 16 * n + 16; omega⟩

theorem wLoads_apply (g : Buf (Elt F) ((wtsV).view.loc (thr d L))) (j : Fin 8) (x : Fin 16) :
    wLoads d L g j (ix1 x) = (wtsV).view.read (Elt F) g (ix1 ⟨16 * j.val + x.val, by omega⟩) := by
  refine congrArg ((wtsV).view.read (Elt F) g) (funext fun a => Fin.ext ?_)
  match a with
  | 0 => show 16 * j.val + 1 * x.val = 16 * j.val + x.val; omega

theorem rLoads_apply (G : S128x128.Idx → F .f32) (j : Fin 128) (c : Fin 8) (x : Fin 16) :
    rLoads G j c (ix2 0 x) = G (ix2 j ⟨16 * c.val + x.val, by omega⟩) := by
  show (rowsV).view.read (Elt F) ((rowsV).view.writes (Elt F) _ [⟨Rect.whole cc0_scratch2.ty.shape, G⟩]) _ = _
  rw [View.read_writes_whole]
  refine congrArg G (funext fun a => Fin.ext ?_)
  match a with
  | 0 => show j.val + 1 * 0 = j.val; omega
  | 1 => show 16 * c.val + 1 * x.val = 16 * c.val + x.val; omega

/-- What a trip's stores leave in the staging row, from the gathered rows `G` and the weights' row `g`. -/
theorem staged (G : S128x128.Idx → F .f32) (g : Buf (Elt F) ((wtsV).view.loc (thr d L))) (g3 : Buf (Elt F) ((accV).view.loc (thr d L)))
    (n : Fin 1024) :
    (accV).view.read (Elt F) ((accV).view.writes (Elt F) g3 (blocks (rLoads G) (wLoads d L g) 64 (Nat.le_refl _))) (ix1 n)
      = Pool.poolRow (fun j => (wtsV).view.read (Elt F) g (ix1 j)) (fun j c => G (ix2 j c)) n :=
  View.read_writes_apply_of_pieces (accV).view g3 (fun y : S1024.Idx => Pool.poolRow (fun j => (wtsV).view.read (Elt F) g (ix1 j)) (fun j c => G (ix2 j c)) (y 0))
    _ (blocks_agree _ _ _ _ (wLoads_apply d L g) (rLoads_apply G) 64 _) (ix1 n) (blocks_cover _ _ 64 _ _ (by show n.val < 1024; omega))

/-- The row of the tables and of the result that a tile's trip `k` is of. -/
def rowNo (k : Fin k0_t1_loop.trips) : Fin 4032 := ⟨252 * (L 1).val + 126 * (L 0).val + k.val, by
  have h1 : (L 1).val < 16 := (L 1).isLt
  have h0 : (L 0).val < 2 := (L 0).isLt
  have hk : k.val < 126 := k.isLt.trans_le k0_t1_abs.2.1
  omega⟩

theorem iRow_emb (k : Fin k0_t1_loop.trips) (j : Fin 128) : (iRow L k).view.emb (ix1 j) = ix2 (rowNo L k) j := by
  have hr : Shape.reshapeEquiv (Shape.Squeezes.numel_eq squeezes_S1x128_S128) (ix1 j) = (ix2 (0 : Fin 1) j : S1x128.Idx) :=
    Shape.reshapeEquiv_eq_of_rowMajor _ (by
      rw [Shape.rowMajor_val_two, Shape.rowMajor_val_one]; show 0 * 128 + j.val = j.val; omega)
  show (Rect.unit (s := S4032x128) (k0_off1 L k) S1x128.size (k0_off1_inb L k)).emb (Shape.reshapeEquiv (Shape.Squeezes.numel_eq squeezes_S1x128_S128) (ix1 j)) = _
  rw [hr]
  have ho := k0_off1_eq L k
  funext x; refine Fin.ext ?_
  match x with
  | 0 => show k0_off1 L k 0 + 1 * 0 = _; rw [ho]; rfl
  | 1 => show k0_off1 L k 1 + 1 * j.val = _; rw [ho]; show 0 + 1 * j.val = j.val; omega
theorem wRow_emb (k : Fin k0_t1_loop.trips) (j : Fin 128) : (wRow L k).view.emb (ix1 j) = ix2 (rowNo L k) j := by
  have hr : Shape.reshapeEquiv (Shape.Squeezes.numel_eq squeezes_S1x128_S128) (ix1 j) = (ix2 (0 : Fin 1) j : S1x128.Idx) :=
    Shape.reshapeEquiv_eq_of_rowMajor _ (by
      rw [Shape.rowMajor_val_two, Shape.rowMajor_val_one]; show 0 * 128 + j.val = j.val; omega)
  show (Rect.unit (s := S4032x128) (k0_off1 L k) S1x128.size (k0_off1_inb L k)).emb (Shape.reshapeEquiv (Shape.Squeezes.numel_eq squeezes_S1x128_S128) (ix1 j)) = _
  rw [hr]
  have ho := k0_off1_eq L k
  funext x; refine Fin.ext ?_
  match x with
  | 0 => show k0_off1 L k 0 + 1 * 0 = _; rw [ho]; rfl
  | 1 => show k0_off1 L k 1 + 1 * j.val = _; rw [ho]; show 0 + 1 * j.val = j.val; omega
theorem oRow_emb (k : Fin k0_t1_loop.trips) (n : Fin 1024) : (oRow L k).view.emb (ix1 n) = ix2 (rowNo L k) n := by
  have hr : Shape.reshapeEquiv (Shape.Squeezes.numel_eq squeezes_S1x1024_S1024) (ix1 n) = (ix2 (0 : Fin 1) n : S1x1024.Idx) :=
    Shape.reshapeEquiv_eq_of_rowMajor _ (by
      rw [Shape.rowMajor_val_two, Shape.rowMajor_val_one]; show 0 * 1024 + n.val = n.val; omega)
  show (Rect.unit (s := S4032x1024) (k0_off2 L k) S1x1024.size (k0_off2_inb L k)).emb (Shape.reshapeEquiv (Shape.Squeezes.numel_eq squeezes_S1x1024_S1024) (ix1 n)) = _
  rw [hr]
  have ho := k0_off2_eq L k
  funext x; refine Fin.ext ?_
  match x with
  | 0 => show k0_off2 L k 0 + 1 * 0 = _; rw [ho]; rfl
  | 1 => show k0_off2 L k 1 + 1 * n.val = _; rw [ho]; show 0 + 1 * n.val = n.val; omega

end Cert.Proof.Ideal

end
-- ==== Proof.Ideal.Trip.lean ====
module

public import proofs.«01_k».proof.Defs
public import proofs.«01_k».proof.Proof.Ideal.Value
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.ValueLayout
public import Idealize.ShloMosaic.Lib.Tactic
public import proofs.«01_k».proof.Proof.Gen.KernelIdeal
public import proofs.«01_k».proof.Proof.Gen.KernelIdeal.Skeleton

@[expose] public section

noncomputable section

/-!
# One tile's task

The loop's state before trip `k`, one trip from it to the next by symbolic execution, and the loop: a tile
leaves its 126 rows of the result at the specification.
-/

namespace Cert.Proof.Ideal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.KernelIdeal.main_v1_scv : Memref Cert.KernelIdeal.sig Kind.scVector Space.hbm Cert.KernelIdeal.S32768x128 EltTy.f32)
local notation "iV" => (Memref.whole Cert.KernelIdeal.main_v2_scv : Memref Cert.KernelIdeal.sig Kind.scVector Space.hbm Cert.KernelIdeal.S4032x128 EltTy.i32)
local notation "wV" => (Memref.whole Cert.KernelIdeal.main_v3_scv : Memref Cert.KernelIdeal.sig Kind.scVector Space.hbm Cert.KernelIdeal.S4032x128 EltTy.f32)
local notation "oV" => (Memref.whole Cert.KernelIdeal.main_v4_scv : Memref Cert.KernelIdeal.sig Kind.scVector Space.hbm Cert.KernelIdeal.S4032x1024 EltTy.f32)
local notation "idxV" => (Memref.whole Cert.KernelIdeal.cc0_scratch0 : Memref Cert.KernelIdeal.sig Kind.scVector Space.vmem Cert.KernelIdeal.S128 EltTy.i32)
local notation "wtsV" => (Memref.whole Cert.KernelIdeal.cc0_scratch1 : Memref Cert.KernelIdeal.sig Kind.scVector Space.vmem Cert.KernelIdeal.S128 EltTy.f32)
local notation "rowsV" => (Memref.whole Cert.KernelIdeal.cc0_scratch2 : Memref Cert.KernelIdeal.sig Kind.scVector Space.vmem Cert.KernelIdeal.S128x128 EltTy.f32)
local notation "accV" => (Memref.whole Cert.KernelIdeal.cc0_scratch3 : Memref Cert.KernelIdeal.sig Kind.scVector Space.vmem Cert.KernelIdeal.S1024 EltTy.f32)

variable [FloatOps F]

variable (d : Dev nD) (L : grid0.Coords)

/-- The first of a tile's 126 rows. -/
def base (L : grid0.Coords) : ℕ := 252 * (L 1).val + 126 * (L 0).val

/-- A tile's part of the result. -/
def part (L : grid0.Coords) : Finset S4032x1024.Idx := Finset.univ.filter fun y => base L ≤ (y 0).val ∧ (y 0).val < base L + 126

/-- The specification as contents of the result's buffer. -/
def pooledBuf (X : S32768x128.Idx → F .f32) (I : S4032x128.Idx → BitVec 32) (Wt : S4032x128.Idx → F .f32) : S4032x1024.Idx → F .f32 :=
  fun y => Pool.poolAll X I Wt (y 0) (y 1)

/-- The result's buffer before trip `k`: the rows done at the specification, the others as they were. -/
def outAt (L : grid0.Coords) (s o : S4032x1024.Idx → F .f32) (k : ℕ) : S4032x1024.Idx → F .f32 :=
  fun y => if (y 0).val < base L + k then s y else o y

theorem mem_oRow (k : Fin k0_t1_loop.trips) (y : S4032x1024.Idx) : y ∈ (oRow L k).view.set ↔ (y 0).val = base L + k.val := by
  rw [View.set, Finset.mem_map]
  constructor
  · rintro ⟨x, -, rfl⟩
    have hx : x = ix1 (x 0) := eq_ix1 x
    rw [hx]
    exact congrArg (fun z : S4032x1024.Idx => (z 0).val) (oRow_emb L k (x 0))
  · intro h
    refine ⟨ix1 (y 1), Finset.mem_univ _, (oRow_emb L k (y 1)).trans ?_⟩
    refine ((eq_ix2 y).trans (congrArg (fun a => ix2 a (y 1)) (Fin.ext ?_))).symm
    exact h

theorem oRow_subset (k : Fin k0_t1_loop.trips) : (oRow L k).view.set ⊆ part L := by
  intro y hy
  have h := (mem_oRow L k y).mp hy
  have hk : k.val < 126 := k.isLt.trans_le k0_t1_abs.2.1
  exact Finset.mem_filter.mpr ⟨Finset.mem_univ _, by omega, by omega⟩

/-- The row written out is the row of the next state. -/
theorem row_done (k : Fin k0_t1_loop.trips) (s o : S4032x1024.Idx → F .f32) (pay : S1024.Idx → F .f32)
    (hpay : ∀ n : Fin 1024, pay (ix1 n) = s (ix2 (rowNo L k) n)) :
    ∀ y ∈ (oRow L k).view.set, (oRow L k).view.writes (Elt F) (outAt L s o k.val) [⟨Rect.whole S1024, pay⟩] y = outAt L s o (k.val + 1) y := by
  intro y hy
  have hy0 := (mem_oRow L k y).mp hy
  obtain ⟨x, -, rfl⟩ := Finset.mem_map.mp hy
  have hr := congrFun (View.read_writes_whole (Val := Elt F) (oRow L k).view (outAt L s o k.val) pay) x
  have hx : x = ix1 (n0 := 1024) (x 0) := eq_ix1 x
  refine hr.trans ?_
  rw [outAt, if_pos (by omega)]
  exact (congrArg pay hx).trans ((hpay _).trans (congrArg s ((congrArg (oRow L k).view.emb hx).trans (oRow_emb L k (x 0))).symm))

theorem row_kept (k : Fin k0_t1_loop.trips) (s o : S4032x1024.Idx → F .f32) :
    ∀ y ∈ part L \ (oRow L k).view.set, outAt L s o k.val y = outAt L s o (k.val + 1) y := by
  intro y hy
  have hne : ¬ (y 0).val = base L + k.val := fun h => (Finset.mem_sdiff.mp hy).2 ((mem_oRow L k y).mpr h)
  unfold outAt
  by_cases h : (y 0).val < base L + k.val
  · rw [if_pos h, if_pos (by omega)]
  · rw [if_neg h, if_neg (by omega)]

/-- The gathered pixel `j` of a trip, channel `c`. -/
theorem gathered (X : S32768x128.Idx → F .f32) (v : S128.Idx → BitVec 32) (hn) (h)
    (j c : Fin 128) :
    SparseCore.gatherPayload gathers_S32768x128_S128x128
        (View.read (Elt F) ((xV).slice (Rect.unit (s := S32768x128) ![0, 0] S32768x128.size inb_S32768x128_S32768x128_0_0) (fun _ => rfl)).view X)
        (SparseCore.rows (F := F) v hn h) (ix2 j c)
      = X (ix2 (Pool.pixel (v (ix1 j))) c) := by
  refine congrArg X (funext fun a => Fin.ext ?_)
  match a with
  | 0 =>
    have h0 : v (S128.rowMajor.symm (Fin.cast hn.symm j)) = v (ix1 j) := congrArg v ((Equiv.symm_apply_eq _).mpr
      (Fin.ext ((Shape.rowMajor_val_one (d := ![128]) (ix1 j)).symm)))
    show 0 + 1 * (gathers_S32768x128_S128x128.idx (SparseCore.rows (F := F) v hn h) (ix2 j c) 0).val = (v (ix1 j)).toNat % 32768
    have h1 := h (S128.rowMajor.symm (Fin.cast hn.symm j))
    have e : (gathers_S32768x128_S128x128.idx (SparseCore.rows (F := F) v hn h) (ix2 j c) 0).val
        = (v (S128.rowMajor.symm (Fin.cast hn.symm j))).toNat :=
      congrArg Fin.val (Shape.Gathers.idx_axis gathers_S32768x128_S128x128 (SparseCore.rows (F := F) v hn h) (ix2 j c))
    rw [h0] at h1 e
    have h2 : (v (ix1 j)).toNat < 32768 := h1
    rw [e, Nat.mod_eq_of_lt h2]; omega
  | 1 =>
    have e := Shape.Gathers.idx_of_ne gathers_S32768x128_S128x128 (SparseCore.rows (F := F) v hn h) (ix2 j c) 1 (by decide)
    show 0 + 1 * (gathers_S32768x128_S128x128.idx (SparseCore.rows (F := F) v hn h) (ix2 j c) 1).val = c.val
    rw [e]; show 0 + 1 * c.val = c.val; omega

/-- What a trip's stores leave in the staging row: the specification's row. -/
theorem row_eq (X : S32768x128.Idx → F .f32) (I : S4032x128.Idx → BitVec 32) (Wt : S4032x128.Idx → F .f32) (k : Fin k0_t1_loop.trips)
    (g0 : Buf (Elt F) ((idxV).view.loc (thr d L))) (g1 : Buf (Elt F) ((wtsV).view.loc (thr d L))) (g3 : Buf (Elt F) ((accV).view.loc (thr d L)))
    (hn) (h) (n : Fin 1024) :
    (accV).view.read (Elt F) ((accV).view.writes (Elt F) g3
        (blocks (rLoads (SparseCore.gatherPayload gathers_S32768x128_S128x128
            (View.read (Elt F) ((xV).slice (Rect.unit (s := S32768x128) ![0, 0] S32768x128.size inb_S32768x128_S32768x128_0_0) (fun _ => rfl)).view X)
            (SparseCore.rows (F := F) ((idxV).view.read (Elt F) (View.write (Elt F) (idxV).view g0 ((iRow L k).view.read (Elt F) I) Finset.univ)) hn h)))
          (wLoads d L (View.write (Elt F) (wtsV).view g1 ((wRow L k).view.read (Elt F) Wt) Finset.univ)) 64 (Nat.le_refl _))) (ix1 n)
      = pooledBuf X I Wt (ix2 (rowNo L k) n) := by
  rw [staged]
  have hw : ∀ j, (wtsV).view.read (Elt F) (View.write (Elt F) (wtsV).view g1 ((wRow L k).view.read (Elt F) Wt) Finset.univ) (ix1 j)
      = Wt (ix2 (rowNo L k) j) := fun j => by
    rw [View.write_whole_univ]
    exact congrArg Wt (wRow_emb L k j)
  have hi : ∀ j, (idxV).view.read (Elt F) (View.write (Elt F) (idxV).view g0 ((iRow L k).view.read (Elt F) I) Finset.univ) (ix1 j)
      = I (ix2 (rowNo L k) j) := fun j => by
    rw [View.write_whole_univ]
    exact congrArg I (iRow_emb L k j)
  exact congrArg₂ (fun w x => Pool.poolRow w x n) (funext hw) (funext fun j => funext fun c =>
    (gathered X _ hn h j c).trans (congrArg (fun b => X (ix2 (Pool.pixel b) c)) (hi j)))

/-- The loop's state before trip `k`. -/
def state (O : CellTallies nD τ sig (HIx 1)) (W : Waits sig (HIx 1)) (q : PosShare TreeShare)
    (X : Buf (Elt F) ((xV).view.loc (thr d L))) (I : Buf (Elt F) ((iV).view.loc (thr d L))) (Wt : Buf (Elt F) ((wV).view.loc (thr d L)))
    (o : Buf (Elt F) ((oV).view.loc (thr d L))) (k : ℕ) (_ : PUnit) : sProp 𝕄 :=
  iprop(Transfers.MayWaits (thr d L) (default : HIx 1) O
    ∗ ((xV).view.loc (thr d L) ↦{q} X)
    ∗ ((iV).view.loc (thr d L) ↦{q} I)
    ∗ ((wV).view.loc (thr d L) ↦{q} Wt)
    ∗ ((oV).view.loc (thr d L) ↦[part L]{fullShare} outAt L (pooledBuf X I Wt) o k)
    ∗ (∃ g0, (idxV).view.loc (thr d L) ↦{fullShare} g0)
    ∗ (∃ g1, (wtsV).view.loc (thr d L) ↦{fullShare} g1)
    ∗ (∃ g2, (rowsV).view.loc (thr d L) ↦{fullShare} g2)
    ∗ (∃ g3, (accV).view.loc (thr d L) ↦{fullShare} g3)
    ∗ semVal (thr d L, SemLoc.dma cc0_scratch4.sem) 0
    ∗ semVal (thr d L, SemLoc.dma cc0_scoped0.sem) 0
    ∗ semVal (thr d L, SemLoc.dma cc0_scoped1.sem) 0
    ∗ semVal (thr d L, SemLoc.dma cc0_scoped2.sem) 0
    ∗ ∃ W', ⌜∀ p ∈ W', p ∈ W ∨ p.2 = none⌝ ∗ owes (thr d L) O W')

set_option maxRecDepth 20000 in
set_option maxHeartbeats 4000000 in
/-- One trip: a row of pixel numbers and a row of weights in, the gather, the 64 stores, the row of the result out. -/
theorem trip (O : CellTallies nD τ sig (HIx 1)) (W : Waits sig (HIx 1)) (q : PosShare TreeShare)
    (X : Buf (Elt F) ((xV).view.loc (thr d L))) (I : Buf (Elt F) ((iV).view.loc (thr d L))) (Wt : Buf (Elt F) ((wV).view.loc (thr d L)))
    (hI : ∀ j : S4032x128.Idx, BitVec.toNat (w := 32) (I j) < 32768)
    (o : Buf (Elt F) ((oV).view.loc (thr d L))) (v2 : BitVec 32) (k : Fin k0_t1_loop.trips) :
    state d L O W q X I Wt o k.val ()
      ⊢ wp frame (wpE (defs₀ (F := F)) 𝒱₀ (thr d L) none) Set.univ
          (k0_t1_body L xV (Memref.isWhole_whole _) iV (Memref.isWhole_whole _) wV (Memref.isWhole_whole _) oV (Memref.isWhole_whole _)
            idxV (Memref.isWhole_whole _) wtsV (Memref.isWhole_whole _) rowsV (Memref.isWhole_whole _) accV (Memref.isWhole_whole _)
            cc0_scratch4 cc0_scoped0 cc0_scoped1 cc0_scoped2 v2 k ())
          (state d L O W q X I Wt o (k.val + 1)) := by
  unfold k0_t1_body state
  iintro ⟨#Hmw, HX, HI, HW, Hpart, ⟨%g0, H0⟩, ⟨%g1, H1⟩, ⟨%g2, H2⟩, ⟨%g3, H3⟩, S0, S1, S2, S3, %W', %hW', Hw⟩
  ihave Hsplit := (pointsTo_split_subset (f := outAt L (pooledBuf X I Wt) o k.val) (oRow_subset L k)).1 $$ Hpart
  icases Hsplit with ⟨HO', Hrest⟩
  ihave HO := (Entails.of_eq (show ((oV).view.loc (thr d L) ↦[(oRow L k).view.set]{fullShare} outAt L (pooledBuf X I Wt) o k.val : sProp 𝕄)
    = (oRow L k).view.loc (thr d L) ↦[(oRow L k).view.set]{fullShare} outAt L (pooledBuf X I Wt) o k.val from rfl)) $$ HO'
  sl_exec_parts (disch := exact View.amount_pos _ _ (show 0 < _ by decide))
  have hin := fun g => inb_of_row d L I hI k g (trip.sl.dma0 d L I k) rfl
  sl_exec_parts (disch := exact View.amount_pos _ _ (show 0 < _ by decide))
  sl_step
  isplitr; · iexact Hmw
  isplitl [HX]; · iexact HX
  isplitl [HI]; · iexact HI
  isplitl [HW]; · iexact HW
  isplitl [HO Hrest]
  · have hpay : ∀ n : Fin 1024, trip.sl.dma1160 d L X I Wt k g0 g1 g3 hin (ix1 n) = pooledBuf X I Wt (ix2 (rowNo L k) n) :=
      fun n => by
        have hst : trip.sl.H3_64 d L X I Wt k g0 g1 hin = blocks (rLoads (trip.sl.gather0 d L X I k g0 hin))
            (wLoads d L (View.write (Elt F) (wtsV).view g1 (trip.sl.dma0_1 d L Wt k) Finset.univ)) 64 (Nat.le_refl _) := by rfl
        show (accV).view.read (Elt F) ((accV).view.writes (Elt F) g3 (trip.sl.H3_64 d L X I Wt k g0 g1 hin)) (ix1 n) = _
        rw [hst]
        exact row_eq d L X I Wt k g0 g1 g3 _ (hin g0) n
    iapply (pointsTo_split_subset (f := outAt L (pooledBuf X I Wt) o (k.val + 1)) (oRow_subset L k)).2
    isplitl [HO]
    · iapply (Entails.of_eq (pointsTo_congr (row_done L k (pooledBuf X I Wt) o _ hpay)))
      iexact HO
    · iapply (Entails.of_eq (pointsTo_congr (row_kept L k (pooledBuf X I Wt) o)))
      iexact Hrest
  isplitl [H0]; · iexists _; iexact H0
  isplitl [H1]; · iexists _; iexact H1
  isplitl [H2]; · iexists _; iexact H2
  isplitl [H3]; · iexists _; iexact H3
  isplitl [S0]; · iexact S0
  isplitl [S1]; · iexact S1
  isplitl [S2]; · iexact S2
  isplitl [S3]; · iexact S3
  iexists _; isplitr
  swap; · iexact Hw
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact hW' p hp

end Cert.Proof.Ideal

end
-- ==== Proof.Ideal.Launch.lean ====
module

public import proofs.«01_k».proof.Defs
public import proofs.«01_k».proof.Proof.Ideal.Trip
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.ValueLayout
public import Idealize.ShloMosaic.Lib.Tactic
public import proofs.«01_k».proof.Proof.Gen.KernelIdeal
public import proofs.«01_k».proof.Proof.Gen.KernelIdeal.Skeleton

@[expose] public section

noncomputable section

/-!
# The call on the machine

The tile's task from the loop, the call's payloads (every tile takes a read share of the three operands and its own
rows of the result, and brings the rows back at the specification), @main, and the program's run.
-/

namespace Cert.Proof.Ideal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held wp_hlo_within)

variable {F : FTy → Type}

local notation "𝕄" => MT nD τ sig (HIx 1) (Elt F) ℕ UU ℕ

local notation "xV" => (Memref.whole Cert.KernelIdeal.main_v1_scv : Memref Cert.KernelIdeal.sig Kind.scVector Space.hbm Cert.KernelIdeal.S32768x128 EltTy.f32)
local notation "iV" => (Memref.whole Cert.KernelIdeal.main_v2_scv : Memref Cert.KernelIdeal.sig Kind.scVector Space.hbm Cert.KernelIdeal.S4032x128 EltTy.i32)
local notation "wV" => (Memref.whole Cert.KernelIdeal.main_v3_scv : Memref Cert.KernelIdeal.sig Kind.scVector Space.hbm Cert.KernelIdeal.S4032x128 EltTy.f32)
local notation "oV" => (Memref.whole Cert.KernelIdeal.main_v4_scv : Memref Cert.KernelIdeal.sig Kind.scVector Space.hbm Cert.KernelIdeal.S4032x1024 EltTy.f32)
local notation "idxV" => (Memref.whole Cert.KernelIdeal.cc0_scratch0 : Memref Cert.KernelIdeal.sig Kind.scVector Space.vmem Cert.KernelIdeal.S128 EltTy.i32)
local notation "wtsV" => (Memref.whole Cert.KernelIdeal.cc0_scratch1 : Memref Cert.KernelIdeal.sig Kind.scVector Space.vmem Cert.KernelIdeal.S128 EltTy.f32)
local notation "rowsV" => (Memref.whole Cert.KernelIdeal.cc0_scratch2 : Memref Cert.KernelIdeal.sig Kind.scVector Space.vmem Cert.KernelIdeal.S128x128 EltTy.f32)
local notation "accV" => (Memref.whole Cert.KernelIdeal.cc0_scratch3 : Memref Cert.KernelIdeal.sig Kind.scVector Space.vmem Cert.KernelIdeal.S1024 EltTy.f32)

variable [FloatOps F]

abbrev D : Defs nD τ sig (Elt F) (ΛP (F := F)) := Pipeline.defs pcfgs defs₀
abbrev 𝒱 : Variants := 𝒱₀.lift
abbrev v₀ : 𝒱.V := Sum.inl none
abbrev EH : Emb UH (MT nD τ sig (HIx 1) (Elt F) ℕ UU ℕ) := embL

omit [FloatOps F] in
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide, fun _ => rfl⟩

/-! ## The tile's task -/

section Tile

variable (d : Dev nD) (L : grid0.Coords)

abbrev cell (d : Dev nD) (L : grid0.Coords) (s : DmaSem sig) : GSem nD τ sig := (thr d L, .dma s)

omit [FloatOps F] in
/-- The four semaphores of the task among the tile's own. -/
theorem ownSems0_V :
    (ownSems0 (thr d L) : sProp 𝕄)
      = iprop(semVal (cell d L cc0_scratch4.sem) 0 ∗ semVal (cell d L cc0_scoped0.sem) 0 ∗ semVal (cell d L cc0_scoped1.sem) 0 ∗ semVal (cell d L cc0_scoped2.sem) 0
          ∗ bigSep (((((ownCells (thr d L)).erase (cell d L cc0_scratch4.sem)).erase (cell d L cc0_scoped0.sem)).erase (cell d L cc0_scoped1.sem)).erase
              (cell d L cc0_scoped2.sem)) fun g => semVal g 0) := by
  have own : ∀ s : DmaSem sig, (SemLoc.dma s : SemLoc sig).isScoped .scVector = true → cell d L s ∈ ownCells (thr d L) :=
    fun s h => mem_ownCells.mpr ⟨rfl, h⟩
  have ne : ∀ s s' : DmaSem sig, (SemLoc.dma s : SemLoc sig) ≠ .dma s' → cell d L s ≠ cell d L s' :=
    fun s s' h e => h (congrArg Prod.snd e)
  unfold SparseCore.Cfg.ownSems0
  rw [SparseCore.bigSep_erase' (own cc0_scratch4.sem (by decide)),
    SparseCore.bigSep_erase' (Finset.mem_erase.mpr ⟨ne cc0_scoped0.sem cc0_scratch4.sem (by decide), own cc0_scoped0.sem (by decide)⟩),
    SparseCore.bigSep_erase' (Finset.mem_erase.mpr ⟨ne cc0_scoped1.sem cc0_scoped0.sem (by decide), Finset.mem_erase.mpr
      ⟨ne cc0_scoped1.sem cc0_scratch4.sem (by decide), own cc0_scoped1.sem (by decide)⟩⟩),
    SparseCore.bigSep_erase' (Finset.mem_erase.mpr ⟨ne cc0_scoped2.sem cc0_scoped1.sem (by decide), Finset.mem_erase.mpr
      ⟨ne cc0_scoped2.sem cc0_scoped0.sem (by decide), Finset.mem_erase.mpr ⟨ne cc0_scoped2.sem cc0_scratch4.sem (by decide), own cc0_scoped2.sem (by decide)⟩⟩⟩)]

abbrev own (L : grid0.Coords) (b : Ref sig .scVector) : DevRef τ sig := (Proc.scVector (cV L) (jV L)).devRef b

omit [FloatOps F] in
/-- The four scratch buffers among the tile's own. -/
theorem ownBufs_V :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f) ∗ (∃ f, (thr d L).loc cc0_scratch3 ↦{fullShare} f)
          ∗ bigSep (((((ownRefs (τ := τ) (.scVector (cV L) (jV L))).erase (own L cc0_scratch0)).erase (own L cc0_scratch1)).erase
              (own L cc0_scratch2)).erase (own L cc0_scratch3)) fun b => iprop(∃ f, ((d, b) : Loc nD τ sig) ↦{fullShare} f)) := by
  have mem : ∀ b : Ref sig .scVector, (own L b).owner = .proc (Proc.scVector (cV L) (jV L)) → own L b ∈ ownRefs (τ := τ) (.scVector (cV L) (jV L)) :=
    fun b h => SparseCore.Cfg.mem_ownRefs_of_owner (p := Proc.scVector (cV L) (jV L)) (b := own L b) h
  have ne : ∀ b b' : Ref sig .scVector, b ≠ b' → own L b ≠ own L b' := fun b b' h e => h (Proc.devRef_injective _ e)
  unfold SparseCore.Cfg.ownBufs
  refine (SparseCore.bigSep_erase' (mem cc0_scratch0 rfl)).trans ?_
  rw [SparseCore.bigSep_erase' (Finset.mem_erase.mpr ⟨ne cc0_scratch1 cc0_scratch0 (by decide), mem cc0_scratch1 rfl⟩),
    SparseCore.bigSep_erase' (Finset.mem_erase.mpr ⟨ne cc0_scratch2 cc0_scratch1 (by decide), Finset.mem_erase.mpr
      ⟨ne cc0_scratch2 cc0_scratch0 (by decide), mem cc0_scratch2 rfl⟩⟩),
    SparseCore.bigSep_erase' (Finset.mem_erase.mpr ⟨ne cc0_scratch3 cc0_scratch2 (by decide), Finset.mem_erase.mpr
      ⟨ne cc0_scratch3 cc0_scratch1 (by decide), Finset.mem_erase.mpr ⟨ne cc0_scratch3 cc0_scratch0 (by decide), mem cc0_scratch3 rfl⟩⟩⟩)]

abbrev xLoc (d : Dev nD) : Loc nD τ sig := (SparseCore.T d).loc main_v1
abbrev iLoc (d : Dev nD) : Loc nD τ sig := (SparseCore.T d).loc main_v2
abbrev wLoc (d : Dev nD) : Loc nD τ sig := (SparseCore.T d).loc main_v3
abbrev oLoc (d : Dev nD) : Loc nD τ sig := (SparseCore.T d).loc main_v4

/-- What a tile holds of the arrays: a read share of the operands, its rows of the result. -/
def hold (q : PosShare TreeShare) (X : S32768x128.Idx → F .f32) (I : S4032x128.Idx → BitVec 32) (Wt : S4032x128.Idx → F .f32)
    (o : S4032x1024.Idx → F .f32) : sProp 𝕄 :=
  iprop((xLoc d ↦{q} X) ∗ (iLoc d ↦{q} I) ∗ (wLoc d ↦{q} Wt) ∗ oLoc d ↦[part L]{fullShare} o)

omit [FloatOps F] in
theorem hold_eq (q : PosShare TreeShare) (X : S32768x128.Idx → F .f32) (I : S4032x128.Idx → BitVec 32) (Wt : S4032x128.Idx → F .f32)
    (o : S4032x1024.Idx → F .f32) :
    (hold d L q X I Wt o : sProp 𝕄) = iprop(((xV).view.loc (thr d L) ↦{q} X) ∗ ((iV).view.loc (thr d L) ↦{q} I)
      ∗ ((wV).view.loc (thr d L) ↦{q} Wt) ∗ (oV).view.loc (thr d L) ↦[part L]{fullShare} o) := rfl

theorem trips_eq : k0_t1_loop.trips = 126 := by decide

set_option maxRecDepth 20000 in
/-- The task: from its share of the operands and its rows, whatever they hold, to its rows at the specification. -/
theorem tile_body (q : PosShare TreeShare) (X : S32768x128.Idx → F .f32) (I : S4032x128.Idx → BitVec 32) (Wt : S4032x128.Idx → F .f32)
    (hI : ∀ j, (I j).toNat < 32768) (o : S4032x1024.Idx → F .f32)
    (O : CellTallies nD τ sig (HIx 1)) (W : Waits sig (HIx 1)) (hO : ∀ g, O g none = 0) :
    iprop(levAts (K (F := F)).L (K (F := F)).lev ∗ emp ∗ hold d L q X I Wt o
        ∗ scopedBufs (thr d L) ∗ scopedSems0 (thr d L) ∗ owes (thr d L) O W)
      ⊢ wp frame (wpE (defs₀ (F := F)) 𝒱₀ (thr d L) none) Set.univ
          (cc0__sc_body L xV (Memref.isWhole_whole _) iV (Memref.isWhole_whole _) wV (Memref.isWhole_whole _) oV (Memref.isWhole_whole _)
            idxV (Memref.isWhole_whole _) wtsV (Memref.isWhole_whole _) rowsV (Memref.isWhole_whole _) accV (Memref.isWhole_whole _)
            cc0_scratch4 cc0_scoped0 cc0_scoped1 cc0_scoped2)
          fun _ => iprop(hold d L q X I Wt (pooledBuf X I Wt)
            ∗ scopedBufs (thr d L) ∗ scopedSems0 (thr d L)
            ∗ ∃ W', ⌜∀ p ∈ W', p ∈ W ∨ p.2 = none⌝ ∗ owes (thr d L) O W') := by
  simp only [cc0__sc_body_eq_skeleton]; unfold cc0__sc_body_skel
  rw [(K (F := F)).scopedBufs_V facts d (cV L) (jV L), SparseCore.Cfg.scopedSems0_V (Val := Elt F) d (cV L) (jV L), ownSems0_V, ownBufs_V,
    hold_eq, hold_eq]
  iintro ⟨#Hlv, -, ⟨HX, HI, HW, HO⟩, ⟨H0, H1, H2, H3, Hbufs⟩, ⟨S0, S1, S2, S3, Hsems⟩, Hw⟩
  ihave Hmw := (show levAts (K (F := F)).L (K (F := F)).lev ⊢ Transfers.MayWaits (thr d L) (default : HIx 1) O from
    (K (F := F)).mayWaits_none (thr := thr d L) hO) $$ Hlv
  sl_exec
  sl_for (state d L O W q X I Wt o) $$ [Hmw HX HI HW HO H0 H1 H2 H3 S0 S1 S2 S3 Hw]
  case region =>
    intro k acc
    unfold tile_body.sl.prog.body_1
    cases acc
    refine (trip (F := F) d L O W q X I Wt hI o (tile_body.sl.v2 L) k).trans (Entails.of_eq ?_)
    congr 1
  · unfold state
    isplitl [Hmw]; · iexact Hmw
    isplitl [HX]; · iexact HX
    isplitl [HI]; · iexact HI
    isplitl [HW]; · iexact HW
    isplitl [HO]
    · iapply (Entails.of_eq (pointsTo_congr (f := o) (g := outAt L (pooledBuf X I Wt) o 0) fun y hy => by
        have := (Finset.mem_filter.mp hy).2.1
        rw [outAt, if_neg (by omega)]))
      iexact HO
    isplitl [H0]; · iexact H0
    isplitl [H1]; · iexact H1
    isplitl [H2]; · iexact H2
    isplitl [H3]; · iexact H3
    isplitl [S0]; · iexact S0
    isplitl [S1]; · iexact S1
    isplitl [S2]; · iexact S2
    isplitl [S3]; · iexact S3
    iexists W; isplitr
    · ipureintro; exact fun p hp => .inl hp
    · iexact Hw
  iintro %_ Hst
  unfold state
  icases Hst with ⟨-, HX, HI, HW, HO, H0, H1, H2, H3, S0, S1, S2, S3, Hw⟩
  sl_exec
  sl_step
  isplitl [HX HI HW HO]
  · isplitl [HX]; · iexact HX
    isplitl [HI]; · iexact HI
    isplitl [HW]; · iexact HW
    iapply (Entails.of_eq (pointsTo_congr (f := outAt L (pooledBuf X I Wt) o k0_t1_loop.trips) (g := pooledBuf X I Wt) fun y hy => by
        have := (Finset.mem_filter.mp hy).2.2
        rw [outAt, if_pos (by rw [trips_eq]; omega)]))
    iexact HO
  isplitl [H0 H1 H2 H3 Hbufs]
  · isplitl [H0]; · iexact H0
    isplitl [H1]; · iexact H1
    isplitl [H2]; · iexact H2
    isplitl [H3]; · iexact H3
    iexact Hbufs
  isplitl [S0 S1 S2 S3 Hsems]
  · isplitl [S0]; · iexact S0
    isplitl [S1]; · iexact S1
    isplitl [S2]; · iexact S2
    isplitl [S3]; · iexact S3
    iexact Hsems
  iexact Hw

end Tile

end Cert.Proof.Ideal

end
-- ==== Proof.Ideal.Mlp.lean ====
module

public import proofs.«01_k».proof.Defs
public import proofs.«01_k».proof.Proof.Ideal.Launch
public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.FrameBody
public import Idealize.ShloMosaic.Lib.Pipeline.RegionArraysS
public import Idealize.ShloMosaic.Lib.Pipeline.ValueKit.Basic
public import Idealize.ShloMosaic.Lib.Tactic

@[expose] public section

set_option maxRecDepth 16384

noncomputable section

/-!
# The perceptron's call

The TensorCore call that runs the multilayer perceptron over eight blocks of 504 lines, entered from any contents `W`
of the device's arrays: what its body leaves, the contents its pipeline computes, and the region as one step from a set
of held arrays to the same set with the result array rewritten.
-/

namespace Cert.Proof.Ideal

open Cert.KernelIdeal Cert.KernelIdeal.Gen

open Idealize.ShloMosaic
open Idealize.ShloMosaic.TcCoe
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held)
open Idealize.ShloMosaic.Pipeline (Dat BodyObligation arrRef arrRefs afterRegion)

variable {F : FTy → Type} [FloatOps F]

local notation "𝕄" => MT nD τ sig (HIx 1) (Elt F) ℕ UU ℕ

/-! ## One block of lines -/

/-- The scores of one block of 504 lines, each repeated along 128 columns, from the pooled corners `x0`, the features
    `x1`, and the three layers' weights and biases. -/
def mlpBlock (x0 : Vec F S504x1024 .f32) (x1 : Vec F S504x8 .f32) (x2 : Vec F S1024x1024 .f32) (x3 : Vec F S8x1024 .f32)
    (x4 : Vec F S1x1024 .f32) (x5 : Vec F S1024x1024 .f32) (x6 x7 : Vec F S1x1024 .f32) (x8 : Vec F S1x1 .f32) : Vec F S504x128 .f32 :=
  k1_pay1 (k1_pay2 x0 x2 x1 x3 x4 x5 x6 x7 x8)

omit [FloatOps F] in
theorem owns_intro (c : Dev nD) {sp : Space} {s : Shape} {e : EltTy} (M : Memref sig .tc sp s e)
    (f : Buf (Elt F) (M.view.loc (c : Thread nD τ))) (x : s.Idx → Elt F e) (h : M.view.read (Elt F) f = x) :
    (M.view.loc (c : Thread nD τ) ↦[M.view.set]{fullShare} f : sProp 𝕄) ⊢ owns (c : Thread nD τ) M fullShare x := by
  unfold owns
  iintro H
  iexists f
  isplitr
  · ipureintro; exact h
  · iexact H

/-- What the body holds: its nine inputs read at `x0 … x8`, and the result read at some contents that satisfy `R`. -/
def inBlocks (c : Dev nD) (a1 : Memref sig .tc .vmem S504x1024 .f32) (a2 : Memref sig .tc .vmem S504x8 .f32) (a3 : Memref sig .tc .vmem S1024x1024 .f32)
    (a4 : Memref sig .tc .vmem S8x1024 .f32) (a5 : Memref sig .tc .vmem S1x1024 .f32) (a6 : Memref sig .tc .vmem S1024x1024 .f32)
    (a7 a8 : Memref sig .tc .vmem S1x1024 .f32) (a9 : Memref sig .tc .vmem S1x1 .f32) (a10 : Memref sig .tc .vmem S504x128 .f32)
    (x0 : Vec F S504x1024 .f32) (x1 : Vec F S504x8 .f32) (x2 : Vec F S1024x1024 .f32) (x3 : Vec F S8x1024 .f32)
    (x4 : Vec F S1x1024 .f32) (x5 : Vec F S1024x1024 .f32) (x6 x7 : Vec F S1x1024 .f32) (x8 : Vec F S1x1 .f32) (y : Vec F S504x128 .f32) : sProp 𝕄 :=
  iprop(owns (c : Thread nD τ) a1 fullShare x0 ∗ owns (c : Thread nD τ) a2 fullShare x1 ∗ owns (c : Thread nD τ) a3 fullShare x2
    ∗ owns (c : Thread nD τ) a4 fullShare x3 ∗ owns (c : Thread nD τ) a5 fullShare x4 ∗ owns (c : Thread nD τ) a6 fullShare x5
    ∗ owns (c : Thread nD τ) a7 fullShare x6 ∗ owns (c : Thread nD τ) a8 fullShare x7 ∗ owns (c : Thread nD τ) a9 fullShare x8
    ∗ owns (c : Thread nD τ) a10 fullShare y)

variable [∀ e, Nonempty (Elt F e)]

set_option maxHeartbeats 1000000 in
/-- The body reads its nine inputs and overwrites the whole result block. -/
theorem mlp_body (c : Dev nD) (i : grid1.Coords) (a1 : Memref sig .tc .vmem S504x1024 .f32) (h1 : a1.IsWhole) (a2 : Memref sig .tc .vmem S504x8 .f32) (h2 : a2.IsWhole)
    (a3 : Memref sig .tc .vmem S1024x1024 .f32) (h3 : a3.IsWhole) (a4 : Memref sig .tc .vmem S8x1024 .f32) (h4 : a4.IsWhole)
    (a5 : Memref sig .tc .vmem S1x1024 .f32) (h5 : a5.IsWhole) (a6 : Memref sig .tc .vmem S1024x1024 .f32) (h6 : a6.IsWhole)
    (a7 : Memref sig .tc .vmem S1x1024 .f32) (h7 : a7.IsWhole) (a8 : Memref sig .tc .vmem S1x1024 .f32) (h8 : a8.IsWhole)
    (a9 : Memref sig .tc .vmem S1x1 .f32) (h9 : a9.IsWhole) (a10 : Memref sig .tc .vmem S504x128 .f32) (h10 : a10.IsWhole)
    (x0 : Vec F S504x1024 .f32) (x1 : Vec F S504x8 .f32) (x2 : Vec F S1024x1024 .f32) (x3 : Vec F S8x1024 .f32)
    (x4 : Vec F S1x1024 .f32) (x5 : Vec F S1024x1024 .f32) (x6 x7 : Vec F S1x1024 .f32) (x8 : Vec F S1x1 .f32) (y : Vec F S504x128 .f32) :
    (inBlocks c a1 a2 a3 a4 a5 a6 a7 a8 a9 a10 x0 x1 x2 x3 x4 x5 x6 x7 x8 y : sProp 𝕄)
      ⊢ wp frame (wpE (defs₀ (F := F)) 𝒱₀ (c : Thread nD τ) none) Set.univ
          (cc1__mlp_body i a1 h1 a2 h2 a3 h3 a4 h4 a5 h5 a6 h6 a7 h7 a8 h8 a9 h9 a10 h10)
          fun _ => inBlocks c a1 a2 a3 a4 a5 a6 a7 a8 a9 a10 x0 x1 x2 x3 x4 x5 x6 x7 x8 (mlpBlock x0 x1 x2 x3 x4 x5 x6 x7 x8) := by
  rw [cc1__mlp_body_eq_skeleton]; unfold cc1__mlp_body_skel
  rw [k1_part1_eq_skeleton]
  unfold inBlocks
  conv_lhs => unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩,
    ⟨%f8, %e8, H8⟩, ⟨%f9, -, H9⟩⟩
  sl_exec
  sl_step
  isplitl [H0]; · iapply (owns_intro c a1 f0 x0 e0) $$ H0
  isplitl [H1]; · iapply (owns_intro c a2 f1 x1 e1) $$ H1
  isplitl [H2]; · iapply (owns_intro c a3 f2 x2 e2) $$ H2
  isplitl [H3]; · iapply (owns_intro c a4 f3 x3 e3) $$ H3
  isplitl [H4]; · iapply (owns_intro c a5 f4 x4 e4) $$ H4
  isplitl [H5]; · iapply (owns_intro c a6 f5 x5 e5) $$ H5
  isplitl [H6]; · iapply (owns_intro c a7 f6 x6 e6) $$ H6
  isplitl [H7]; · iapply (owns_intro c a8 f7 x7 e7) $$ H7
  isplitl [H8]; · iapply (owns_intro c a9 f8 x8 e8) $$ H8
  iapply (owns_intro c a10 _ _ ?_) $$ H9
  subst e0 e1 e2 e3 e4 e5 e6 e7 e8
  refine (View.read_writes_eq_canon _ _ _ fun z => View.cover_of_tiled [⟨_, _⟩] S504x128.size (by rfl) z).trans ?_
  rw [View.canon_cons_unit_lit _ _ _ (by decide)]
  have e (s : Shape) (X : s.Idx → Elt F .f32) (off : Fin s.rank → ℕ) (inb : ∀ a, off a + s.size a ≤ s.size a) (h : ∀ a, off a = 0) :
      View.ld X (Rect.unit off s.size inb) = X := View.ld_unit_lit inb X h
  refine Eq.trans (b := mlpBlock (View.ld (a1.view.read (Elt F) f0) (Rect.unit (s := S504x1024) ![0, 0] S504x1024.size inb_S504x1024_S504x1024_0_0))
      (View.ld (a2.view.read (Elt F) f1) (Rect.unit (s := S504x8) ![0, 0] S504x8.size inb_S504x8_S504x8_0_0))
      (View.ld (a3.view.read (Elt F) f2) (Rect.unit (s := S1024x1024) ![0, 0] S1024x1024.size inb_S1024x1024_S1024x1024_0_0))
      (View.ld (a4.view.read (Elt F) f3) (Rect.unit (s := S8x1024) ![0, 0] S8x1024.size inb_S8x1024_S8x1024_0_0))
      (View.ld (a5.view.read (Elt F) f4) (Rect.unit (s := S1x1024) ![0, 0] S1x1024.size inb_S1x1024_S1x1024_0_0))
      (View.ld (a6.view.read (Elt F) f5) (Rect.unit (s := S1024x1024) ![0, 0] S1024x1024.size inb_S1024x1024_S1024x1024_0_0))
      (View.ld (a7.view.read (Elt F) f6) (Rect.unit (s := S1x1024) ![0, 0] S1x1024.size inb_S1x1024_S1x1024_0_0))
      (View.ld (a8.view.read (Elt F) f7) (Rect.unit (s := S1x1024) ![0, 0] S1x1024.size inb_S1x1024_S1x1024_0_0))
      (View.ld (a9.view.read (Elt F) f8) (Rect.unit (s := S1x1) ![0, 0] S1x1.size inb_S1x1_S1x1_0_0))) rfl ?_
  rw [e _ _ _ _ (by decide), e _ _ _ _ (by decide), e _ _ _ _ (by decide), e _ _ _ _ (by decide), e _ _ _ _ (by decide),
    e _ _ _ _ (by decide), e _ _ _ _ (by decide), e _ _ _ _ (by decide), e _ _ _ _ (by decide)]

/-! ## The pipeline's contents -/

abbrev rf (b : Ref sig .tc) : DevRef τ sig := Proc.devRef .tc b

variable (W : Dev nD → Valuation τ sig (Elt F)) (b : ℕ)

/-- The block of window `w`'s array that grid point `t` stages. -/
def arrBlock (c : Dev nD) (w : Fin cfg1.W) (t : Fin cfg1.N) : ((cfg1.win w).xblock (cfg1.grid.coords t)).Idx → Elt F (cfg1.win w).elt :=
  ((cfg1.win w).blk t).view.read (Elt F) (W c (rf (arrRef spec1 w)))

/-- The scores of the block of lines at grid point `t`. -/
def scores (c : Dev nD) (t : Fin cfg1.N) : Vec F S504x128 .f32 :=
  mlpBlock (arrBlock W c 0 t) (arrBlock W c 1 t) (arrBlock W c 2 t) (arrBlock W c 3 t) (arrBlock W c 4 t) (arrBlock W c 5 t) (arrBlock W c 6 t) (arrBlock W c 7 t) (arrBlock W c 8 t)

/-- The call's data on device `c`: the arrays at `W c`, every input block left as fetched and the result block at the
    scores; nothing owed; every wait recorded before the call at a level of at most `b`. -/
def mlpDat (c : Dev nD) : Dat τ (Elt F) (HIx 1) ℕ UU ℕ cfg1 c where
  A w := W c (rf (arrRef spec1 w))
  after w t := match w with
    | ⟨0, _⟩ => arrBlock W c 0 t
    | ⟨1, _⟩ => arrBlock W c 1 t
    | ⟨2, _⟩ => arrBlock W c 2 t
    | ⟨3, _⟩ => arrBlock W c 3 t
    | ⟨4, _⟩ => arrBlock W c 4 t
    | ⟨5, _⟩ => arrBlock W c 5 t
    | ⟨6, _⟩ => arrBlock W c 6 t
    | ⟨7, _⟩ => arrBlock W c 7 t
    | ⟨8, _⟩ => arrBlock W c 8 t
    | ⟨9, _⟩ => scores W c t
  Φ _ := BI.emp
  q _ := fullShare
  owed _ := 0
  recorded _ := {p | (K (F := F)).lev ((c : Thread nD τ), p.1) p.2 ≤ b}

theorem mlpDat_A (c : Dev nD) (w : Fin cfg1.W) : (mlpDat W b c).A w = W c (rf (arrRef spec1 w)) := by dsimp only [mlpDat]

theorem mlpDat_scores (c : Dev nD) (t : Fin cfg1.N) : (mlpDat W b c).after 9 t = scores W c t := by dsimp only [mlpDat]

/-- A window whose block the body leaves as fetched is found fetched at every point. -/
theorem found (c : Dev nD) (w : Fin cfg1.W) (hin : (cfg1.win w).isOut = false) (hlive : ∀ i, cfg1.idle w i = false)
    (hclip : ∀ t t' : Fin cfg1.N, (cfg1.win w).index t = (cfg1.win w).index t' →
      (cfg1.win w).clip (cfg1.grid.coords t) = (cfg1.win w).clip (cfg1.grid.coords t'))
    (hleft : ∀ t, (cfg1.win w).cut (cfg1.grid.coords t) ((mlpDat W b c).after w t) = arrBlock W c w t)
    (t : Fin cfg1.N) (d : (cfg1.win w).block.Idx → Elt F (cfg1.win w).elt) :
    (mlpDat W b c).before w t d = (cfg1.win w).fill (cfg1.grid.coords t) d (arrBlock W c w t) := by
  have hb (t : Fin cfg1.N) : (mlpDat W b c).blockOf w t = arrBlock W c w t := by unfold Dat.blockOf arrBlock; rw [mlpDat_A]
  rw [(mlpDat W b c).before_in_eq_fetched w hin hlive hclip (fun t => (hleft t).trans (hb t).symm) t d]
  unfold Dat.fetched; rw [hb]

/-- The body at a grid point, whatever is held beside it. -/
theorem point (c : Dev nD) (t : Fin cfg1.N) (A B : sProp 𝕄) :
    iprop(A ∗ B ∗ (∃ d, owns (c : Thread nD τ) (st1_0 t) fullShare ((mlpDat W b c).before 0 t d))
        ∗ (∃ d, owns (c : Thread nD τ) (st1_1 t) fullShare ((mlpDat W b c).before 1 t d))
        ∗ (∃ d, owns (c : Thread nD τ) (st1_2 t) fullShare ((mlpDat W b c).before 2 t d))
        ∗ (∃ d, owns (c : Thread nD τ) (st1_3 t) fullShare ((mlpDat W b c).before 3 t d))
        ∗ (∃ d, owns (c : Thread nD τ) (st1_4 t) fullShare ((mlpDat W b c).before 4 t d))
        ∗ (∃ d, owns (c : Thread nD τ) (st1_5 t) fullShare ((mlpDat W b c).before 5 t d))
        ∗ (∃ d, owns (c : Thread nD τ) (st1_6 t) fullShare ((mlpDat W b c).before 6 t d))
        ∗ (∃ d, owns (c : Thread nD τ) (st1_7 t) fullShare ((mlpDat W b c).before 7 t d))
        ∗ (∃ d, owns (c : Thread nD τ) (st1_8 t) fullShare ((mlpDat W b c).before 8 t d))
        ∗ (∃ d, owns (c : Thread nD τ) (st1_9 t) fullShare ((mlpDat W b c).before 9 t d)))
      ⊢ wp frame (wpE (defs₀ (F := F)) 𝒱₀ (c : Thread nD τ) none) Set.univ (bodyAt1 t) fun _ => iprop(A ∗ B
            ∗ owns (c : Thread nD τ) (st1_0 t) fullShare ((mlpDat W b c).after 0 t)
            ∗ owns (c : Thread nD τ) (st1_1 t) fullShare ((mlpDat W b c).after 1 t)
            ∗ owns (c : Thread nD τ) (st1_2 t) fullShare ((mlpDat W b c).after 2 t)
            ∗ owns (c : Thread nD τ) (st1_3 t) fullShare ((mlpDat W b c).after 3 t)
            ∗ owns (c : Thread nD τ) (st1_4 t) fullShare ((mlpDat W b c).after 4 t)
            ∗ owns (c : Thread nD τ) (st1_5 t) fullShare ((mlpDat W b c).after 5 t)
            ∗ owns (c : Thread nD τ) (st1_6 t) fullShare ((mlpDat W b c).after 6 t)
            ∗ owns (c : Thread nD τ) (st1_7 t) fullShare ((mlpDat W b c).after 7 t)
            ∗ owns (c : Thread nD τ) (st1_8 t) fullShare ((mlpDat W b c).after 8 t)
            ∗ owns (c : Thread nD τ) (st1_9 t) fullShare ((mlpDat W b c).after 9 t)) := by
  have e0 (d) : (mlpDat W b c).before 0 t d = (mlpDat W b c).after 0 t := found W b c 0 rfl (fun _ => rfl) (fun _ _ _ => rfl) (fun _ => by dsimp only [mlpDat]) t d
  have e1 (d) : (mlpDat W b c).before 1 t d = (mlpDat W b c).after 1 t := found W b c 1 rfl (fun _ => rfl) (fun _ _ _ => rfl) (fun _ => by dsimp only [mlpDat]) t d
  have e2 (d) : (mlpDat W b c).before 2 t d = (mlpDat W b c).after 2 t := found W b c 2 rfl (fun _ => rfl) (fun _ _ _ => rfl) (fun _ => by dsimp only [mlpDat]) t d
  have e3 (d) : (mlpDat W b c).before 3 t d = (mlpDat W b c).after 3 t := found W b c 3 rfl (fun _ => rfl) (fun _ _ _ => rfl) (fun _ => by dsimp only [mlpDat]) t d
  have e4 (d) : (mlpDat W b c).before 4 t d = (mlpDat W b c).after 4 t := found W b c 4 rfl (fun _ => rfl) (fun _ _ _ => rfl) (fun _ => by dsimp only [mlpDat]) t d
  have e5 (d) : (mlpDat W b c).before 5 t d = (mlpDat W b c).after 5 t := found W b c 5 rfl (fun _ => rfl) (fun _ _ _ => rfl) (fun _ => by dsimp only [mlpDat]) t d
  have e6 (d) : (mlpDat W b c).before 6 t d = (mlpDat W b c).after 6 t := found W b c 6 rfl (fun _ => rfl) (fun _ _ _ => rfl) (fun _ => by dsimp only [mlpDat]) t d
  have e7 (d) : (mlpDat W b c).before 7 t d = (mlpDat W b c).after 7 t := found W b c 7 rfl (fun _ => rfl) (fun _ _ _ => rfl) (fun _ => by dsimp only [mlpDat]) t d
  have e8 (d) : (mlpDat W b c).before 8 t d = (mlpDat W b c).after 8 t := found W b c 8 rfl (fun _ => rfl) (fun _ _ _ => rfl) (fun _ => by dsimp only [mlpDat]) t d
  simp only [e0, e1, e2, e3, e4, e5, e6, e7, e8]
  iintro ⟨HA, HB, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  have run := mlp_body c (grid1.coords t) _ (hstage1_0 ((cfg1.slots t 0).cast nbuf1_0)) _ (hstage1_1 ((cfg1.slots t 1).cast nbuf1_1))
    _ (hstage1_2 ((cfg1.slots t 2).cast nbuf1_2)) _ (hstage1_3 ((cfg1.slots t 3).cast nbuf1_3)) _ (hstage1_4 ((cfg1.slots t 4).cast nbuf1_4))
    _ (hstage1_5 ((cfg1.slots t 5).cast nbuf1_5)) _ (hstage1_6 ((cfg1.slots t 6).cast nbuf1_6)) _ (hstage1_7 ((cfg1.slots t 7).cast nbuf1_7))
    _ (hstage1_8 ((cfg1.slots t 8).cast nbuf1_8)) _ (hstage1_9 ((cfg1.slots t 9).cast nbuf1_9))
    ((mlpDat W b c).after 0 t) ((mlpDat W b c).after 1 t) ((mlpDat W b c).after 2 t) ((mlpDat W b c).after 3 t) ((mlpDat W b c).after 4 t)
    ((mlpDat W b c).after 5 t) ((mlpDat W b c).after 6 t) ((mlpDat W b c).after 7 t) ((mlpDat W b c).after 8 t) ((mlpDat W b c).before 9 t d9)
  iapply (wp_wand_r frame (wpE (defs₀ (F := F)) 𝒱₀ (c : Thread nD τ) none) Set.univ)
  isplitl [H0 H1 H2 H3 H4 H5 H6 H7 H8 H9]
  · iapply run
    unfold inBlocks
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  iintro %_ H
  unfold inBlocks
  icases H with ⟨H0, H1, H2, H3, H4, H5, H6, H7, H8, H9⟩
  isplitl [HA]; · iexact HA
  isplitl [HB]; · iexact HB
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  rw [mlpDat_scores]
  iexact H9

theorem mlp_obligation (c : Dev nD) : BodyObligation (mlpDat W b c) (defs₀ (F := F)) 𝒱₀ none Set.univ := fun t => by
  rw [bigSep_W1, bigSep_W1]
  exact triple_restated (point W b c t _ _) rfl .rfl fun _ => .rfl

/-! ## The region -/

abbrev adm : (p : Fin 1) → (pcfgs (F := F) p).Adm := fun p => (cfgs p).toPCfg_adm

def mlpDats : (p : Fin 1) → (c : Dev nD) → Dat τ (Elt F) (HIx 1) ℕ UU ℕ (Pipeline.pin (pcfgs (F := F)) adm p) c := fun _ c => mlpDat W b c

/-- The call's arrays within a set of arrays `S`. -/
abbrev mlpArrs : Finset (DevRef τ sig) := arrRefs (pcfgs (F := F) 0).spec

theorem mlpKit : Pipeline.PLaunchFacts (nD := nD) (τ := τ) (pcfgs (F := F)) 0 := launch1.toP

/-- Nothing owed, and every wait recorded at a level of at most `b`. -/
def settled (c : Dev nD) : sProp 𝕄 :=
  iprop(∃ Wd, ⌜∀ p ∈ Wd, (K (F := F)).lev ((c : Thread nD τ), p.1) p.2 ≤ b⌝ ∗ owes (c : Thread nD τ) (0 : CellTallies nD τ sig (HIx 1)) Wd)

/-- The region from a set `S` of arrays held at `W c` to the same set with the result array rewritten. -/
def mlpRegion (L : GSem nD τ sig → Finset (HIx 1)) (lv : GSem nD τ sig → HIx 1 → ℕ) (S : Finset (DevRef τ sig)) (hS : mlpArrs (F := F) ⊆ S) :
    Pipeline.RegionSeg (pcfgs (F := F)) adm (mlpDats W b) none defs₀ 𝒱₀ L lv 0 where
  win := (mlpKit (F := F)).to₀.win
  block_pos := (mlpKit (F := F)).to₀.block_pos
  stage_whole := (mlpKit (F := F)).to₀.stage_whole
  K := PEmpty
  osem k := k.elim
  ho := Pipeline.OwnSemFacts.none _
  hbody c := (mlp_obligation W b c).loose
  hwaits c := BI.Entails.trans (show _ ⊢ (iprop(emp) : sProp 𝕄) from by iintro -; iempintro)
    (Pipeline.cellsWaits_of_owed_zero _ _ none 0 c fun _ => rfl)
  pre c := iprop(held (c : Thread nD τ) S (W c) ∗ settled (F := F) b c)
  post c := iprop(held (c : Thread nD τ) S (afterRegion (mlpDat W b c) (W c)) ∗ settled (F := F) b c)
  X _ := iprop(emp)
  Y _ := iprop(emp)
  Z c := held (c : Thread nD τ) (S \ mlpArrs (F := F)) (W c)
  hentry c := by
    rw [Pipeline.ownSems0_none, Pipeline.prefHeld_of_none _ rfl, StableHlo.held_sub_split (c : Thread nD τ) hS (W c),
      ← Pipeline.arrays_held (pcfgs (F := F)) adm (mlpDats W b) 0 mlpKit c ((mlpDat W b c).share_full fun _ => rfl) ((mlpDat W b c).arrAt · 0) (W c)
        fun w => mlpDat_A W b c w]
    iintro ⟨⟨⟨Ha, Hr⟩, HO⟩, -, -⟩
    imodintro
    isplitl [Ha]; · iexact Ha
    isplitr; · iempintro
    isplitl [HO]
    · unfold settled
      icases HO with ⟨%Wd, %h, HO⟩
      iexists Wd
      isplitr; · ipureintro; exact fun p hp => Or.inl (h p hp)
      iexact HO
    isplitr; · iempintro
    iexact Hr
  hin c := by iintro -; iempintro
  hout c := by
    rw [Pipeline.ownSems0_none]
    have h : (Pipeline.scopedRest (pcfgs (F := F) 0).spec c : sProp 𝕄) = iprop(emp) := scopedRest1_eq c
    rw [h]
    iintro -
    isplitr; · iempintro
    isplitr; · iempintro
    iempintro
  hexit c := by
    rw [StableHlo.held_sub_split (c : Thread nD τ) hS (afterRegion (mlpDat W b c) (W c)),
      StableHlo.held_congr (c : Thread nD τ) (S := S \ mlpArrs (F := F)) (Pipeline.afterRegion_off (mlpDat W b c) (W c) S),
      ← Pipeline.arrays_held (pcfgs (F := F)) adm (mlpDats W b) 0 mlpKit c ((mlpDat W b c).share_full fun _ => rfl) ((mlpDat W b c).arrAt · cfg1.N)
        (afterRegion (mlpDat W b c) (W c)) fun w => (Pipeline.afterRegion_arr (mlpDat W b c) (W c) launch1.win.arr_inj w).symm]
    iintro ⟨Ha, HO, -, Hr⟩
    imodintro
    isplitr [HO]
    · isplitl [Ha]; · iexact Ha
      iexact Hr
    unfold settled
    icases HO with ⟨%Wd, %h, HO⟩
    iexists Wd
    isplitr
    · ipureintro
      intro p hp
      rcases h hp with h' | ⟨w, s, rfl⟩
      · exact h'
      · exact Nat.zero_le _
    iexact HO

end Cert.Proof.Ideal

end
-- ==== Proof.Ideal.Run.lean ====
module

public import proofs.«01_k».proof.Defs
public import proofs.«01_k».proof.Proof.Ideal.Launch
public import proofs.«01_k».proof.Proof.Ideal.Mlp
public import proofs.«01_k».proof.Proof.Gen.Pre_in_range
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.ValueLayout
public import Idealize.ShloMosaic.Lib.Tactic
public import proofs.«01_k».proof.Proof.Gen.KernelIdeal
public import proofs.«01_k».proof.Proof.Gen.KernelIdeal.Skeleton

@[expose] public section

noncomputable section

/-!
# The program's run

The call's payloads (every tile takes a read share of the three operands and its own rows of the result, and brings
the rows back at the specification), the split of the arrays among the tiles, @main, and the run: the arguments end
unchanged and the scores at the perceptron of the pooled corners.
-/

namespace Cert.Proof.Ideal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held wp_hlo_within reshape_result reshape_result_ne unary_result unary_result_ne)

variable {F : FTy → Type}

local notation "𝕄" => MT nD τ sig (HIx 1) (Elt F) ℕ UU ℕ

variable [FloatOps F]

variable (m : (ℓ : Loc nD τ sig) → Buf (Elt F) ℓ) (ρ : Dev nD → PrngReg)

/-! ## The arrays at the call -/

abbrev opT : HloOp τ sig (Elt F) := StableHlo.unary main_arg0 main_v0
  ((transpose S2x128x128x128 [0, 2, 3, 1] · transposes_S2x128x128x128_S2x128x128x128_0_2_3_1) :
    (⟨S2x128x128x128, .f32⟩ : BufTy).Contents (Elt F) → (⟨S2x128x128x128, .f32⟩ : BufTy).Contents (Elt F))
abbrev opX : HloOp τ sig (Elt F) := StableHlo.reshape main_v0 main_v1 (rfl : (.f32 : EltTy) = .f32) shapeCasts_S2x128x128x128_S32768x128
abbrev opI : HloOp τ sig (Elt F) := StableHlo.reshape main_arg1 main_v2 (rfl : (.i32 : EltTy) = .i32) shapeCasts_S2x2016x128_S4032x128
abbrev opW : HloOp τ sig (Elt F) := StableHlo.reshape main_arg2 main_v3 (rfl : (.f32 : EltTy) = .f32) shapeCasts_S2x2016x128_S4032x128

/-- The three arguments and the three operands of the call, from the launch memory. -/
def arg0 (d : Dev nD) : S2x128x128x128.Idx → F .f32 := m ((SparseCore.T d).loc main_arg0)
def arg1 (d : Dev nD) : S2x2016x128.Idx → BitVec 32 := m ((SparseCore.T d).loc main_arg1)
def arg2 (d : Dev nD) : S2x2016x128.Idx → F .f32 := m ((SparseCore.T d).loc main_arg2)
def pixels (d : Dev nD) : S32768x128.Idx → F .f32 :=
  shapeCast S32768x128 (transpose S2x128x128x128 [0, 2, 3, 1] (arg0 m d) transposes_S2x128x128x128_S2x128x128x128_0_2_3_1)
    shapeCasts_S2x128x128x128_S32768x128
def lists (d : Dev nD) : S4032x128.Idx → BitVec 32 := shapeCast S4032x128 (arg1 m d) shapeCasts_S2x2016x128_S4032x128
def weights (d : Dev nD) : S4032x128.Idx → F .f32 := shapeCast S4032x128 (arg2 m d) shapeCasts_S2x2016x128_S4032x128
def before (d : Dev nD) : S4032x1024.Idx → F .f32 := m (oLoc d)
/-- The result. -/
def result (d : Dev nD) : S4032x1024.Idx → F .f32 := pooledBuf (pixels m d) (lists m d) (weights m d)

/-- What the proof asks of the launch memory: every index word names a pixel. -/
def InRange : Prop := ∀ (d : Dev nD) (j : S2x2016x128.Idx), (arg1 m d j).toNat < 32768

/-! ## What the handshakes carry -/

abbrev coordsV (c : Fin (grid0.bound 0)) (s : Fin (grid0.bound 1)) : grid0.Coords :=
  fun | 0 => c | 1 => s | ⟨_ + 2, h⟩ => absurd h (Nat.not_lt.2 (Nat.le_add_left _ _))

/-- The read share of tile `(c, i)`. -/
abbrev shareOf (c : Fin 2) (i : Fin 16) : PosShare TreeShare := Transfers.shareTok fullShare (2 * 16) (finProdFinEquiv (c, i))

/-- What tile `(c, i)` holds, its rows of the result at `o`. -/
def tile (d : Dev nD) (c : Fin 2) (i : Fin 16) (o : S4032x1024.Idx → F .f32) : sProp 𝕄 :=
  hold d (coordsV c i) (shareOf c i) (pixels m d) (lists m d) (weights m d) o

instance tile_storable (d : Dev nD) (c : Fin 2) (i : Fin 16) (o : S4032x1024.Idx → F .f32) :
    BI.Storable (upEmb : UEmb _ 𝕄) (tile m d c i o) := by unfold tile hold; infer_instance

/-- What SparseCore `c` holds: its sixteen tiles' parts. -/
def tiles (d : Dev nD) (c : Fin 2) (o : S4032x1024.Idx → F .f32) : sProp 𝕄 := bigSep Finset.univ fun i : Fin 16 => tile m d c i o

instance tiles_storable (d : Dev nD) (c : Fin 2) (o : S4032x1024.Idx → F .f32) :
    BI.Storable (upEmb : UEmb _ 𝕄) (tiles m d c o) := by unfold tiles; infer_instance

def P : (K (F := F)).Pay (nD := nD) (Val := Elt F) (Name := ℕ) (U := UU) where
  st := fun q d c => match q with | 0 => tiles m d c (before m d)
  dn := fun q d c => match q with | 0 => tiles m d c (result m d)
  go := fun q d c i => match q with | 0 => tile m d c i (before m d)
  td := fun q d c i => match q with | 0 => tile m d c i (result m d)
  x := fun _ _ => iprop(emp)

instance P_storable : (P (F := F) m).IsStorable where
  st q d c := match q with | 0 => tiles_storable m d c (before m d)
  dn q d c := match q with | 0 => tiles_storable m d c (result m d)
  go q d c i := match q with | 0 => tile_storable m d c i (before m d)
  td q d c i := match q with | 0 => tile_storable m d c i (result m d)

/-! ## The obligations -/

theorem defs₀_vector (c : Fin τ.nSC) (s : Fin τ.nSub) :
    defs₀ (F := F) (.scVector c s) 0 ()
      = SparseCore.onTile hcore0 hsub0 (fun c s => cc0__sc_body (coordsV c s)
          (Memref.whole main_v1_scv) (Memref.isWhole_whole _) (Memref.whole main_v2_scv) (Memref.isWhole_whole _)
          (Memref.whole main_v3_scv) (Memref.isWhole_whole _) (Memref.whole main_v4_scv) (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _)
          cc0_scratch4 cc0_scoped0 cc0_scoped1 cc0_scoped2) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem lists_lt (hI : InRange m) (d : Dev nD) (j : S4032x128.Idx) : (lists m d j).toNat < 32768 := hI d _

set_option maxRecDepth 16384 in
theorem tileObl (hI : InRange m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) (shareOf c i) (pixels m d) (lists m d) (weights m d) (lists_lt m hI d) (before m d) O W hO).trans
    (wp_mono frame _ _ fun _ => obl_post)

theorem vecSplit : (K (F := F)).VecSplit' (P m) 0 := by
  intro d c
  show tiles m d c (before m d) ⊢ |={Set.univ}=> iprop(tiles m d c (before m d) ∗ (tiles m d c (result m d) -∗ tiles m d c (result m d)))
  iintro H; imodintro
  isplitl [H]; · iexact H
  iintro H; iexact H

/-! ## The arrays dealt to the tiles -/

omit [FloatOps F] in
theorem over_tiles (Φ : Fin 2 × Fin 16 → sProp 𝕄) :
    bigSep Finset.univ Φ = bigSep Finset.univ fun c => bigSep Finset.univ fun i => Φ (c, i) := by
  rw [← Finset.univ_product_univ]; exact SparseCore.bigSep_product _ _ Φ

theorem mem_part (c : Fin 2) (i : Fin 16) (y : S4032x1024.Idx) :
    y ∈ part (coordsV c i) ↔ 252 * i.val + 126 * c.val ≤ (y 0).val ∧ (y 0).val < 252 * i.val + 126 * c.val + 126 :=
  Finset.mem_filter.trans (and_iff_right (Finset.mem_univ _))

theorem parts_disjoint : ∀ p ∈ (Finset.univ : Finset (Fin 2 × Fin 16)), ∀ p' ∈ (Finset.univ : Finset (Fin 2 × Fin 16)), p ≠ p' →
    Disjoint (part (coordsV p.1 p.2)) (part (coordsV p'.1 p'.2)) := by
  intro p _ p' _ hne
  refine Finset.disjoint_left.mpr fun y h h' => hne ?_
  have h1 := (mem_part _ _ y).mp h
  have h2 := (mem_part _ _ y).mp h'
  exact Prod.ext (Fin.ext (by omega)) (Fin.ext (by omega))

theorem parts_cover : (Finset.univ : Finset (Fin 2 × Fin 16)).biUnion (fun p => part (coordsV p.1 p.2)) = Finset.univ := by
  refine Finset.eq_univ_of_forall fun y => ?_
  have hy : (y 0).val < 4032 := (y 0).isLt
  refine Finset.mem_biUnion.mpr ⟨(⟨(y 0).val / 126 % 2, by omega⟩, ⟨(y 0).val / 252, by omega⟩), Finset.mem_univ _, (mem_part _ _ y).mpr ?_⟩
  constructor
  · show 252 * ((y 0).val / 252) + 126 * ((y 0).val / 126 % 2) ≤ (y 0).val; omega
  · show (y 0).val < 252 * ((y 0).val / 252) + 126 * ((y 0).val / 126 % 2) + 126; omega

omit [FloatOps F] in
theorem result_dealt (d : Dev nD) (o : S4032x1024.Idx → F .f32) :
    (oLoc d ↦{fullShare} o : sProp 𝕄)
      = bigSep Finset.univ fun c : Fin 2 => bigSep Finset.univ fun i : Fin 16 => oLoc d ↦[part (coordsV c i)]{fullShare} o := by
  rw [← over_tiles (fun p : Fin 2 × Fin 16 => (oLoc d ↦[part (coordsV p.1 p.2)]{fullShare} o : sProp 𝕄)),
    ← pointsTo_biUnion Finset.univ (ℓ := oLoc d) _ parts_disjoint, parts_cover]

omit [FloatOps F] in
theorem operand_dealt (ℓ : Loc nD τ sig) (f : Buf (Elt F) ℓ) :
    (ℓ ↦{fullShare} f : sProp 𝕄) = iprop((ℓ ↦{Transfers.shareDrop fullShare (2 * 16)} f)
      ∗ bigSep Finset.univ fun c : Fin 2 => bigSep Finset.univ fun i : Fin 16 => ℓ ↦{shareOf c i} f) := by
  rw [← over_tiles (fun p : Fin 2 × Fin 16 => (ℓ ↦{shareOf p.1 p.2} f : sProp 𝕄)),
    ← bigSep_univ_equiv finProdFinEquiv (fun n : Fin (2 * 16) => (ℓ ↦{Transfers.shareTok fullShare (2 * 16) n} f : sProp 𝕄))]
  exact BI.Entails.antisymm (Transfers.pointsTo_toks fullShare (2 * 16)).1 (Transfers.pointsTo_toks fullShare (2 * 16)).2

/-- What the TensorCore keeps of the operands during the call. -/
def kept (d : Dev nD) : sProp 𝕄 :=
  iprop((xLoc d ↦{Transfers.shareDrop fullShare (2 * 16)} pixels m d) ∗ (iLoc d ↦{Transfers.shareDrop fullShare (2 * 16)} lists m d)
    ∗ wLoc d ↦{Transfers.shareDrop fullShare (2 * 16)} weights m d)

theorem deal (d : Dev nD) (o : S4032x1024.Idx → F .f32) :
    iprop((xLoc d ↦{fullShare} pixels m d) ∗ (iLoc d ↦{fullShare} lists m d) ∗ (wLoc d ↦{fullShare} weights m d) ∗ oLoc d ↦{fullShare} o)
      ⊢ (iprop(kept m d ∗ bigSep Finset.univ fun c : Fin 2 => tiles m d c o) : sProp 𝕄) := by
  unfold kept tiles tile hold
  rw [operand_dealt (xLoc d), operand_dealt (iLoc d), operand_dealt (wLoc d), result_dealt]
  simp only [bigSep_sep']
  iintro ⟨⟨Hx, Hxs⟩, ⟨Hi, His⟩, ⟨Hw, Hws⟩, Ho⟩
  isplitl [Hx Hi Hw]
  · isplitl [Hx]; · iexact Hx
    isplitl [Hi]; · iexact Hi
    iexact Hw
  isplitl [Hxs]; · iexact Hxs
  isplitl [His]; · iexact His
  isplitl [Hws]; · iexact Hws
  iexact Ho

/-- The result joined from the tiles' rows. -/
theorem gather_rows (d : Dev nD) (o : S4032x1024.Idx → F .f32) :
    (bigSep Finset.univ fun c : Fin 2 => tiles m d c o) ⊢ (oLoc d ↦{fullShare} o : sProp 𝕄) := by
  unfold tiles tile hold
  rw [result_dealt]
  simp only [bigSep_sep']
  iintro ⟨-, -, -, Ho⟩
  iexact Ho

/-! ## The launch element -/

/-- The pipeline's rounds, in the ghost state's second component. -/
abbrev EP : Emb UP 𝕄 := (Emb.inl : Emb UP (UP × Counters)).trans embR

theorem cells_inj : Function.Injective (Pipeline.cellOf (nD := nD) (τ := τ) (Pipeline.pin (pcfgs (F := F)) adm)) := cellOf_inj

def u₀ : UU := (initOf (K (F := F)).hsCells (K (F := F)).hsToks,
  (initOf (Pipeline.cells (Pipeline.pin (pcfgs (F := F)) adm) cells_inj) (Pipeline.launchToks (Pipeline.pin (pcfgs (F := F)) adm) cells_inj), 1))

/-- What the launch leaves device `d` for its pipeline. -/
def ghost (d : Dev nD) : sProp 𝕄 :=
  iprop(Pipeline.cellsGhost (Pipeline.pin (pcfgs (F := F)) adm) EP 0 d ∗ Pipeline.toksInit (Pipeline.pin (pcfgs (F := F)) adm) EP 0 d)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (F := F) (initOf (K (F := F)).hsCells (K (F := F)).hsToks)) ∗ (bigSep Finset.univ fun d : Dev nD => ghost (F := F) d)
        ∗ bigSep Finset.univ fun thr : Thread nD τ => bigSep Finset.univ fun q : Fin 1 => (P m).x q thr) := by
  have one : ∀ Φ : Fin 1 → sProp 𝕄, bigSep Finset.univ Φ = Φ 0 := fun Φ => bigSep_univ_of_subsingleton (0 : Fin 1)
  unfold u₀
  iintro Hu
  ihave H := (ownU_pair _ _) $$ Hu
  icases H with ⟨HH, HR⟩
  ihave H := (own_pair_emb _ _ _) $$ HR
  icases H with ⟨HP, -⟩
  imod (Pipeline.fund_ghost (Pipeline.pin (pcfgs (F := F)) adm) EP cells_inj) $$ HP with ⟨Hc, Ht⟩
  imodintro
  isplitl [HH]; · iexact HH
  isplitl [Hc Ht]
  · unfold ghost
    simp only [bigSep_sep', one]
    isplitl [Hc]; · iexact Hc
    iexact Ht
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main -/

/-- The eight arrays the SparseCore call and what precedes it touch. -/
abbrev S8 : Finset (DevRef τ sig) := {rf main_arg0, rf main_arg1, rf main_arg2, rf main_v0, rf main_v1, rf main_v2, rf main_v3, rf main_v4}

omit [FloatOps F] in
theorem held_S8 (d : Dev nD) (W : Valuation τ sig (Elt F)) :
    (held (T d) S8 W : sProp 𝕄) = iprop(((SparseCore.T d).loc main_arg0 ↦{fullShare} W (rf main_arg0)) ∗ ((SparseCore.T d).loc main_arg1 ↦{fullShare} W (rf main_arg1))
      ∗ ((SparseCore.T d).loc main_arg2 ↦{fullShare} W (rf main_arg2)) ∗ ((SparseCore.T d).loc main_v0 ↦{fullShare} W (rf main_v0))
      ∗ (xLoc d ↦{fullShare} W (rf main_v1)) ∗ (iLoc d ↦{fullShare} W (rf main_v2)) ∗ (wLoc d ↦{fullShare} W (rf main_v3))
      ∗ oLoc d ↦{fullShare} W (rf main_v4)) := by
  unfold held S8
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

def V0 (d : Dev nD) : Valuation τ sig (Elt F) := fun b => m (d, b)
/-- The arrays when the call starts. -/
def V4 (d : Dev nD) : Valuation τ sig (Elt F) :=
  (opW (F := F)).result ((opI (F := F)).result ((opX (F := F)).result ((opT (F := F)).result (V0 m d))))

/-- The other arrays. -/
abbrev S21 : Finset (DevRef τ sig) := {rf main_arg3, rf main_arg4, rf main_arg5, rf main_arg6, rf main_arg7, rf main_arg8, rf main_arg9, rf main_v5, rf main_v6, rf main_v7, rf main_v8, rf main_v9, rf main_v10, rf main_v11, rf main_v12, rf main_v13, rf main_v14, rf main_v15, rf main_v16, rf main_v17, rf main_v18}
/-- The arrays the perceptron and its host operations touch: the SparseCore call's result and the other arrays. -/
abbrev S22 : Finset (DevRef τ sig) := insert (rf main_v4) S21

omit [FloatOps F] in
theorem unscoped_held (d : Dev nD) : (unscopedBufs d (fun b => m ((SparseCore.T d).loc b)) : sProp 𝕄)
    = iprop(held (T d) S8 (V0 m d) ∗ held (T d) S21 (V0 m d)) := by
  refine (Pipeline.unscopedBufs_held d (V0 m d)).trans ?_
  rw [StableHlo.held_sub_split (T d) (show S8 ⊆ Pipeline.ucRefs τ sig by decide +kernel), show Pipeline.ucRefs τ sig \ S8 = S21 by decide +kernel]

theorem V4_arg0 (d : Dev nD) : V4 m d (rf main_arg0) = arg0 m d := by
  unfold V4; rw [reshape_result_ne (h := by decide), reshape_result_ne (h := by decide), reshape_result_ne (h := by decide), unary_result_ne (h := by decide)]; rfl
theorem V4_arg1 (d : Dev nD) : V4 m d (rf main_arg1) = arg1 m d := by
  unfold V4; rw [reshape_result_ne (h := by decide), reshape_result_ne (h := by decide), reshape_result_ne (h := by decide), unary_result_ne (h := by decide)]; rfl
theorem V4_arg2 (d : Dev nD) : V4 m d (rf main_arg2) = arg2 m d := by
  unfold V4; rw [reshape_result_ne (h := by decide), reshape_result_ne (h := by decide), reshape_result_ne (h := by decide), unary_result_ne (h := by decide)]; rfl
theorem V4_x (d : Dev nD) : V4 m d (rf main_v1) = pixels m d := by
  unfold V4; rw [reshape_result_ne (h := by decide), reshape_result_ne (h := by decide), reshape_result, unary_result]; rfl
theorem V4_i (d : Dev nD) : V4 m d (rf main_v2) = lists m d := by
  unfold V4; rw [reshape_result_ne (h := by decide), reshape_result, reshape_result_ne (h := by decide), unary_result_ne (h := by decide)]; rfl
theorem V4_w (d : Dev nD) : V4 m d (rf main_v3) = weights m d := by
  unfold V4; rw [reshape_result, reshape_result_ne (h := by decide), reshape_result_ne (h := by decide), unary_result_ne (h := by decide)]; rfl
theorem V4_o (d : Dev nD) : V4 m d (rf main_v4) = before m d := by
  unfold V4; rw [reshape_result_ne (h := by decide), reshape_result_ne (h := by decide), reshape_result_ne (h := by decide), unary_result_ne (h := by decide)]; rfl

/-- The arrays at the call, one by one. -/
theorem held_V4 (d : Dev nD) :
    (held (T d) S8 ((opW (F := F)).result ((opI (F := F)).result ((opX (F := F)).result ((opT (F := F)).result (V0 m d))))) : sProp 𝕄)
      = iprop(((SparseCore.T d).loc main_arg0 ↦{fullShare} arg0 m d) ∗ ((SparseCore.T d).loc main_arg1 ↦{fullShare} arg1 m d)
      ∗ ((SparseCore.T d).loc main_arg2 ↦{fullShare} arg2 m d) ∗ ((SparseCore.T d).loc main_v0 ↦{fullShare} V4 m d (rf main_v0))
      ∗ (xLoc d ↦{fullShare} pixels m d) ∗ (iLoc d ↦{fullShare} lists m d) ∗ (wLoc d ↦{fullShare} weights m d)
      ∗ oLoc d ↦{fullShare} before m d) := by
  rw [← V4_arg0, ← V4_arg1, ← V4_arg2, ← V4_x, ← V4_i, ← V4_w, ← V4_o]; exact held_S8 d (V4 m d)

theorem hT : (opT (F := F)).bufs ⊆ S8 := show ({rf main_arg0, rf main_v0} : Finset (DevRef τ sig)) ⊆ S8 by decide
theorem hX : (opX (F := F)).bufs ⊆ S8 := show ({rf main_v0, rf main_v1} : Finset (DevRef τ sig)) ⊆ S8 by decide
theorem hI : (opI (F := F)).bufs ⊆ S8 := show ({rf main_arg1, rf main_v2} : Finset (DevRef τ sig)) ⊆ S8 by decide
theorem hW : (opW (F := F)).bufs ⊆ S8 := show ({rf main_arg2, rf main_v3} : Finset (DevRef τ sig)) ⊆ S8 by decide

/-! ## The perceptron's arrays -/

abbrev op5 : HloOp τ sig (Elt F) := StableHlo.unary main_arg4 main_v5
  ((extractStridedSlice S1024x1024 ![0, 0] · slices_S1032x1024_S1024x1024_0_0) :
    (⟨S1032x1024, .f32⟩ : BufTy).Contents (Elt F) → (⟨S1024x1024, .f32⟩ : BufTy).Contents (Elt F))
abbrev op6 : HloOp τ sig (Elt F) := StableHlo.reshape main_v5 main_v6 (rfl : (.f32 : EltTy) = .f32) shapeCasts_S1024x1024_S128x8x1024
abbrev op7 : HloOp τ sig (Elt F) := StableHlo.unary main_v6 main_v7
  ((transpose S8x128x1024 [1, 0, 2] · transposes_S128x8x1024_S8x128x1024_1_0_2) :
    (⟨S128x8x1024, .f32⟩ : BufTy).Contents (Elt F) → (⟨S8x128x1024, .f32⟩ : BufTy).Contents (Elt F))
abbrev op8 : HloOp τ sig (Elt F) := StableHlo.reshape main_v7 main_v8 (rfl : (.f32 : EltTy) = .f32) shapeCasts_S8x128x1024_S1024x1024
abbrev op9 : HloOp τ sig (Elt F) := StableHlo.unary main_arg4 main_v9
  ((extractStridedSlice S8x1024 ![1024, 0] · slices_S1032x1024_S8x1024_1024_0) :
    (⟨S1032x1024, .f32⟩ : BufTy).Contents (Elt F) → (⟨S8x1024, .f32⟩ : BufTy).Contents (Elt F))
abbrev op10 : HloOp τ sig (Elt F) := StableHlo.reshape main_arg3 main_v10 (rfl : (.f32 : EltTy) = .f32) shapeCasts_S2x2016x8_S4032x8
abbrev op11 : HloOp τ sig (Elt F) := StableHlo.reshape main_arg5 main_v11 (rfl : (.f32 : EltTy) = .f32) shapeCasts_S1024_S1x1024
abbrev op12 : HloOp τ sig (Elt F) := StableHlo.reshape main_arg7 main_v12 (rfl : (.f32 : EltTy) = .f32) shapeCasts_S1024_S1x1024
abbrev op13 : HloOp τ sig (Elt F) := StableHlo.reshape main_arg8 main_v13 (rfl : (.f32 : EltTy) = .f32) shapeCasts_S1024x1_S1x1024
abbrev op14 : HloOp τ sig (Elt F) := StableHlo.reshape main_arg9 main_v14 (rfl : (.f32 : EltTy) = .f32) shapeCasts_S1_S1x1
abbrev op16 : HloOp τ sig (Elt F) := StableHlo.unary main_v15 main_v16
  ((extractStridedSlice S4032x1 ![0, 0] · slices_S4032x128_S4032x1_0_0) :
    (⟨S4032x128, .f32⟩ : BufTy).Contents (Elt F) → (⟨S4032x1, .f32⟩ : BufTy).Contents (Elt F))
abbrev op17 : HloOp τ sig (Elt F) := StableHlo.reshape main_v16 main_v17 (rfl : (.f32 : EltTy) = .f32) shapeCasts_S4032x1_S4032
abbrev op18 : HloOp τ sig (Elt F) := StableHlo.reshape main_v17 main_v18 (rfl : (.f32 : EltTy) = .f32) shapeCasts_S4032_S2x2016

theorem in5 : (op5 (F := F)).bufs ⊆ S22 := show ({rf main_arg4, rf main_v5} : Finset (DevRef τ sig)) ⊆ S22 by decide
theorem in6 : (op6 (F := F)).bufs ⊆ S22 := show ({rf main_v5, rf main_v6} : Finset (DevRef τ sig)) ⊆ S22 by decide
theorem in7 : (op7 (F := F)).bufs ⊆ S22 := show ({rf main_v6, rf main_v7} : Finset (DevRef τ sig)) ⊆ S22 by decide
theorem in8 : (op8 (F := F)).bufs ⊆ S22 := show ({rf main_v7, rf main_v8} : Finset (DevRef τ sig)) ⊆ S22 by decide
theorem in9 : (op9 (F := F)).bufs ⊆ S22 := show ({rf main_arg4, rf main_v9} : Finset (DevRef τ sig)) ⊆ S22 by decide
theorem in10 : (op10 (F := F)).bufs ⊆ S22 := show ({rf main_arg3, rf main_v10} : Finset (DevRef τ sig)) ⊆ S22 by decide
theorem in11 : (op11 (F := F)).bufs ⊆ S22 := show ({rf main_arg5, rf main_v11} : Finset (DevRef τ sig)) ⊆ S22 by decide
theorem in12 : (op12 (F := F)).bufs ⊆ S22 := show ({rf main_arg7, rf main_v12} : Finset (DevRef τ sig)) ⊆ S22 by decide
theorem in13 : (op13 (F := F)).bufs ⊆ S22 := show ({rf main_arg8, rf main_v13} : Finset (DevRef τ sig)) ⊆ S22 by decide
theorem in14 : (op14 (F := F)).bufs ⊆ S22 := show ({rf main_arg9, rf main_v14} : Finset (DevRef τ sig)) ⊆ S22 by decide
theorem in16 : (op16 (F := F)).bufs ⊆ S22 := show ({rf main_v15, rf main_v16} : Finset (DevRef τ sig)) ⊆ S22 by decide
theorem in17 : (op17 (F := F)).bufs ⊆ S22 := show ({rf main_v16, rf main_v17} : Finset (DevRef τ sig)) ⊆ S22 by decide
theorem in18 : (op18 (F := F)).bufs ⊆ S22 := show ({rf main_v17, rf main_v18} : Finset (DevRef τ sig)) ⊆ S22 by decide

/-- The bound on the levels of the waits recorded once the SparseCore call is over. -/
abbrev bnd : ℕ := 8 * (inferInstance : SparseCore.Cfg.Blocks 1 1).fst 1

variable [∀ e, Nonempty (Elt F e)]

open Idealize.ShloMosaic.Pipeline (afterRegion)

/-- The arrays after the SparseCore call, -/
def V5 (d : Dev nD) : Valuation τ sig (Elt F) := Function.update (V0 m d) (rf main_v4) (result m d)
/-- when the perceptron's call starts, -/
def V14 (d : Dev nD) : Valuation τ sig (Elt F) :=
  (op14 (F := F)).result ((op13 (F := F)).result ((op12 (F := F)).result ((op11 (F := F)).result ((op10 (F := F)).result
    ((op9 (F := F)).result ((op8 (F := F)).result ((op7 (F := F)).result ((op6 (F := F)).result ((op5 (F := F)).result (V5 m d))))))))))
/-- when it is over, -/
def V15 (d : Dev nD) : Valuation τ sig (Elt F) := afterRegion (mlpDat (V14 m) bnd d) (V14 m d)
/-- and at the end. -/
def V18 (d : Dev nD) : Valuation τ sig (Elt F) := (op18 (F := F)).result ((op17 (F := F)).result ((op16 (F := F)).result (V15 m d)))

/-- One host operation within a set of held arrays. -/
theorem host_step (d : Dev nD) {S : Finset (DevRef τ sig)} {op : HloOp τ sig (Elt F)} (hS : op.bufs ⊆ S) (hf : op.fresh = ∅)
    (V : Valuation τ sig (Elt F)) {Φ : PUnit → sProp 𝕄} :
    iprop(boundary (T d) ∗ held (T d) S V) ⊢ iprop((iprop(boundary (T d) ∗ held (T d) S (op.result V)) -∗ Φ ⟨⟩)
      -∗ wp frame (wpE ((K (F := F)).defs (D (F := F))) 𝒱 (T d) none) Set.univ (hlo rfl op fun _ => .ret ⟨⟩) Φ) := by
  iintro H Hk
  iapply (wp_hlo_within 𝒱 (T d) none Set.univ (op := op) (S := S) hS (V := V) hf) $$ H
  iintro H
  rw [wp_ret]; imodintro
  iapply Hk; iexact H

theorem held_V5 (d : Dev nD) : (held (T d) S22 (V5 m d) : sProp 𝕄) = iprop((oLoc d ↦{fullShare} result m d) ∗ held (T d) S21 (V0 m d)) := by
  rw [← StableHlo.held_congr (T d) (V := V5 m d) fun b hb => Function.update_of_ne (show b ≠ rf main_v4 from fun h => absurd (h ▸ hb) (by decide)) _ _]
  unfold held
  rw [SparseCore.bigSep_insert' (by decide), show V5 m d (rf main_v4) = result m d from Function.update_self _ _ _]

theorem mlpArrs_sub : mlpArrs (F := F) ⊆ S22 := show Pipeline.arrRefs spec1 ⊆ S22 by decide +kernel

/-- The perceptron's call, as @main makes it. -/
theorem mlp_call (κ : GSem nD τ sig → ℕ) (d : Dev nD) {Φ : PUnit → sProp 𝕄} :
    iprop((K (F := F)).ctx EH (P m) κ ∗ boundary (T d) ∗ held (T d) S22 (V14 m d) ∗ settled (F := F) bnd d ∗ ghost (F := F) d)
      ⊢ iprop((iprop(boundary (T d) ∗ held (T d) S22 (V15 m d) ∗ settled (F := F) bnd d) -∗ Φ ⟨⟩)
        -∗ wp frame (wpE ((K (F := F)).defs (D (F := F))) 𝒱 (T d) none) Set.univ (Prog.lift (.customCall (SparseCore.inner (Pipeline.entry 0)) ())) Φ) := by
  iintro ⟨#Hctx, Hb, Hh, Hs, Hg⟩ Hk
  ihave #Hlev := (SparseCore.Cfg.ctx_levAts κ) $$ Hctx
  unfold ghost
  icases Hg with ⟨Hc, Ht⟩
  iapply ((K (F := F)).wp_liftProg (D (F := F)) 𝒱 (T d) Set.univ none (.op (.customCall (Pipeline.entry 0) ()) .ret) Φ)
  have hw : iprop((iprop(boundary (T d) ∗ held (T d) S22 (V15 m d) ∗ settled (F := F) bnd d) -∗ wp frame (wpE (D (F := F)) 𝒱 (T d) none) Set.univ (.ret ⟨⟩) Φ)
      ∗ boundary (T d) ∗ iprop(held (T d) S22 (V14 m d) ∗ settled (F := F) bnd d) ∗ levAts (K (F := F)).L (K (F := F)).lev
      ∗ Pipeline.cellsGhost (Pipeline.pin (pcfgs (F := F)) adm) EP 0 d ∗ Pipeline.toksInit (Pipeline.pin (pcfgs (F := F)) adm) EP 0 d)
      ⊢ wp frame (wpE (D (F := F)) 𝒱 (T d) none) Set.univ (.op (.customCall (Pipeline.entry 0) ()) .ret) Φ :=
    Pipeline.RegionSeg.wp (pcfgs (F := F)) adm (mlpDats (V14 m) bnd) none cells_inj EP defs₀ 𝒱₀ (K (F := F)).L (K (F := F)).lev
      (mlpRegion (V14 m) bnd (K (F := F)).L (K (F := F)).lev S22 mlpArrs_sub) d none (by simp) .ret Φ
  iapply hw
  isplitl [Hk]
  · iintro H
    rw [wp_ret]; imodintro
    iapply Hk; iexact H
  isplitl [Hb]; · iexact Hb
  isplitl [Hh Hs]
  · isplitl [Hh]; · iexact Hh
    iexact Hs
  isplitr; · iexact Hlev
  isplitl [Hc]; · iexact Hc
  iexact Ht

/-- What the TensorCore carries of the handshakes after the SparseCore call. -/
def tcRest (d : Dev nD) : sProp 𝕄 :=
  iprop(atPos EH ((K (F := F)).doneCell d) 1 ∅ 0 ∗ reached EH ((K (F := F)).doneCell d) 1
    ∗ (bigSep Finset.univ fun c : Fin τ.nSC => reached EH ((K (F := F)).startCell d c) ((K (F := F)).sRank c 1))
    ∗ bigSep (SparseCore.Cfg.callsFrom 1) fun q : Fin 1 => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

omit [∀ e, Nonempty (Elt F e)] in
theorem tcSt_one (d : Dev nD) : ((K (F := F)).tcSt EH d 1 : sProp 𝕄) = iprop(settled (F := F) bnd d ∗ tcRest (F := F) d) := by
  unfold SparseCore.Cfg.tcSt
  rw [(K (F := F)).Otc_end d (le_refl 1)]
  rfl

/-- What @main leaves: the first three arguments as they were, the other arrays as computed. -/
abbrev FIN (d : Dev nD) : sProp 𝕄 :=
  iprop(((SparseCore.T d).loc main_arg0 ↦{fullShare} arg0 m d) ∗ ((SparseCore.T d).loc main_arg1 ↦{fullShare} arg1 m d)
    ∗ ((SparseCore.T d).loc main_arg2 ↦{fullShare} arg2 m d) ∗ held (T d) S22 (V18 m d))

set_option maxRecDepth 16384 in
/-- @main on a TensorCore: four host operations, the call from the operands dealt to the tiles, the result joined, ten
    host operations, the perceptron's call, three host operations. -/
theorem hmain (κ : GSem nD τ sig → ℕ) (d : Dev nD) :
    iprop((K (F := F)).ctx EH (P m) κ ∗ (K (F := F)).tcSt EH d 0 ∗ (K (F := F)).tcRes m ρ d ∗ ghost (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, ⟨Hh, Hr⟩, Hts, -⟩, Hg⟩
  iapply (host_step d hT rfl (V0 m d)) $$ [Hb Hh]
  · isplitl [Hb] <;> iassumption
  iintro ⟨Hb, Hh⟩
  iapply (host_step d hX rfl (opT.result (V0 m d))) $$ [Hb Hh]
  · isplitl [Hb] <;> iassumption
  iintro ⟨Hb, Hh⟩
  iapply (host_step d hI rfl (opX.result (opT.result (V0 m d)))) $$ [Hb Hh]
  · isplitl [Hb] <;> iassumption
  iintro ⟨Hb, Hh⟩
  iapply (host_step d hW rfl (opI.result (opX.result (opT.result (V0 m d))))) $$ [Hb Hh]
  · isplitl [Hb] <;> iassumption
  iintro ⟨Hb, Hh⟩
  ihave Hh := (Entails.of_eq (held_V4 (F := F) m d)) $$ Hh
  icases Hh with ⟨H0, H1, H2, -, Hx, Hi, Hw, Ho⟩
  ihave Hd := (deal m d (before m d)) $$ [Hx Hi Hw Ho]
  · isplitl [Hx]; · iexact Hx
    isplitl [Hi]; · iexact Hi
    isplitl [Hw]; · iexact Hw
    iexact Ho
  icases Hd with ⟨-, Htiles⟩
  iapply ((K (F := F)).wp_run (D (F := F)) 𝒱 (EH := EH) (P := P m) κ d 0) $$ [Hst Htiles Hb H0 H1 H2 Hr Hts Hg]
  isplitr; · iexact Hctx
  isplitl [Hst]; · iexact Hst
  isplitl [Htiles]; · iexact Htiles
  iintro ⟨Hst, Hdn⟩
  ihave Ho := (show (bigSep Finset.univ fun c : Fin ((K (F := F)).nCore 0) => (P m).dn 0 d c) ⊢ (oLoc d ↦{fullShare} result m d : sProp 𝕄) from
    gather_rows m d (result m d)) $$ Hdn
  ihave Hh := (Entails.of_eq (held_V5 (F := F) m d).symm) $$ [Ho Hr]
  · isplitl [Ho] <;> iassumption
  rw [tcSt_one]
  ihave Hst := (show ((K (F := F)).tcSt EH d ((0 : Fin 1).val + 1) : sProp 𝕄) ⊢ _ from Entails.of_eq (tcSt_one (F := F) d)) $$ Hst
  icases Hst with ⟨HO, Hrest⟩
  iapply (host_step d in5 rfl (V5 m d)) $$ [Hb Hh]
  · isplitl [Hb] <;> iassumption
  iintro ⟨Hb, Hh⟩
  iapply (host_step d in6 rfl (op5.result (V5 m d))) $$ [Hb Hh]
  · isplitl [Hb] <;> iassumption
  iintro ⟨Hb, Hh⟩
  iapply (host_step d in7 rfl (op6.result (op5.result (V5 m d)))) $$ [Hb Hh]
  · isplitl [Hb] <;> iassumption
  iintro ⟨Hb, Hh⟩
  iapply (host_step d in8 rfl (op7.result (op6.result (op5.result (V5 m d))))) $$ [Hb Hh]
  · isplitl [Hb] <;> iassumption
  iintro ⟨Hb, Hh⟩
  iapply (host_step d in9 rfl (op8.result (op7.result (op6.result (op5.result (V5 m d)))))) $$ [Hb Hh]
  · isplitl [Hb] <;> iassumption
  iintro ⟨Hb, Hh⟩
  iapply (host_step d in10 rfl (op9.result (op8.result (op7.result (op6.result (op5.result (V5 m d))))))) $$ [Hb Hh]
  · isplitl [Hb] <;> iassumption
  iintro ⟨Hb, Hh⟩
  iapply (host_step d in11 rfl (op10.result (op9.result (op8.result (op7.result (op6.result (op5.result (V5 m d)))))))) $$ [Hb Hh]
  · isplitl [Hb] <;> iassumption
  iintro ⟨Hb, Hh⟩
  iapply (host_step d in12 rfl (op11.result (op10.result (op9.result (op8.result (op7.result (op6.result (op5.result (V5 m d))))))))) $$ [Hb Hh]
  · isplitl [Hb] <;> iassumption
  iintro ⟨Hb, Hh⟩
  iapply (host_step d in13 rfl (op12.result (op11.result (op10.result (op9.result (op8.result (op7.result (op6.result (op5.result (V5 m d)))))))))) $$ [Hb Hh]
  · isplitl [Hb] <;> iassumption
  iintro ⟨Hb, Hh⟩
  iapply (host_step d in14 rfl (op13.result (op12.result (op11.result (op10.result (op9.result (op8.result (op7.result (op6.result (op5.result (V5 m d))))))))))) $$ [Hb Hh]
  · isplitl [Hb] <;> iassumption
  iintro ⟨Hb, Hh⟩
  iapply (mlp_call m κ d) $$ [Hb Hh HO Hg]
  · isplitr; · iexact Hctx
    isplitl [Hb]; · iexact Hb
    isplitl [Hh]; · iexact Hh
    isplitl [HO]; · iexact HO
    iexact Hg
  iintro ⟨Hb, Hh, HO⟩
  iapply (host_step d in16 rfl (V15 m d)) $$ [Hb Hh]
  · isplitl [Hb] <;> iassumption
  iintro ⟨Hb, Hh⟩
  iapply (host_step d in17 rfl (op16.result (V15 m d))) $$ [Hb Hh]
  · isplitl [Hb] <;> iassumption
  iintro ⟨Hb, Hh⟩
  iapply (host_step d in18 rfl (op17.result (op16.result (V15 m d)))) $$ [Hb Hh]
  · isplitl [Hb] <;> iassumption
  iintro ⟨Hb, Hh⟩
  imodintro
  isplitl [HO Hrest]
  · isplitl [HO]; · iexact HO
    iexact Hrest
  isplitr [Hb Hts]
  · isplitl [H0]; · iexact H0
    isplitl [H1]; · iexact H1
    isplitl [H2]; · iexact H2
    iexact Hh
  isplitl [Hb] <;> iassumption

/-- The same, read of the final memory. -/
def fq (d : Dev nD) (s' : Phys nD τ sig (Elt F)) : Prop :=
  s'.mem.mem ((SparseCore.T d).loc main_arg0) = m ((SparseCore.T d).loc main_arg0)
    ∧ s'.mem.mem ((SparseCore.T d).loc main_arg1) = m ((SparseCore.T d).loc main_arg1)
    ∧ s'.mem.mem ((SparseCore.T d).loc main_arg2) = m ((SparseCore.T d).loc main_arg2)
    ∧ ∀ b ∈ S22, s'.mem.mem (d, b) = V18 m d b

omit [FloatOps F] [∀ e, Nonempty (Elt F e)] in
theorem read_back (ℓ : Loc nD τ sig) (f : Buf (Elt F) ℓ) (s' : Phys nD τ sig (Elt F)) :
    iprop((ℓ ↦{fullShare} f) ∗ SI s') ⊢ (iprop(⌜s'.mem.mem ℓ = f⌝ ∗ SI s') : sProp 𝕄) := by
  iintro ⟨Hx, HSI⟩
  ihave H := (persistent_entails_right (SI_pointsTo_agree (st := s') (ℓ := ℓ) (I := Finset.univ) (q := fullShare) (f := f))) $$ [HSI Hx]
  · isplitl [HSI] <;> iassumption
  icases H with ⟨%h, HSI, -⟩
  isplitr
  · ipureintro; exact funext fun i => h i (Finset.mem_univ i)
  · iexact HSI

omit [FloatOps F] [∀ e, Nonempty (Elt F e)] in
theorem read_held (d : Dev nD) (S : Finset (DevRef τ sig)) (V : Valuation τ sig (Elt F)) (s' : Phys nD τ sig (Elt F)) :
    iprop(held (T d) S V ∗ SI s') ⊢ (⌜∀ b ∈ S, s'.mem.mem (d, b) = V b⌝ : sProp 𝕄) := by
  have one : ∀ b, iprop(held (T d) S V ∗ SI s') ⊢ (⌜b ∈ S → s'.mem.mem (d, b) = V b⌝ : sProp 𝕄) := fun b => by
    by_cases hb : b ∈ S
    · iintro ⟨Hh, HSI⟩
      ihave Hx := (show (held (T d) S V : sProp 𝕄) ⊢ (((d, b) : Loc nD τ sig) ↦{fullShare} V b : sProp 𝕄) from bigSep_elim hb) $$ Hh
      ihave H := (read_back _ _ s') $$ [Hx HSI]; · isplitl [Hx] <;> iassumption
      icases H with ⟨%h, -⟩
      ipureintro; exact fun _ => h
    · iintro -; ipureintro; exact fun h => absurd h hb
  exact (Laws.forall_intro one).trans Laws.pure_forall.2

set_option maxRecDepth 16384 in
theorem hfin (d : Dev nD) (s' : Phys nD τ sig (Elt F)) : iprop(FIN m d ∗ SI s') ⊢ (⌜fq m d s'⌝ : sProp 𝕄) := by
  iintro ⟨⟨H0, H1, H2, Hh⟩, HSI⟩
  ihave H := (read_back _ _ s') $$ [H0 HSI]; · isplitl [H0] <;> iassumption
  icases H with ⟨%h0, HSI⟩
  ihave H := (read_back _ _ s') $$ [H1 HSI]; · isplitl [H1] <;> iassumption
  icases H with ⟨%h1, HSI⟩
  ihave H := (read_back _ _ s') $$ [H2 HSI]; · isplitl [H2] <;> iassumption
  icases H with ⟨%h2, HSI⟩
  ihave %h3 := (read_held d S22 (V18 m d) s') $$ [Hh HSI]; · isplitl [Hh] <;> iassumption
  ipureintro; exact ⟨h0, h1, h2, h3⟩

/-! ## What the arrays end at -/

/-- The scores. -/
def scoresOut (d : Dev nD) : S2x2016.Idx → F .f32 := V18 m d (rf main_v18)

/-! ## The run -/

def QC : PUnit × MemSt nD τ sig (Elt F) → Prop := fun r =>
  (∀ c : Dev nD, (r.2.mem ((SparseCore.T c).loc main_v18) = scoresOut m c)
    ∧ r.2.mem ((SparseCore.T c).loc main_arg0) = m ((SparseCore.T c).loc main_arg0)
    ∧ r.2.mem ((SparseCore.T c).loc main_arg1) = m ((SparseCore.T c).loc main_arg1)
    ∧ r.2.mem ((SparseCore.T c).loc main_arg2) = m ((SparseCore.T c).loc main_arg2)
    ∧ r.2.mem ((SparseCore.T c).loc main_arg3) = m ((SparseCore.T c).loc main_arg3)
    ∧ r.2.mem ((SparseCore.T c).loc main_arg4) = m ((SparseCore.T c).loc main_arg4)
    ∧ r.2.mem ((SparseCore.T c).loc main_arg5) = m ((SparseCore.T c).loc main_arg5)
    ∧ r.2.mem ((SparseCore.T c).loc main_arg6) = m ((SparseCore.T c).loc main_arg6)
    ∧ r.2.mem ((SparseCore.T c).loc main_arg7) = m ((SparseCore.T c).loc main_arg7)
    ∧ r.2.mem ((SparseCore.T c).loc main_arg8) = m ((SparseCore.T c).loc main_arg8)
    ∧ r.2.mem ((SparseCore.T c).loc main_arg9) = m ((SparseCore.T c).loc main_arg9)) ∧ r.2.sem = fun _ => 0

/-- An array nothing from the SparseCore call on writes ends as it was. -/
theorem V18_keeps (d : Dev nD) (r : Ref sig .tc) (hr : r ∉ ([main_v4, main_v5, main_v6, main_v7, main_v8, main_v9, main_v10, main_v11, main_v12, main_v13, main_v14, main_v15, main_v16, main_v17, main_v18] : List (Ref sig .tc))) :
    V18 m d (rf r) = V0 m d (rf r) := by
  have ne : ∀ {w : Ref sig .tc}, w ∈ ([main_v4, main_v5, main_v6, main_v7, main_v8, main_v9, main_v10, main_v11, main_v12, main_v13, main_v14, main_v15, main_v16, main_v17, main_v18] : List (Ref sig .tc)) → r ≠ w := fun hw h => hr (h ▸ hw)
  unfold V18
  rw [reshape_result_ne (h := ne (by decide)), reshape_result_ne (h := ne (by decide)), unary_result_ne (h := ne (by decide))]
  unfold V15
  rw [Pipeline.afterRegion_keeps (mlpDat (V14 m) bnd d) (V14 m d) launch1.win.arr_inj (fun w => mlpDat_A (V14 m) bnd d w) r fun w h => by
    have out : ∀ w : Fin 10, (cfg1.win w).isOut = false ∨ Pipeline.arrRef spec1 w ∈ ([main_v4, main_v5, main_v6, main_v7, main_v8, main_v9, main_v10, main_v11, main_v12, main_v13, main_v14, main_v15, main_v16, main_v17, main_v18] : List (Ref sig .tc)) := by decide
    exact (out w).resolve_right fun h' => hr (h ▸ h')]
  unfold V14
  rw [reshape_result_ne (h := ne (by decide)), reshape_result_ne (h := ne (by decide)), reshape_result_ne (h := ne (by decide)), reshape_result_ne (h := ne (by decide)),
    reshape_result_ne (h := ne (by decide)), unary_result_ne (h := ne (by decide)), reshape_result_ne (h := ne (by decide)), unary_result_ne (h := ne (by decide)),
    reshape_result_ne (h := ne (by decide)), unary_result_ne (h := ne (by decide))]
  unfold V5
  exact Function.update_of_ne (fun h => ne (w := main_v4) (by decide) (Proc.devRef_injective _ h)) _ _

theorem run_main (hI : InRange m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hI)
    (fun q _ => match q with | 0 => SparseCore.Cfg.VecSplit.of_plain (vecSplit m))
    m ρ main (ghost (F := F)) (FIN m) (u₀ (F := F)) (sep_elim_left.trans (hu₀ m)) (hmain m ρ) (fq m) (hfin m) (QC m)
    fun _ h hz => ⟨fun c => ⟨(h c).2.2.2 (rf main_v18) (by decide), (h c).1, (h c).2.1, (h c).2.2.1,
      ((h c).2.2.2 (rf main_arg3) (by decide)).trans (V18_keeps m c main_arg3 (by decide)),
      ((h c).2.2.2 (rf main_arg4) (by decide)).trans (V18_keeps m c main_arg4 (by decide)),
      ((h c).2.2.2 (rf main_arg5) (by decide)).trans (V18_keeps m c main_arg5 (by decide)),
      ((h c).2.2.2 (rf main_arg6) (by decide)).trans (V18_keeps m c main_arg6 (by decide)),
      ((h c).2.2.2 (rf main_arg7) (by decide)).trans (V18_keeps m c main_arg7 (by decide)),
      ((h c).2.2.2 (rf main_arg8) (by decide)).trans (V18_keeps m c main_arg8 (by decide)),
      ((h c).2.2.2 (rf main_arg9) (by decide)).trans (V18_keeps m c main_arg9 (by decide))⟩, hz⟩

/-- The precondition says that every index word, as a signed number, is from 0 to 32767. -/
theorem inRange_of_pre (h : ∀ d : Dev nD, Cert.Pre_in_range.fn (F := F) (m ((SparseCore.T d).loc main_arg0)) (m ((SparseCore.T d).loc main_arg1))
    (m ((SparseCore.T d).loc main_arg2)) (m ((SparseCore.T d).loc main_arg3))
    (m ((SparseCore.T d).loc main_arg4)) (m ((SparseCore.T d).loc main_arg5)) (m ((SparseCore.T d).loc main_arg6))
    (m ((SparseCore.T d).loc main_arg7)) (m ((SparseCore.T d).loc main_arg8)) (m ((SparseCore.T d).loc main_arg9)) = fun _ => 1#1) : InRange m := by
  have both : ∀ p q : Bool, IntOp.andi (BitVec.ofBool p) (BitVec.ofBool q) = 1#1 → p = true ∧ q = true := by decide
  intro d j
  have e : IntOp.andi (IntOp.cmpi .sge (arg1 m d j) 0#32) (IntOp.cmpi .slt (arg1 m d j) 32768#32) = 1#1 := congrFun (h d) j
  obtain ⟨h1, h2⟩ := both _ _ e
  simp only [BitVec.sle_eq_decide, BitVec.slt_eq_decide, decide_eq_true_eq, BitVec.toInt_eq_toNat_cond, BitVec.toNat_ofNat,
    Nat.reducePow, Nat.reduceMod] at h1 h2
  omega

end Cert.Proof.Ideal

end
-- ==== Proof.Score.lean ====
module

public import proofs.«01_k».proof.Proof.Pool
public import Idealize.ShloMosaic.PureOps.Ideal
public import Idealize.ShloMosaic.Lib.IdealHost

@[expose] public section

noncomputable section

/-!
# The specification of the perceptron

The score of one candidate line over the extended reals: from the first layer's sums, two rectified layers, a weighted
sum and the logistic function. The first layer's sums run over the line's 1032 inputs: 1024 pooled values, channel by
channel, then eight features; they may be taken point by point instead, the features apart.
-/

namespace Cert.Proof.Score

open Idealize.ShloMosaic
open scoped BigOperators

/-- The score of a line whose first layer's sums are `s`: `b1`, `b2`, `b3` the biases, `W2` and `w3` the weights of the second
    and third layer. -/
def lineScore (s b1 : Fin 1024 → EReal) (W2 : Fin 1024 → Fin 1024 → EReal) (b2 w3 : Fin 1024 → EReal) (b3 : EReal) : EReal :=
  Ideal.div 1 (1 + Ideal.exp (-((∑ k, max ((∑ j, max (s j + b1 j) 0 * W2 j k) + b2 k) 0 * w3 k) + b3)))

/-- Value `n` of a line laid out point by point, `n = 128 g + c`, is value `8 c + g` laid out channel by channel. -/
def channelMajor : Fin 1024 ≃ Fin 1024 where
  toFun n := ⟨n.val % 128 * 8 + n.val / 128, by omega⟩
  invFun n := ⟨n.val % 8 * 128 + n.val / 8, by omega⟩
  left_inv n := Fin.ext (by show (n.val % 128 * 8 + n.val / 128) % 8 * 128 + (n.val % 128 * 8 + n.val / 128) / 8 = n.val; omega)
  right_inv n := Fin.ext (by show (n.val % 8 * 128 + n.val / 8) % 128 * 8 + (n.val % 8 * 128 + n.val / 8) / 128 = n.val; omega)

/-- A line's sum over its inputs, channel by channel and then the features, is the sum point by point and the features'. -/
theorem sum_inputs (f : Fin 1032 → EReal) :
    ∑ n, f n = (∑ n : Fin 1024, f ⟨n.val % 128 * 8 + n.val / 128, by omega⟩) + ∑ k : Fin 8, f ⟨1024 + k.val, by omega⟩ := by
  rw [show (∑ n, f n) = ∑ n : Fin (1024 + 8), f (n.cast (by decide)) from rfl, Fin.sum_univ_add]
  refine congrArg₂ (· + ·) ?_ rfl
  exact (Equiv.sum_comp channelMajor (fun n => f ⟨n.val, by omega⟩)).symm

end Cert.Proof.Score

end
-- ==== Proof.Ideal.Scores.lean ====
module

public import proofs.«01_k».proof.Defs
public import proofs.«01_k».proof.Proof.Score
public import proofs.«01_k».proof.Proof.Ideal.Run
public import Idealize.ShloMosaic.Lib.MatmulPlain
public import Idealize.ShloMosaic.Lib.ValueLayout
public import Idealize.ShloMosaic.Lib.IdealHost
public import Idealize.ShloMosaic.Lib.Pipeline.Value
public import Idealize.ShloMosaic.PureOps.Ideal.Laws

@[expose] public section

noncomputable section

/-!
# The scores the program ends with

Over the extended reals: one line of a block's scores is the specification's score of that line, the blocks of the
call's arrays are rows of them, and the arrays are the program's arguments re-laid. So the result, line by line, is the
specification's score from the pooled corners and the arguments.
-/

namespace Cert.Proof.Ideal

open Cert.KernelIdeal Cert.KernelIdeal.Gen
open Cert.Proof.Score

open Idealize.ShloMosaic
open Idealize.ShloMosaic.StableHlo (reshape_result' reshape_result_ne' unary_result' unary_result_ne')
open Idealize.ShloMosaic.Pipeline (afterRegion)
open scoped BigOperators

local notation "ℝ∞" => Idealize.ShloMosaic.Ideal

/-! ## One line of a block -/

section Line

variable (x0 : Vec ℝ∞ S504x1024 .f32) (x1 : Vec ℝ∞ S504x8 .f32) (x2 : Vec ℝ∞ S1024x1024 .f32) (x3 : Vec ℝ∞ S8x1024 .f32)
  (x4 : Vec ℝ∞ S1x1024 .f32) (x5 : Vec ℝ∞ S1024x1024 .f32) (x6 x7 : Vec ℝ∞ S1x1024 .f32) (x8 : Vec ℝ∞ S1x1 .f32)

theorem big_product (a : Vec ℝ∞ S504x1024 .f32) (b : Vec ℝ∞ S1024x1024 .f32) (r : Fin 504) (j : Fin 1024) :
    matmul (F := ℝ∞) (φ₁ := .f32) (φ₂ := .f32) dot_S504x1024_S1024x1024_S504x1024_1_0_0_1_n_n none a b (constant S504x1024 .f32 0x00000000#32) (ix2 r j)
      = ∑ n : Fin 1024, a (ix2 r n) * b (ix2 n j) := by
  refine (Idealize.ShloMosaic.Ideal.matmul_plain_apply (M := 504) (K := 1024) (N := 1024) none a b _ r j).trans ?_
  exact (congrArg (· + _) Idealize.ShloMosaic.Ideal.ofBits_zero_f32).trans (zero_add _)

theorem small_product (a : Vec ℝ∞ S504x8 .f32) (b : Vec ℝ∞ S8x1024 .f32) (r : Fin 504) (j : Fin 1024) :
    matmul (F := ℝ∞) (φ₁ := .f32) (φ₂ := .f32) dot_S504x8_S8x1024_S504x1024_1_0_0_1_n_n none a b (constant S504x1024 .f32 0x00000000#32) (ix2 r j)
      = ∑ n : Fin 8, a (ix2 r n) * b (ix2 n j) := by
  refine (Idealize.ShloMosaic.Ideal.matmul_plain_apply (M := 504) (K := 8) (N := 1024) none a b _ r j).trans ?_
  exact (congrArg (· + _) Idealize.ShloMosaic.Ideal.ofBits_zero_f32).trans (zero_add _)

/-- A bias row repeated over the lines. -/
theorem bias_at (b : Vec ℝ∞ S1x1024 .f32) (r : Fin 504) (j : Fin 1024) :
    broadcastTo S504x1024 (shapeCast S1x1024 b shapeCasts_S1x1024_S1x1024) broadcasts_S1x1024_S504x1024 (ix2 r j) = b (ix2 (0 : Fin 1) j) := by
  rw [shapeCast_self]; exact ValueIdx.broadcastTo_1b_ab_apply b _ r j

/-- The sum along a line. -/
theorem row_sum (a : Vec ℝ∞ S504x1024 .f32) (r : Fin 504) :
    multiReduction (F := ℝ∞) (φ := .f32) .add [1] S504 a 0x00000000#32 reduces_S504x1024_S504 (.inl rfl) rfl (ix1 r) = ∑ k : Fin 1024, a (ix2 r k) :=
  (Idealize.ShloMosaic.Ideal.multiReduction_add_single _ _ reduces_S504x1024_S504 _ _ (ix1 r)).trans
    (Finset.sum_congr rfl fun _ _ => congrArg a (funext fun b => Fin.ext (match b with
      | ⟨0, _⟩ => rfl
      | ⟨1, _⟩ => rfl)))

/-- The value one line's logistic function is taken of. -/
theorem logit_at (r : Fin 504) :
    k1_pay2 (F := ℝ∞) x0 x2 x1 x3 x4 x5 x6 x7 x8 (ix2 r (0 : Fin 1))
      = (∑ k : Fin 1024, max ((∑ j : Fin 1024, max (((∑ n : Fin 1024, x0 (ix2 r n) * x2 (ix2 n j)) + ∑ n : Fin 8, x1 (ix2 r n) * x3 (ix2 n j)) + x4 (ix2 (0 : Fin 1) j)) 0
          * x5 (ix2 j k)) + x6 (ix2 (0 : Fin 1) k)) 0 * x7 (ix2 (0 : Fin 1) k)) + x8 (ix2 (0 : Fin 1) (0 : Fin 1)) := by
  have z (i : S504x1024.Idx) : (broadcast S504x1024 (Scalar.ofBits (F := ℝ∞) .f32 0x00000000#32)) i = (0 : EReal) := Idealize.ShloMosaic.Ideal.ofBits_zero_f32
  dsimp only [k1_pay2]
  rw [ValueIdx.addf_apply]
  refine congrArg₂ (· + ·) ?_ ?_
  · refine (shapeCast_apply _ shapeCasts_S504_S504x1 _ (ix1 r) ?_).trans ?_
    · rw [Shape.rowMajor_val_one, Shape.rowMajor_val_two]; show r.val = r.val * 1 + 0; omega
    · refine (row_sum _ r).trans (Finset.sum_congr rfl fun k _ => ?_)
      rw [ValueIdx.mulf_apply, ValueIdx.maximumf_apply, ValueIdx.addf_apply, z, bias_at, bias_at, big_product]
      refine congrArg (fun s => max (s + _) 0 * _) (Finset.sum_congr rfl fun j _ => ?_)
      rw [ValueIdx.maximumf_apply, ValueIdx.addf_apply, ValueIdx.addf_apply, z, bias_at, big_product, small_product]
      simp only [shapeCast_self]
  · rw [shapeCast_self]
    exact broadcastTo_apply x8 _ _ (ix2 (0 : Fin 1) (0 : Fin 1)) fun a => match a with
      | ⟨0, _⟩ => rfl
      | ⟨1, _⟩ => rfl

/-- Every column of a line of the block is the line's score. -/
theorem mlpBlock_at (r : Fin 504) (q : Fin 128) :
    mlpBlock (F := ℝ∞) x0 x1 x2 x3 x4 x5 x6 x7 x8 (ix2 r q)
      = lineScore (fun j => (∑ n : Fin 1024, x0 (ix2 r n) * x2 (ix2 n j)) + ∑ n : Fin 8, x1 (ix2 r n) * x3 (ix2 n j)) (fun j => x4 (ix2 (0 : Fin 1) j))
          (fun j k => x5 (ix2 j k)) (fun k => x6 (ix2 (0 : Fin 1) k)) (fun k => x7 (ix2 (0 : Fin 1) k)) (x8 (ix2 (0 : Fin 1) (0 : Fin 1))) := by
  unfold mlpBlock lineScore
  rw [← logit_at]
  dsimp only [k1_pay1]
  rw [shapeCast_self]
  refine (broadcastTo_apply _ broadcasts_S504x1_S504x128 _ (ix2 r (0 : Fin 1)) fun a => match a with
      | ⟨0, _⟩ => rfl
      | ⟨1, _⟩ => rfl).trans ?_
  show Idealize.ShloMosaic.Ideal.div (Idealize.ShloMosaic.Ideal.ofBits .f32 0x3F800000#32)
    (Idealize.ShloMosaic.Ideal.ofBits .f32 0x3F800000#32 + Idealize.ShloMosaic.Ideal.exp (Idealize.ShloMosaic.Ideal.ofBits .f32 0x00000000#32 - _)) = _
  rw [Idealize.ShloMosaic.Ideal.ofBits_one_f32, Idealize.ShloMosaic.Ideal.ofBits_zero_f32, zero_sub]

end Line

/-! ## The blocks -/

section Blocks

variable {F : FTy → Type} [FloatOps F] [∀ e, Nonempty (Elt F e)]
variable (W : Dev nD → Valuation τ sig (Elt F)) (c : Dev nD)

/-- Which block of lines a grid point stages and writes, -/
theorem moving (t : Fin 8) : (win1_0.index t 0 = t.val ∧ win1_0.index t 1 = 0) ∧ (win1_1.index t 0 = t.val ∧ win1_1.index t 1 = 0)
    ∧ (win1_9.index t 0 = t.val ∧ win1_9.index t 1 = 0) :=
  (by decide +kernel : ∀ t : Fin 8, (win1_0.index t 0 = t.val ∧ win1_0.index t 1 = 0) ∧ (win1_1.index t 0 = t.val ∧ win1_1.index t 1 = 0)
    ∧ (win1_9.index t 0 = t.val ∧ win1_9.index t 1 = 0)) t
/-- and that the other arrays are staged whole. -/
theorem still (t : Fin 8) (a : Fin 2) : win1_2.index t a = 0 ∧ win1_3.index t a = 0 ∧ win1_4.index t a = 0 ∧ win1_5.index t a = 0
    ∧ win1_6.index t a = 0 ∧ win1_7.index t a = 0 ∧ win1_8.index t a = 0 :=
  (by decide +kernel : ∀ (t : Fin grid1.N) (a : Fin 2), win1_2.index t a = 0 ∧ win1_3.index t a = 0 ∧ win1_4.index t a = 0 ∧ win1_5.index t a = 0
    ∧ win1_6.index t a = 0 ∧ win1_7.index t a = 0 ∧ win1_8.index t a = 0) t a

/-- Line `r` of block `t`. -/
abbrev line (t : Fin 8) (r : Fin 504) : Fin 4032 := ⟨504 * t.val + r.val, by omega⟩

theorem block0_at (t : Fin 8) (r : Fin 504) (n : Fin 1024) : arrBlock W c 0 t (ix2 r n) = W c (rf main_v4) (ix2 (line t r) n) :=
  congrArg (W c (rf main_v4)) (funext fun a => Fin.ext (match a with
    | ⟨0, _⟩ => (win1_0.rect_emb_val t (ix2 r n) 0).trans (by rw [(moving t).1.1]; show t.val * 504 + r.val = 504 * t.val + r.val; omega)
    | ⟨1, _⟩ => win1_0.rect_emb_val_of_index_zero t 1 (moving t).1.2 (ix2 r n)))

theorem block1_at (t : Fin 8) (r : Fin 504) (n : Fin 8) : arrBlock W c 1 t (ix2 r n) = W c (rf main_v10) (ix2 (line t r) n) :=
  congrArg (W c (rf main_v10)) (funext fun a => Fin.ext (match a with
    | ⟨0, _⟩ => (win1_1.rect_emb_val t (ix2 r n) 0).trans (by rw [(moving t).2.1.1]; show t.val * 504 + r.val = 504 * t.val + r.val; omega)
    | ⟨1, _⟩ => win1_1.rect_emb_val_of_index_zero t 1 (moving t).2.1.2 (ix2 r n)))

theorem block2 (t : Fin 8) : arrBlock W c 2 t = W c (rf main_v8) :=
  funext fun y => congrArg (W c (rf main_v8)) (funext fun a => Fin.ext (win1_2.rect_emb_val_of_index_zero t a (still t a).1 y))
theorem block3 (t : Fin 8) : arrBlock W c 3 t = W c (rf main_v9) :=
  funext fun y => congrArg (W c (rf main_v9)) (funext fun a => Fin.ext (win1_3.rect_emb_val_of_index_zero t a (still t a).2.1 y))
theorem block4 (t : Fin 8) : arrBlock W c 4 t = W c (rf main_v11) :=
  funext fun y => congrArg (W c (rf main_v11)) (funext fun a => Fin.ext (win1_4.rect_emb_val_of_index_zero t a (still t a).2.2.1 y))
theorem block5 (t : Fin 8) : arrBlock W c 5 t = W c (rf main_arg6) :=
  funext fun y => congrArg (W c (rf main_arg6)) (funext fun a => Fin.ext (win1_5.rect_emb_val_of_index_zero t a (still t a).2.2.2.1 y))
theorem block6 (t : Fin 8) : arrBlock W c 6 t = W c (rf main_v12) :=
  funext fun y => congrArg (W c (rf main_v12)) (funext fun a => Fin.ext (win1_6.rect_emb_val_of_index_zero t a (still t a).2.2.2.2.1 y))
theorem block7 (t : Fin 8) : arrBlock W c 7 t = W c (rf main_v13) :=
  funext fun y => congrArg (W c (rf main_v13)) (funext fun a => Fin.ext (win1_7.rect_emb_val_of_index_zero t a (still t a).2.2.2.2.2.1 y))
theorem block8 (t : Fin 8) : arrBlock W c 8 t = W c (rf main_v14) :=
  funext fun y => congrArg (W c (rf main_v14)) (funext fun a => Fin.ext (win1_8.rect_emb_val_of_index_zero t a (still t a).2.2.2.2.2.2 y))

/-- Two grid points write no common line. -/
theorem apart : ∀ t t' : Fin cfg1.N, (cfg1.win 9).flush t = true → (cfg1.win 9).flush t' = true → t ≠ t' →
    Disjoint ((cfg1.win 9).blk t).view.set ((cfg1.win 9).blk t').view.set := fun t t' _ _ hne =>
  (cfg1.win 9).disjoint_blk fun h => hne (Fin.ext ((moving t).2.2.1.symm.trans ((congrFun h 0).trans (moving t').2.2.1)))

theorem writes : ∀ t : Fin cfg1.N, (cfg1.win 9).flush t = true := (by decide +kernel : ∀ t : Fin grid1.N, win1_9.flush t = true)

/-- What the call leaves in line `r` of block `t`. -/
theorem left_at (b : ℕ) (t : Fin 8) (r : Fin 504) (q : Fin 128) :
    (mlpDat W b c).arrAt 9 cfg1.N (ix2 (line t r) q) = scores W c t (ix2 r q) := by
  have hi : (ix2 (line t r) q : S4032x128.Idx) = ((cfg1.win 9).blk t).view.emb (ix2 r q) := funext fun a => Fin.ext (match a with
    | ⟨0, _⟩ => ((win1_9.rect_emb_val t (ix2 r q) 0).trans (by rw [(moving t).2.2.1]; show t.val * 504 + r.val = 504 * t.val + r.val; omega)).symm
    | ⟨1, _⟩ => (win1_9.rect_emb_val_of_index_zero t 1 (moving t).2.2.2 (ix2 r q)).symm)
  refine (congrArg ((mlpDat W b c).arrAt 9 cfg1.N) hi).trans ?_
  refine ((mlpDat W b c).arrAt_emb_eq_flushed 9 apart t (writes t) (ix2 r q)).trans ?_
  exact congrFun (mlpDat_scores W b c t) (ix2 r q)

end Blocks

/-! ## The call's arrays -/

section Arrays

variable {F : FTy → Type} [FloatOps F] [∀ e, Nonempty (Elt F e)]
variable (m : (ℓ : Loc nD τ sig) → Buf (Elt F) ℓ) (d : Dev nD)

/-- The lines' features, the three layers' weights and their biases. -/
abbrev feats : S2x2016x8.Idx → F .f32 := m ((SparseCore.T d).loc main_arg3)
abbrev wOne : S1032x1024.Idx → F .f32 := m ((SparseCore.T d).loc main_arg4)
abbrev bOne : S1024.Idx → F .f32 := m ((SparseCore.T d).loc main_arg5)
abbrev wTwo : S1024x1024.Idx → F .f32 := m ((SparseCore.T d).loc main_arg6)
abbrev bTwo : S1024.Idx → F .f32 := m ((SparseCore.T d).loc main_arg7)
abbrev wThree : S1024x1.Idx → F .f32 := m ((SparseCore.T d).loc main_arg8)
abbrev bThree : S1.Idx → F .f32 := m ((SparseCore.T d).loc main_arg9)

theorem V14_v4 : V14 m d (rf main_v4) = result m d := by
  unfold V14
  simp (disch := decide) only [reshape_result_ne', unary_result_ne']
  exact Function.update_self ..

theorem V14_arg6 : V14 m d (rf main_arg6) = wTwo m d := by
  unfold V14
  simp (disch := decide) only [reshape_result_ne', unary_result_ne']
  rfl

theorem V14_v8 : V14 m d (rf main_v8) = shapeCast S1024x1024 (transpose S8x128x1024 [1, 0, 2] (shapeCast S128x8x1024
    (extractStridedSlice S1024x1024 ![0, 0] (wOne m d) slices_S1032x1024_S1024x1024_0_0) shapeCasts_S1024x1024_S128x8x1024)
    transposes_S128x8x1024_S8x128x1024_1_0_2) shapeCasts_S8x128x1024_S1024x1024 := by
  unfold V14
  simp (disch := decide) only [reshape_result', unary_result', reshape_result_ne', unary_result_ne']
  rfl

theorem V14_v9 : V14 m d (rf main_v9) = extractStridedSlice S8x1024 ![1024, 0] (wOne m d) slices_S1032x1024_S8x1024_1024_0 := by
  unfold V14
  simp (disch := decide) only [unary_result', reshape_result_ne', unary_result_ne']
  rfl

/-- The features and the biases, re-laid. -/
theorem V14_relaid : V14 m d (rf main_v10) = shapeCast S4032x8 (feats m d) shapeCasts_S2x2016x8_S4032x8
    ∧ V14 m d (rf main_v11) = shapeCast S1x1024 (bOne m d) shapeCasts_S1024_S1x1024 ∧ V14 m d (rf main_v12) = shapeCast S1x1024 (bTwo m d) shapeCasts_S1024_S1x1024
    ∧ V14 m d (rf main_v13) = shapeCast S1x1024 (wThree m d) shapeCasts_S1024x1_S1x1024 ∧ V14 m d (rf main_v14) = shapeCast S1x1 (bThree m d) shapeCasts_S1_S1x1 := by
  unfold V14
  simp (disch := decide) only [reshape_result', reshape_result_ne', unary_result_ne']
  exact ⟨rfl, rfl, rfl, rfl, rfl⟩

/-- Row `n` of the point-by-point first layer's weights is the argument's row of the same channel and point. -/
theorem V14_v8_at (n j : Fin 1024) : V14 m d (rf main_v8) (ix2 n j) = wOne m d (ix2 (⟨n.val % 128 * 8 + n.val / 128, by omega⟩ : Fin 1032) j) := by
  rw [V14_v8]
  refine (shapeCast_apply _ _ _ (ix3 (⟨n.val / 128, by omega⟩ : Fin 8) (⟨n.val % 128, by omega⟩ : Fin 128) j) ?_).trans
    ((transpose_apply _ _ _ _ (ix3 (⟨n.val % 128, by omega⟩ : Fin 128) (⟨n.val / 128, by omega⟩ : Fin 8) j) fun b => match b with
      | ⟨0, _⟩ => rfl
      | ⟨1, _⟩ => rfl
      | ⟨2, _⟩ => rfl).trans
      ((shapeCast_apply _ _ _ (ix2 (⟨n.val % 128 * 8 + n.val / 128, by omega⟩ : Fin 1024) j) ?_).trans
        (ValueIdx.slice2_axis0_apply 0 _ _ _ j _ (by show _ = 0 + _; rw [Nat.zero_add]))))
  · rw [Shape.rowMajor_val_three, Shape.rowMajor_val_two]
    show (n.val / 128 * 128 + n.val % 128) * 1024 + j.val = n.val * 1024 + j.val
    omega
  · rw [Shape.rowMajor_val_three, Shape.rowMajor_val_two]
    rfl

theorem V14_v9_at (k : Fin 8) (j : Fin 1024) : V14 m d (rf main_v9) (ix2 k j) = wOne m d (ix2 (⟨1024 + k.val, by omega⟩ : Fin 1032) j) := by
  rw [V14_v9]
  exact ValueIdx.slice2_axis0_apply 1024 _ _ k j _ rfl

/-- Line `l` of image `b`. -/
abbrev lineOf (b : Fin 2) (l : Fin 2016) : Fin 4032 := ⟨b.val * 2016 + l.val, by omega⟩

theorem V14_v10_at (b : Fin 2) (l : Fin 2016) (k : Fin 8) : V14 m d (rf main_v10) (ix2 (lineOf b l) k) = feats m d (ix3 b l k) := by
  rw [(V14_relaid m d).1]
  refine shapeCast_apply _ _ _ (ix3 b l k) ?_
  rw [Shape.rowMajor_val_three, Shape.rowMajor_val_two]
  rfl

theorem row_at (x : S1024.Idx → F .f32) (k : Fin 1024) : shapeCast S1x1024 x shapeCasts_S1024_S1x1024 (ix2 (0 : Fin 1) k) = x (ix1 k) := by
  refine shapeCast_apply _ _ _ (ix1 k) ?_
  rw [Shape.rowMajor_val_one, Shape.rowMajor_val_two]
  show k.val = 0 * 1024 + k.val
  omega

theorem column_at (x : S1024x1.Idx → F .f32) (k : Fin 1024) : shapeCast S1x1024 x shapeCasts_S1024x1_S1x1024 (ix2 (0 : Fin 1) k) = x (ix2 k (0 : Fin 1)) := by
  refine shapeCast_apply _ _ _ (ix2 k (0 : Fin 1)) ?_
  rw [Shape.rowMajor_val_two, Shape.rowMajor_val_two]
  show k.val * 1 + 0 = 0 * 1024 + k.val
  omega

theorem single_at (x : S1.Idx → F .f32) : shapeCast S1x1 x shapeCasts_S1_S1x1 (ix2 (0 : Fin 1) (0 : Fin 1)) = x (ix1 (0 : Fin 1)) := by
  refine shapeCast_apply _ _ _ (ix1 (0 : Fin 1)) ?_
  rw [Shape.rowMajor_val_one, Shape.rowMajor_val_two]
  rfl

/-- The program's result at a line is the first column of that line of the call's result. -/
theorem scoresOut_eq (b : Fin 2) (l : Fin 2016) :
    scoresOut m d (ix2 b l) = (mlpDat (V14 m) bnd d).arrAt 9 cfg1.N (ix2 (lineOf b l) (0 : Fin 128)) := by
  have hv : V18 m d (rf main_v18) = shapeCast S2x2016 (shapeCast S4032 (extractStridedSlice S4032x1 ![0, 0] (V15 m d (rf main_v15)) slices_S4032x128_S4032x1_0_0)
      shapeCasts_S4032x1_S4032) shapeCasts_S4032_S2x2016 := by
    unfold V18
    simp only [reshape_result', unary_result']
    rfl
  unfold scoresOut
  rw [hv]
  refine (shapeCast_apply _ _ _ (ix1 (lineOf b l)) ?_).trans ((shapeCast_apply _ _ _ (ix2 (lineOf b l) (0 : Fin 1)) ?_).trans
    ((ValueIdx.slice2_axis1_apply 0 _ _ (lineOf b l) (0 : Fin 1) (0 : Fin 128) rfl).trans ?_))
  · rw [Shape.rowMajor_val_one, Shape.rowMajor_val_two]
    rfl
  · rw [Shape.rowMajor_val_one, Shape.rowMajor_val_two]
    show (lineOf b l).val * 1 + 0 = (lineOf b l).val
    omega
  · unfold V15
    exact congrFun (Pipeline.afterRegion_arr (mlpDat (V14 m) bnd d) (V14 m d) launch1.win.arr_inj 9) (ix2 (lineOf b l) (0 : Fin 128))

end Arrays

variable (m : (ℓ : Loc nD τ sig) → Buf (Elt Idealize.ShloMosaic.Ideal) ℓ) (d : Dev nD)

/-- Every score the program ends with. -/
theorem scoresOut_at (b : Fin 2) (l : Fin 2016) :
    scoresOut m d (ix2 b l)
      = lineScore (fun j => (∑ n : Fin 1024, result m d (ix2 (lineOf b l) n) * wOne m d (ix2 (⟨n.val % 128 * 8 + n.val / 128, by omega⟩ : Fin 1032) j))
            + ∑ k : Fin 8, feats m d (ix3 b l k) * wOne m d (ix2 (⟨1024 + k.val, by omega⟩ : Fin 1032) j))
          (fun j => bOne m d (ix1 j)) (fun j k => wTwo m d (ix2 j k)) (fun k => bTwo m d (ix1 k)) (fun k => wThree m d (ix2 k (0 : Fin 1))) (bThree m d (ix1 (0 : Fin 1))) := by
  have hl : lineOf b l = line ⟨(lineOf b l).val / 504, by omega⟩ ⟨(lineOf b l).val % 504, by omega⟩ := Fin.ext (by
    show (lineOf b l).val = 504 * ((lineOf b l).val / 504) + (lineOf b l).val % 504; omega)
  rw [scoresOut_eq]
  refine (congrArg (fun i => (mlpDat (V14 m) bnd d).arrAt 9 cfg1.N (ix2 i (0 : Fin 128))) hl).trans ((left_at (V14 m) d bnd _ _ _).trans ?_)
  unfold scores
  rw [mlpBlock_at]
  simp only [block0_at, block1_at, block2, block3, block4, block5, block6, block7, block8, ← hl,
    (V14_relaid m d).2.1, (V14_relaid m d).2.2.1, (V14_relaid m d).2.2.2.1, (V14_relaid m d).2.2.2.2, row_at, column_at, single_at]
  refine congrArg₂ (fun s w => lineScore s _ w _ _ _) (funext fun j => congrArg₂ (· + ·) (Finset.sum_congr rfl fun n _ => ?_) (Finset.sum_congr rfl fun k _ => ?_))
    (funext fun j => funext fun k => congrFun (V14_arg6 m d) (ix2 j k))
  · exact congrArg₂ (· * ·) (congrFun (V14_v4 m d) (ix2 (lineOf b l) n)) (V14_v8_at m d n j)
  · exact congrArg₂ (· * ·) (V14_v10_at m d b l k) (V14_v9_at m d k j)

end Cert.Proof.Ideal

end
-- ==== Proof.Equation.lean ====
module

public import proofs.«01_k».proof.Defs
public import proofs.«01_k».proof.Proof.Pool
public import proofs.«01_k».proof.Proof.Score
public import proofs.«01_k».proof.Proof.Gen.ReferenceIdeal.Run
public import Idealize.ShloMosaic.Lib.ValueIdx
public import Idealize.ShloMosaic.Lib.ValueLayout
public import Idealize.ShloMosaic.Lib.Pipeline.Value
public import Idealize.ShloMosaic.Lib.StackMember
public import Idealize.ShloMosaic.PureOps.Reduce

@[expose] public section

noncomputable section

/-!
# The reference computes the specification's scores

The reference's result read at an index, over the extended reals: its slices, reshapes and transposes read the
arguments at the places the specification reads them, its gathers read the named pixel when the index is in range,
its product is the specification's with the factors exchanged, and its maximum over the last axis, from −∞, is the
maximum of the four points. Its perceptron sums over the joined inputs of a line, which is the sum point by point and
the features' sum.
-/

namespace Cert.Proof.Equation

open Cert.ReferenceIdeal Cert.ReferenceIdeal.Gen Cert.Proof.Pool Cert.Proof.Score
open Idealize.ShloMosaic
open scoped BigOperators
open Idealize.ShloMosaic.StackMember (dotGeneral_plain_apply)
open Idealize.ShloMosaic.ValueIdx (slice3_axis1_apply slice4_axis2_apply transpose_ix3_021_apply)

abbrev SX : Shape := ⟨2, ![32768, 128]⟩
abbrev SR : Shape := ⟨2, ![4032, 128]⟩

variable (A0 : S2x128x128x128.Idx → Ideal .f32) (A1 : S2x2016x128.Idx → BitVec 32) (A2 : S2x2016x128.Idx → Ideal .f32)

/-! ## The specification's operands at an index -/

section Operands
variable {α : Type}

theorem pixels_at (A : S2x128x128x128.Idx → α) (ht : S2x128x128x128.Transposes [0, 2, 3, 1] S2x128x128x128) (hc : S2x128x128x128.ShapeCasts SX)
    (n : Fin 32768) (c : Fin 128) :
    shapeCast SX (transpose S2x128x128x128 [0, 2, 3, 1] A ht) hc (ix2 n c)
      = A (ix4 (⟨n.val / 16384, by omega⟩ : Fin 2) c (⟨n.val / 128 % 128, by omega⟩ : Fin 128) (⟨n.val % 128, by omega⟩ : Fin 128)) := by
  refine (shapeCast_apply _ hc _ (ix4 (⟨n.val / 16384, by omega⟩ : Fin 2) (⟨n.val / 128 % 128, by omega⟩ : Fin 128) (⟨n.val % 128, by omega⟩ : Fin 128) c) ?_).trans ?_
  · rw [Shape.rowMajor_val_four, Shape.rowMajor_val_two]
    show ((n.val / 16384 * 128 + n.val / 128 % 128) * 128 + n.val % 128) * 128 + c.val = n.val * 128 + c.val
    omega
  · exact transpose_apply _ A ht _ _ fun b => match b with | ⟨0, _⟩ => rfl | ⟨1, _⟩ => rfl | ⟨2, _⟩ => rfl | ⟨3, _⟩ => rfl

theorem rows_at (A : S2x2016x128.Idx → α) (hc : S2x2016x128.ShapeCasts SR) (l : Fin 4032) (j : Fin 128) :
    shapeCast SR A hc (ix2 l j) = A (ix3 (⟨l.val / 2016, by omega⟩ : Fin 2) (⟨l.val % 2016, by omega⟩ : Fin 2016) j) := by
  refine shapeCast_apply A hc _ _ ?_
  rw [Shape.rowMajor_val_three, Shape.rowMajor_val_two]
  show (l.val / 2016 * 2016 + l.val % 2016) * 128 + j.val = l.val * 128 + j.val
  omega

/-! ## The reference's operands at an index -/

theorem image_at (A : S2x128x128x128.Idx → α) (ht : S2x128x128x128.Transposes [1, 0, 2, 3] S128x2x128x128) (hc : S128x2x128x128.ShapeCasts S128x32768)
    (n : Fin 32768) (c : Fin 128) :
    shapeCast S128x32768 (transpose S128x2x128x128 [1, 0, 2, 3] A ht) hc (ix2 c n)
      = A (ix4 (⟨n.val / 16384, by omega⟩ : Fin 2) c (⟨n.val / 128 % 128, by omega⟩ : Fin 128) (⟨n.val % 128, by omega⟩ : Fin 128)) := by
  refine (shapeCast_apply _ hc _ (ix4 c (⟨n.val / 16384, by omega⟩ : Fin 2) (⟨n.val / 128 % 128, by omega⟩ : Fin 128) (⟨n.val % 128, by omega⟩ : Fin 128)) ?_).trans ?_
  · rw [Shape.rowMajor_val_four, Shape.rowMajor_val_two]
    show ((c.val * 2 + n.val / 16384) * 128 + n.val / 128 % 128) * 128 + n.val % 128 = c.val * 32768 + n.val
    omega
  · exact transpose_apply _ A ht _ _ fun b => match b with | ⟨0, _⟩ => rfl | ⟨1, _⟩ => rfl | ⟨2, _⟩ => rfl | ⟨3, _⟩ => rfl

/-- The indices of corner `k`. -/
theorem corner_at (A : S2x2016x128.Idx → α) (k : Fin 4) (hc : S2x2016x128.ShapeCasts S4032x4x32) (hs : S4032x4x32.Slices ![0, k.val, 0] S4032x1x32)
    (hd : S4032x1x32.ShapeCasts S4032x32) (l : Fin 4032) (p : Fin 32) :
    shapeCast S4032x32 (extractStridedSlice S4032x1x32 ![0, k.val, 0] (shapeCast S4032x4x32 A hc) hs) hd (ix2 l p)
      = A (ix3 (⟨l.val / 2016, by omega⟩ : Fin 2) (⟨l.val % 2016, by omega⟩ : Fin 2016) (⟨32 * k.val + p.val, by omega⟩ : Fin 128)) := by
  refine (shapeCast_apply _ hd _ (ix3 l (0 : Fin 1) p) ?_).trans ((slice3_axis1_apply k.val _ hs l (0 : Fin 1) p k rfl).trans (shapeCast_apply A hc _ _ ?_))
  · rw [Shape.rowMajor_val_three, Shape.rowMajor_val_two]
    show (l.val * 1 + 0) * 32 + p.val = l.val * 32 + p.val
    omega
  · rw [Shape.rowMajor_val_three, Shape.rowMajor_val_three]
    show (l.val / 2016 * 2016 + l.val % 2016) * 128 + (32 * k.val + p.val) = (l.val * 4 + k.val) * 32 + p.val
    omega

/-- The weights of corner `k`, the same for every channel. -/
theorem weight_at (A : S2x2016x128.Idx → α) (k : Fin 4) (hc : S2x2016x128.ShapeCasts S1x4032x4x32) (hs : S1x4032x4x32.Slices ![0, 0, k.val, 0] S1x4032x1x32)
    (hd : S1x4032x1x32.ShapeCasts S1x4032x32) (hb : S1x4032x32.BroadcastsInDim S128x4032x32 (![0, 1, 2] : Fin 3 → Fin S128x4032x32.rank))
    (c : Fin 128) (l : Fin 4032) (p : Fin 32) :
    broadcastInDim S128x4032x32 ![0, 1, 2] hb
        (shapeCast S1x4032x32 (extractStridedSlice S1x4032x1x32 ![0, 0, k.val, 0] (shapeCast S1x4032x4x32 A hc) hs) hd) (ix3 c l p)
      = A (ix3 (⟨l.val / 2016, by omega⟩ : Fin 2) (⟨l.val % 2016, by omega⟩ : Fin 2016) (⟨32 * k.val + p.val, by omega⟩ : Fin 128)) := by
  refine (broadcastInDim_apply _ hb _ _ (ix3 (0 : Fin 1) l p) fun a => ?_).trans
    ((shapeCast_apply _ hd _ (ix4 (0 : Fin 1) l (0 : Fin 1) p) ?_).trans
      ((slice4_axis2_apply k.val _ hs (0 : Fin 1) l (0 : Fin 1) p k rfl).trans (shapeCast_apply A hc _ _ ?_)))
  · match a with
    | ⟨0, _⟩ => rfl
    | ⟨1, _⟩ => rfl
    | ⟨2, _⟩ => rfl
  · rw [Shape.rowMajor_val_four, Shape.rowMajor_val_three]
    show ((0 * 4032 + l.val) * 1 + 0) * 32 + p.val = (0 * 4032 + l.val) * 32 + p.val
    omega
  · rw [Shape.rowMajor_val_three, Shape.rowMajor_val_four]
    show (l.val / 2016 * 2016 + l.val % 2016) * 128 + (32 * k.val + p.val) = ((0 * 4032 + l.val) * 4 + k.val) * 32 + p.val
    omega

/-! ## The gather -/

/-- The gather of columns: for every channel, the column its index word names, clamped into the image. -/
theorem gather_at (X : S128x32768.Idx → α) (I : S4032x32x1.Idx → BitVec 32) (c : Fin 128) (l : Fin 4032) (p : Fin 32)
    (n : Fin 32768) (hn : min (I (ix3 l p (0 : Fin 1))).toInt.toNat 32767 = n.val) :
    Host.gather gather_S128x32768_S4032x32x1_S128x4032x32_0_1_n_n_1_2_1281 X I (ix3 c l p) = X (ix2 c n) := by
  unfold Host.gather
  congr 1
  funext a
  refine Fin.ext ?_
  have h01 : a = 0 ∨ a = 1 := by
    match a with
    | ⟨0, _⟩ => exact Or.inl rfl
    | ⟨1, _⟩ => exact Or.inr rfl
  rcases h01 with rfl | rfl
  · show GatherDims.start _ _ _ _ + GatherDims.batchCoord _ _ _ + GatherDims.offCoord _ _ _ = c.val
    rw [GatherDims.batchCoord_eq_zero _ _ _ (show _ ∉ ([] : List (Fin 2)) from List.not_mem_nil)]
    unfold GatherDims.start GatherDims.offCoord
    rw [dif_neg (by decide), dif_pos (by decide)]
    show 0 + 0 + c.val = c.val
    omega
  · show GatherDims.start _ _ _ _ + GatherDims.batchCoord _ _ _ + GatherDims.offCoord _ _ _ = n.val
    rw [GatherDims.batchCoord_eq_zero _ _ _ (show _ ∉ ([] : List (Fin 2)) from List.not_mem_nil), GatherDims.offCoord_eq_zero _ _ _ (by decide)]
    unfold GatherDims.start
    rw [dif_pos (by decide)]
    refine Eq.trans ?_ hn
    refine congrArg (fun z => min (I z).toInt.toNat 32767) (funext fun b => Fin.ext ?_)
    match b with
    | ⟨0, _⟩ => rfl
    | ⟨1, _⟩ => rfl
    | ⟨2, _⟩ => rfl

end Operands

/-- An index in range is not negative, and is not clamped. -/
theorem word_in_range (b : BitVec 32) (h : b.toNat < 32768) :
    Scalar.select (IntOp.cmpi .slt b 0#32) (IntOp.addi b 32768#32) b = b ∧ min b.toInt.toNat 32767 = b.toNat := by
  have hi : b.toInt = (b.toNat : Int) := by rw [BitVec.toInt_eq_toNat_cond, if_pos (by omega)]
  constructor
  · have hs : BitVec.slt b 0#32 = false := by
      rw [BitVec.slt_eq_decide, decide_eq_false_iff_not, hi]; simp
    show Scalar.select (BitVec.ofBool (BitVec.slt b 0#32)) _ _ = b
    rw [hs]; rfl
  · rw [hi]; omega

/-! ## One corner's term -/

/-- The reference's wrapped indices of corner `k`. -/
abbrev refWords (k : Fin 4) (hs : S4032x4x32.Slices ![0, k.val, 0] S4032x1x32) : S4032x32.Idx → BitVec 32 :=
  shapeCast S4032x32 (extractStridedSlice S4032x1x32 ![0, k.val, 0] (shapeCast S4032x4x32 A1 shapeCasts_S2x2016x128_S4032x4x32) hs)
    shapeCasts_S4032x1x32_S4032x32

/-- The reference's product for corner `k`. -/
abbrev refTerm (k : Fin 4) (hs : S4032x4x32.Slices ![0, k.val, 0] S4032x1x32) (hw : S1x4032x4x32.Slices ![0, 0, k.val, 0] S1x4032x1x32) :
    S128x4032x32.Idx → Ideal .f32 :=
  mulf (Host.gather gather_S128x32768_S4032x32x1_S128x4032x32_0_1_n_n_1_2_1281
      (shapeCast S128x32768 (transpose S128x2x128x128 [1, 0, 2, 3] A0 transposes_S2x128x128x128_S128x2x128x128_1_0_2_3) shapeCasts_S128x2x128x128_S128x32768)
      (broadcastInDim S4032x32x1 ![0, 1] bcast_S4032x32_S4032x32x1_0_1
        (select (cmpi .slt (refWords A1 k hs) (broadcastInDim S4032x32 ![] bcast_S_S4032x32 (constantI S_ 32 0#32)))
          (addi (refWords A1 k hs) (broadcastInDim S4032x32 ![] bcast_S_S4032x32 (constantI S_ 32 32768#32))) (refWords A1 k hs))))
    (broadcastInDim S128x4032x32 ![0, 1, 2] bcast_S1x4032x32_S128x4032x32_0_1_2
      (shapeCast S1x4032x32 (extractStridedSlice S1x4032x1x32 ![0, 0, k.val, 0] (shapeCast S1x4032x4x32 A2 shapeCasts_S2x2016x128_S1x4032x4x32) hw)
        shapeCasts_S1x4032x1x32_S1x4032x32))

variable (ht : S2x128x128x128.Transposes [0, 2, 3, 1] S2x128x128x128) (hc : S2x128x128x128.ShapeCasts SX) (hr : S2x2016x128.ShapeCasts SR)

/-- The call's three operands. -/
abbrev opX : SX.Idx → Ideal .f32 := shapeCast SX (transpose S2x128x128x128 [0, 2, 3, 1] A0 ht) hc
abbrev opI : SR.Idx → BitVec 32 := shapeCast SR A1 hr
abbrev opW : SR.Idx → Ideal .f32 := shapeCast SR A2 hr

theorem refTerm_at (hI : ∀ j, (A1 j).toNat < 32768) (k : Fin 4) (hs) (hw) (c : Fin 128) (l : Fin 4032) (p : Fin 32) :
    refTerm A0 A1 A2 k hs hw (ix3 c l p)
      = FloatOps.mulf (opW A2 hr (ix2 l ⟨32 * k.val + p.val, by omega⟩))
          (opX A0 ht hc (ix2 (pixel (opI A1 hr (ix2 l ⟨32 * k.val + p.val, by omega⟩))) c)) := by
  obtain ⟨hsel, hmin⟩ := word_in_range (opI A1 hr (ix2 l ⟨32 * k.val + p.val, by omega⟩)) (hI _)
  have hword : refWords A1 k hs (ix2 l p) = opI A1 hr (ix2 l ⟨32 * k.val + p.val, by omega⟩) :=
    (corner_at A1 k _ hs _ l p).trans (rows_at A1 hr l _).symm
  have hidx : (broadcastInDim S4032x32x1 ![0, 1] bcast_S4032x32_S4032x32x1_0_1
        (select (cmpi .slt (refWords A1 k hs) (broadcastInDim S4032x32 ![] bcast_S_S4032x32 (constantI S_ 32 0#32)))
          (addi (refWords A1 k hs) (broadcastInDim S4032x32 ![] bcast_S_S4032x32 (constantI S_ 32 32768#32))) (refWords A1 k hs)))
        (ix3 l p (0 : Fin 1)) = opI A1 hr (ix2 l ⟨32 * k.val + p.val, by omega⟩) := by
    refine (broadcastInDim_apply _ bcast_S4032x32_S4032x32x1_0_1 _ _ (ix2 l p) fun a => ?_).trans ?_
    · match a with
      | ⟨0, _⟩ => rfl
      | ⟨1, _⟩ => rfl
    · show Scalar.select (IntOp.cmpi .slt (refWords A1 k hs (ix2 l p)) 0#32) (IntOp.addi (refWords A1 k hs (ix2 l p)) 32768#32) (refWords A1 k hs (ix2 l p)) = _
      rw [hword, hsel]
  unfold refTerm
  rw [ValueIdx.mulf_apply, gather_at _ _ c l p (pixel (opI A1 hr (ix2 l ⟨32 * k.val + p.val, by omega⟩))) (by rw [hidx, hmin]; exact (Nat.mod_eq_of_lt (hI _)).symm),
    weight_at, image_at]
  rw [show (opW A2 hr (ix2 l ⟨32 * k.val + p.val, by omega⟩)) = _ from rows_at A2 hr l _,
    show (opX A0 ht hc (ix2 (pixel (opI A1 hr (ix2 l ⟨32 * k.val + p.val, by omega⟩))) c)) = _ from pixels_at A0 ht hc _ c]
  exact mul_comm _ _

/-! ## The maximum over four neighbours -/

theorem max_at (x : S4032x128x8x4.Idx → Ideal .f32) (l : Fin 4032) (c : Fin 128) (g : Fin 8) :
    Host.reduce FloatOps.maximumf x (constant S_ .f32 0xFF800000#32) reducesTo_S4032x128x8x4_S4032x128x8_d3 h_S_ (ix3 l c g)
      = max (max (max (x (ix4 l c g (0 : Fin 4))) (x (ix4 l c g (1 : Fin 4)))) (x (ix4 l c g (2 : Fin 4)))) (x (ix4 l c g (3 : Fin 4))) := by
  have hred : Shape.Reduces (s := S4032x128x8x4) [3] S4032x128x8 := by decide
  have hlift : ∀ k : Fin 4, Shape.Reduces.lift hred (ix3 l c g) k = ix4 l c g k := fun k => funext fun b => Fin.ext (match b with
    | ⟨0, _⟩ => rfl
    | ⟨1, _⟩ => rfl
    | ⟨2, _⟩ => rfl
    | ⟨3, _⟩ => rfl)
  have hbot : (constant (F := Ideal) S_ .f32 0xFF800000#32) (Shape.Idx.first h_S_) = (⊥ : EReal) := by
    show Ideal.ofBits .f32 0xFF800000#32 = (⊥ : EReal)
    simp [Ideal.ofBits, Ideal.ieee]
  refine (Host.reduce_eq_fold_single (fun a b : EReal => max a b) x _ _ hred h_S_ (ix3 l c g)).trans ?_
  rw [hbot, show (x ∘ Shape.Reduces.lift hred (ix3 l c g)) = fun k : Fin 4 => x (ix4 l c g k) from funext fun k => congrArg x (hlift k)]
  show (Finset.univ : Finset (Fin 4)).fold max (⊥ : EReal) _ = _
  rw [show (Finset.univ : Finset (Fin 4)) = {0, 1, 2, 3} by decide, Finset.fold_insert (by decide), Finset.fold_insert (by decide), Finset.fold_insert (by decide),
    Finset.fold_singleton]
  simp only [bot_le, sup_of_le_left, max_assoc]

/-! ## The pooled corners -/

/-- The reference's pooled corners, a line's values channel by channel. -/
abbrev refPooled : S4032x1024.Idx → Ideal .f32 :=
  shapeCast S4032x1024 (Host.reduce FloatOps.maximumf (shapeCast S4032x128x8x4 (transpose S4032x128x32 [1, 0, 2]
      (addf (addf (addf (refTerm A0 A1 A2 0 slices_S4032x4x32_S4032x1x32_0_0_0 slices_S1x4032x4x32_S1x4032x1x32_0_0_0_0)
        (refTerm A0 A1 A2 1 slices_S4032x4x32_S4032x1x32_0_1_0 slices_S1x4032x4x32_S1x4032x1x32_0_0_1_0))
        (refTerm A0 A1 A2 2 slices_S4032x4x32_S4032x1x32_0_2_0 slices_S1x4032x4x32_S1x4032x1x32_0_0_2_0))
        (refTerm A0 A1 A2 3 slices_S4032x4x32_S4032x1x32_0_3_0 slices_S1x4032x4x32_S1x4032x1x32_0_0_3_0))
      transposes_S128x4032x32_S4032x128x32_1_0_2) shapeCasts_S4032x128x32_S4032x128x8x4) (constant S_ .f32 0xFF800000#32)
      reducesTo_S4032x128x8x4_S4032x128x8_d3 h_S_) shapeCasts_S4032x128x8_S4032x1024

/-- At the channel and point the specification's value `n` stands for, they are that value. -/
theorem pooled_at (hI : ∀ j, (A1 j).toNat < 32768) (l : Fin 4032) (n : Fin 1024) :
    refPooled A0 A1 A2 (ix2 l (⟨n.val % 128 * 8 + n.val / 128, by omega⟩ : Fin 1024)) = poolAll (opX A0 ht hc) (opI A1 hr) (opW A2 hr) l n := by
  refine (shapeCast_apply _ _ _ (ix3 l (⟨n.val % 128, by omega⟩ : Fin 128) (⟨n.val / 128, by omega⟩ : Fin 8)) ?_).trans ((max_at _ l _ _).trans ?_)
  · rw [Shape.rowMajor_val_three, Shape.rowMajor_val_two]
    show (l.val * 128 + n.val % 128) * 8 + n.val / 128 = l.val * 1024 + (n.val % 128 * 8 + n.val / 128)
    omega
  · have hpt : ∀ (q : Fin 4) (x : S128x4032x32.Idx → Ideal .f32),
        shapeCast S4032x128x8x4 (transpose S4032x128x32 [1, 0, 2] x transposes_S128x4032x32_S4032x128x32_1_0_2) shapeCasts_S4032x128x32_S4032x128x8x4
          (ix4 l (⟨n.val % 128, by omega⟩ : Fin 128) (⟨n.val / 128, by omega⟩ : Fin 8) q)
          = x (ix3 (⟨n.val % 128, by omega⟩ : Fin 128) l (⟨4 * (n.val / 128) + q.val, by omega⟩ : Fin 32)) := fun q x => by
      refine (shapeCast_apply _ _ _ (ix3 l (⟨n.val % 128, by omega⟩ : Fin 128) (⟨4 * (n.val / 128) + q.val, by omega⟩ : Fin 32)) ?_).trans
        (transpose_apply _ x _ _ _ fun b => match b with | ⟨0, _⟩ => rfl | ⟨1, _⟩ => rfl | ⟨2, _⟩ => rfl)
      rw [Shape.rowMajor_val_three, Shape.rowMajor_val_four]
      show (l.val * 128 + n.val % 128) * 32 + (4 * (n.val / 128) + q.val) = ((l.val * 128 + n.val % 128) * 8 + n.val / 128) * 4 + q.val
      omega
    simp only [hpt, ValueIdx.addf_apply, refTerm_at A0 A1 A2 ht hc hr hI]
    simp only [Fin.val_zero, Fin.val_one, Fin.val_two, Nat.mul_zero, Nat.zero_add, Nat.mul_one, Nat.add_zero]
    rfl

/-! ## The perceptron -/

section Perceptron

variable (p : S4032x1024.Idx → Ideal .f32) (f : S4032x8.Idx → Ideal .f32) (W1 : S1032x1024.Idx → Ideal .f32) (b1 : S1024.Idx → Ideal .f32)
  (W2 : S1024x1024.Idx → Ideal .f32) (b2 : S1024.Idx → Ideal .f32) (W3 : S1024x1.Idx → Ideal .f32) (b3 : S1.Idx → Ideal .f32)

/-- A line's 1032 inputs: the pooled values, then the features. -/
abbrev refInputs : S4032x1032.Idx → Ideal .f32 :=
  concatenate S4032x1032 1 [⟨S4032x1024, p⟩, ⟨S4032x8, f⟩] concatenates_S4032x1024_S4032x8_S4032x1032_d1

theorem inputs_pooled (l : Fin 4032) (n : Fin 1024) : refInputs p f (ix2 l (⟨n.val, by omega⟩ : Fin 1032)) = p (ix2 l n) :=
  concatenate_pair_apply_left (t := S4032x1032) 1 p f _ _ rfl _ fun b => match b with
    | ⟨0, _⟩ => rfl
    | ⟨1, _⟩ => rfl

theorem inputs_features (l : Fin 4032) (k : Fin 8) : refInputs p f (ix2 l (⟨1024 + k.val, by omega⟩ : Fin 1032)) = f (ix2 l k) :=
  concatenate_pair_apply_right (t := S4032x1032) 1 p f _ _ rfl rfl _ (fun b hb => match b, hb with
    | ⟨0, _⟩, _ => rfl
    | ⟨1, _⟩, hb => absurd rfl hb) (by show k.val + 1024 = 1024 + k.val; omega)

/-- A bias, the same for every line. -/
abbrev refBias (b : S1024.Idx → Ideal .f32) : S4032x1024.Idx → Ideal .f32 :=
  broadcastInDim S4032x1024 ![0, 1] bcast_S1x1024_S4032x1024_0_1 (broadcastInDim S1x1024 ![1] bcast_S1024_S1x1024_1 b)

theorem bias_at (b : S1024.Idx → Ideal .f32) (l : Fin 4032) (j : Fin 1024) : refBias b (ix2 l j) = b (ix1 j) :=
  (broadcastInDim_apply _ bcast_S1x1024_S4032x1024_0_1 _ _ (ix2 (0 : Fin 1) j) fun a => match a with
    | ⟨0, _⟩ => rfl
    | ⟨1, _⟩ => rfl).trans (broadcastInDim_apply _ bcast_S1024_S1x1024_1 _ _ (ix1 j) fun a => match a with
    | ⟨0, _⟩ => rfl)

/-- The zero every rectifier compares with. -/
abbrev refZero : S4032x1024.Idx → Ideal .f32 := broadcastInDim S4032x1024 ![] bcast_S_S4032x1024 (constant S_ .f32 0x00000000#32)

theorem zero_at (i : S4032x1024.Idx) : refZero i = (0 : EReal) := Ideal.ofBits_zero_f32

abbrev refFirst : S4032x1024.Idx → Ideal .f32 :=
  maximumf (addf (Host.dotGeneral dot_S4032x1032_S1032x1024_S4032x1024_1_0_0_1_n_n none (refInputs p f) W1) (refBias b1)) refZero

abbrev refSecond (h : S4032x1024.Idx → Ideal .f32) : S4032x1024.Idx → Ideal .f32 :=
  maximumf (addf (Host.dotGeneral dot_S4032x1024_S1024x1024_S4032x1024_1_0_0_1_n_n none h W2) (refBias b2)) refZero

/-- The value the logistic function is taken of, one for each line. -/
abbrev refLogits (h : S4032x1024.Idx → Ideal .f32) : S4032.Idx → Ideal .f32 :=
  shapeCast S4032 (addf (Host.dotGeneral dot_S4032x1024_S1024x1_S4032x1_1_0_0_1_n_n none h W3)
    (broadcastInDim S4032x1 ![0, 1] bcast_S1x1_S4032x1_0_1 (broadcastInDim S1x1 ![1] bcast_S1_S1x1_1 b3))) shapeCasts_S4032x1_S4032

/-- The reference's scores. -/
abbrev refScores : S2x2016.Idx → Ideal .f32 :=
  shapeCast S2x2016 (Host.divf (broadcastInDim S4032 ![] bcast_S_S4032 (constant S_ .f32 0x3F800000#32))
    (addf (broadcastInDim S4032 ![] bcast_S_S4032 (constant S_ .f32 0x3F800000#32))
      (Host.exp (Host.negf (refLogits W3 b3 (refSecond W2 b2 (refFirst p f W1 b1))))))) shapeCasts_S4032_S2x2016

theorem first_at (l : Fin 4032) (j : Fin 1024) :
    refFirst p f W1 b1 (ix2 l j)
      = max (((∑ n : Fin 1024, p (ix2 l (⟨n.val % 128 * 8 + n.val / 128, by omega⟩ : Fin 1024)) * W1 (ix2 (⟨n.val % 128 * 8 + n.val / 128, by omega⟩ : Fin 1032) j))
          + ∑ k : Fin 8, f (ix2 l k) * W1 (ix2 (⟨1024 + k.val, by omega⟩ : Fin 1032) j)) + b1 (ix1 j)) 0 := by
  unfold refFirst
  rw [ValueIdx.maximumf_apply, ValueIdx.addf_apply, zero_at, bias_at]
  refine congrArg (fun s => max (s + b1 (ix1 j)) 0) ?_
  refine (dotGeneral_plain_apply (m := 4032) (k := 1032) (n := 1024) none (refInputs p f) W1 l j).trans ((sum_inputs _).trans ?_)
  refine congrArg₂ (· + ·) (Finset.sum_congr rfl fun n _ => ?_) (Finset.sum_congr rfl fun k _ => ?_)
  · exact congrArg (· * _) (inputs_pooled p f l (⟨n.val % 128 * 8 + n.val / 128, by omega⟩ : Fin 1024))
  · exact congrArg (· * _) (inputs_features p f l k)

theorem second_at (h : S4032x1024.Idx → Ideal .f32) (l : Fin 4032) (k : Fin 1024) :
    refSecond W2 b2 h (ix2 l k) = max ((∑ j : Fin 1024, h (ix2 l j) * W2 (ix2 j k)) + b2 (ix1 k)) 0 := by
  unfold refSecond
  rw [ValueIdx.maximumf_apply, ValueIdx.addf_apply, zero_at, bias_at]
  exact congrArg (fun s => max (s + b2 (ix1 k)) 0) (dotGeneral_plain_apply (m := 4032) (k := 1024) (n := 1024) none h W2 l k)

theorem logits_at (h : S4032x1024.Idx → Ideal .f32) (l : Fin 4032) :
    refLogits W3 b3 h (ix1 l) = (∑ k : Fin 1024, h (ix2 l k) * W3 (ix2 k (0 : Fin 1))) + b3 (ix1 (0 : Fin 1)) := by
  refine (shapeCast_apply _ _ _ (ix2 l (0 : Fin 1)) ?_).trans ?_
  · rw [Shape.rowMajor_val_one, Shape.rowMajor_val_two]
    show l.val * 1 + 0 = l.val
    omega
  · rw [ValueIdx.addf_apply]
    refine congrArg₂ (· + ·) (dotGeneral_plain_apply (m := 4032) (k := 1024) (n := 1) none h W3 l 0) ?_
    exact (broadcastInDim_apply _ bcast_S1x1_S4032x1_0_1 _ _ (ix2 (0 : Fin 1) (0 : Fin 1)) fun a => match a with
      | ⟨0, _⟩ => rfl
      | ⟨1, _⟩ => rfl).trans (broadcastInDim_apply _ bcast_S1_S1x1_1 _ _ (ix1 (0 : Fin 1)) fun a => match a with
      | ⟨0, _⟩ => rfl)

/-- A score of the reference. -/
theorem scores_at (b : Fin 2) (i : Fin 2016) (l : Fin 4032) (hl : l.val = b.val * 2016 + i.val) :
    refScores p f W1 b1 W2 b2 W3 b3 (ix2 b i)
      = lineScore (fun j => (∑ n : Fin 1024, p (ix2 l (⟨n.val % 128 * 8 + n.val / 128, by omega⟩ : Fin 1024)) * W1 (ix2 (⟨n.val % 128 * 8 + n.val / 128, by omega⟩ : Fin 1032) j))
            + ∑ k : Fin 8, f (ix2 l k) * W1 (ix2 (⟨1024 + k.val, by omega⟩ : Fin 1032) j))
          (fun j => b1 (ix1 j)) (fun j k => W2 (ix2 j k)) (fun k => b2 (ix1 k)) (fun k => W3 (ix2 k (0 : Fin 1))) (b3 (ix1 (0 : Fin 1))) := by
  unfold lineScore
  simp only [← first_at p f W1 b1 l, ← second_at W2 b2 _ l]
  rw [← logits_at W3 b3 _ l]
  refine (shapeCast_apply _ _ _ (ix1 l) ?_).trans ?_
  · rw [Shape.rowMajor_val_one, Shape.rowMajor_val_two]
    exact hl
  · show Ideal.div (Ideal.ofBits .f32 0x3F800000#32) (Ideal.ofBits .f32 0x3F800000#32 + Ideal.exp (-_)) = _
    rw [Ideal.ofBits_one_f32]

end Perceptron

/-- A score of the reference, from the specification's pooled corners and the line's features. -/
theorem reference_at (A3 : S2x2016x8.Idx → Ideal .f32) (W1 : S1032x1024.Idx → Ideal .f32) (b1 : S1024.Idx → Ideal .f32)
    (W2 : S1024x1024.Idx → Ideal .f32) (b2 : S1024.Idx → Ideal .f32) (W3 : S1024x1.Idx → Ideal .f32) (b3 : S1.Idx → Ideal .f32)
    (hI : ∀ j, (A1 j).toNat < 32768) (b : Fin 2) (i : Fin 2016) :
    refScores (refPooled A0 A1 A2) (shapeCast S4032x8 A3 shapeCasts_S2x2016x8_S4032x8) W1 b1 W2 b2 W3 b3 (ix2 b i)
      = lineScore (fun j => (∑ n : Fin 1024, poolAll (opX A0 ht hc) (opI A1 hr) (opW A2 hr) (⟨b.val * 2016 + i.val, by omega⟩ : Fin 4032) n
              * W1 (ix2 (⟨n.val % 128 * 8 + n.val / 128, by omega⟩ : Fin 1032) j))
            + ∑ k : Fin 8, A3 (ix3 b i k) * W1 (ix2 (⟨1024 + k.val, by omega⟩ : Fin 1032) j))
          (fun j => b1 (ix1 j)) (fun j k => W2 (ix2 j k)) (fun k => b2 (ix1 k)) (fun k => W3 (ix2 k (0 : Fin 1))) (b3 (ix1 (0 : Fin 1))) := by
  have hf : ∀ k : Fin 8, shapeCast S4032x8 A3 shapeCasts_S2x2016x8_S4032x8 (ix2 (⟨b.val * 2016 + i.val, by omega⟩ : Fin 4032) k) = A3 (ix3 b i k) := fun k => by
    refine shapeCast_apply _ _ _ _ ?_
    rw [Shape.rowMajor_val_three, Shape.rowMajor_val_two]
    rfl
  refine (scores_at _ _ W1 b1 W2 b2 W3 b3 b i (⟨b.val * 2016 + i.val, by omega⟩ : Fin 4032) rfl).trans ?_
  simp only [hf, pooled_at A0 A1 A2 ht hc hr hI]

end Cert.Proof.Equation

end
-- ==== Proof.Select.Pick.lean ====
module

public import Idealize.ShloMosaic.PureOps.Ideal
public import Idealize.ShloMosaic.Lib.SortPrefix

@[expose] public section

noncomputable section

/-!
# Picking the greatest entries one after another

A stable sort by "greater first" puts at position `t` what the `t`-th round of this procedure picks: take the greatest
entry, of equal ones the first, and replace it by −∞. It holds for the first `n` rounds on `n` entries above −∞.
-/

namespace Cert.Proof.Select

open Idealize.ShloMosaic

variable {n : Nat} [NeZero n]

theorem exists_best (y : Fin n → EReal) : ∃ p, (∀ q, y q ≤ y p) ∧ ∀ q, y q = y p → p ≤ q := by
  classical
  obtain ⟨m, hm⟩ := Finite.exists_max y
  have hne : (Finset.univ.filter fun q => y q = y m).Nonempty := ⟨m, by simp⟩
  have hmem := Finset.min'_mem _ hne
  have heq : y ((Finset.univ.filter fun q => y q = y m).min' hne) = y m := (Finset.mem_filter.mp hmem).2
  refine ⟨(Finset.univ.filter fun q => y q = y m).min' hne, fun q => ?_, fun q hq => ?_⟩
  · rw [heq]; exact hm q
  · exact Finset.min'_le _ q (Finset.mem_filter.mpr ⟨Finset.mem_univ _, hq.trans heq⟩)

/-- The position of the greatest entry, the first of equal ones. -/
def best (y : Fin n → EReal) : Fin n := (exists_best y).choose

theorem le_best (y : Fin n → EReal) (q : Fin n) : y q ≤ y (best y) := (exists_best y).choose_spec.1 q

theorem best_le (y : Fin n → EReal) (q : Fin n) (h : y q = y (best y)) : best y ≤ q := (exists_best y).choose_spec.2 q h

/-- The entries before round `t`: those picked so far are −∞. -/
def rest (x : Fin n → EReal) : Nat → Fin n → EReal
  | 0 => x
  | t + 1 => fun q => if q = best (rest x t) then ⊥ else rest x t q

/-- What round `t` picks. -/
def pick (x : Fin n → EReal) (t : Nat) : Fin n := best (rest x t)

theorem rest_of_picked (x : Fin n → EReal) (j : Nat) : ∀ t, j < t → rest x t (pick x j) = ⊥
  | 0, h => absurd h (Nat.not_lt_zero _)
  | t + 1, h => by
    show (if pick x j = best (rest x t) then ⊥ else rest x t (pick x j)) = ⊥
    split
    · rfl
    · next hne =>
      rcases Nat.lt_succ_iff_lt_or_eq.mp h with h | h
      · exact rest_of_picked x j t h
      · subst h; exact absurd rfl hne

theorem rest_of_not_picked (x : Fin n → EReal) (q : Fin n) : ∀ t, (∀ j, j < t → pick x j ≠ q) → rest x t q = x q
  | 0, _ => rfl
  | t + 1, h => by
    show (if q = best (rest x t) then ⊥ else rest x t q) = x q
    rw [if_neg fun e => h t (Nat.lt_succ_self t) e.symm]
    exact rest_of_not_picked x q t fun j hj => h j (Nat.lt_succ_of_lt hj)

variable (x : Fin n → EReal) (hx : ∀ q, ⊥ < x q)
include hx

/-- While positions are left, a round picks one that was not picked before. -/
theorem pick_fresh (t : Nat) (ht : t < n) (j : Nat) (hj : j < t) : pick x j ≠ pick x t := by
  classical
  intro e
  have hcard : ((Finset.range t).image (pick x)).card < (Finset.univ : Finset (Fin n)).card := by
    refine lt_of_le_of_lt Finset.card_image_le ?_
    rw [Finset.card_range, Finset.card_univ, Fintype.card_fin]; exact ht
  obtain ⟨q, -, hq⟩ := Finset.exists_mem_notMem_of_card_lt_card hcard
  have hrest := rest_of_not_picked x q t fun j hj e => hq (Finset.mem_image.mpr ⟨j, Finset.mem_range.mpr hj, e⟩)
  have h1 : rest x t q ≤ rest x t (pick x t) := le_best _ q
  rw [hrest, ← e, rest_of_picked x j t hj] at h1
  exact absurd (hx q) (not_lt.mpr h1)

/-- A position not picked before round `t` does not come before what round `t` picks. -/
theorem le_pick (t : Nat) (ht : t < n) (q : Fin n) (hq : ∀ j, j < t → pick x j ≠ q) :
    x q ≤ x (pick x t) ∧ (x q = x (pick x t) → pick x t ≤ q) := by
  have h1 := rest_of_not_picked x q t hq
  have h2 := rest_of_not_picked x (pick x t) t fun j hj => pick_fresh x hx t ht j hj
  rw [← h1, ← h2]
  exact ⟨le_best _ q, best_le _ q⟩

omit [NeZero n] hx in
/-- On an ascending list, inserting under "greater first" leaves equal entries in the order of their positions. -/
theorem stableSort_ties (l : List (Fin n)) (hl : l.Pairwise (· < ·)) :
    stableSort (fun a b => decide (x b < x a)) l
      = stableSort (fun a b => decide (x b < x a) || (decide (x a = x b) && decide (a < b))) l := by
  induction l with
  | nil => rfl
  | cons a l ih =>
    rw [List.pairwise_cons] at hl
    unfold stableSort
    rw [ih hl.2]
    refine insertBefore_congr _ _ a _ fun b hb => ?_
    have hlt : a < b := hl.1 b ((perm_stableSort _ l).mem_iff.mp hb)
    simp [not_lt.mpr hlt.le]

/-- THE FIRST `k` OF A STABLE SORT, greater first, are what the first `k` rounds pick. -/
theorem sortedFrom_eq_pick {k : Nat} (hk : k ≤ n) (t : Fin k) :
    sortedFrom (fun a b : Fin n => decide (x b < x a)) (t.castLE hk) = pick x t.val := by
  have hB := StrictTotalBefore.of_key_then_position (κ := EReal) (fun u v => decide (v < u)) x (by simp)
    (by intro a b c h1 h2; simp only [decide_eq_true_eq] at *; exact lt_trans h2 h1)
    (by intro a b; simp only [decide_eq_true_eq]; rcases lt_trichotomy a b with h | h | h <;> simp [h])
  have hsort : sortedFrom (fun a b : Fin n => decide (x b < x a))
      = sortedFrom fun a b => decide (x b < x a) || (decide (x a = x b) && decide (a < b)) := by
    funext k
    unfold sortedFrom
    have : sortPositions n (fun a b : Fin n => decide (x b < x a))
        = sortPositions n fun a b => decide (x b < x a) || (decide (x a = x b) && decide (a < b)) :=
      stableSort_ties x _ (List.pairwise_lt_finRange n)
    rw [List.get_of_eq this]
    rfl
  rw [hsort]
  have hlt : ∀ i : Fin k, i.val < n := fun i => lt_of_lt_of_le i.isLt hk
  have hnot : ∀ (i : Fin k) (p : Fin n), (∀ j, j < i.val → pick x j ≠ p) →
      (decide (x (pick x i) < x p) || (decide (x p = x (pick x i)) && decide (p < pick x i))) = false := fun i p hp => by
    obtain ⟨h1, h2⟩ := le_pick x hx i (hlt i) p hp
    simp only [Bool.or_eq_false_iff, Bool.and_eq_false_iff, decide_eq_false_iff_not, not_lt]
    refine ⟨h1, ?_⟩
    by_cases e : x p = x (pick x i)
    · exact Or.inr (h2 e)
    · exact Or.inl e
  refine hB.sortedFrom_eq_of_prefix hk (fun i => pick x i.val) ?_ ?_ ?_ t
  · intro i j e
    by_contra hne
    rcases lt_or_gt_of_ne (fun h => hne (Fin.ext h) : i.val ≠ j.val) with h | h
    · exact pick_fresh x hx j (hlt j) i h e
    · exact pick_fresh x hx i (hlt i) j h e.symm
  · intro i j hij
    exact hnot i _ fun j' hj' => pick_fresh x hx j (hlt j) j' (lt_trans hj' hij)
  · intro i p hp
    exact hnot i p fun j hj => hp ⟨j, lt_trans hj i.isLt⟩

end Cert.Proof.Select
-- ==== Proof.Select.Peaks.lean ====
module

public import proofs.«01_k».proof.Proof.Gen.SelectIdeal.Skeleton
public import proofs.«01_k».proof.Proof.Gen.SelectReferenceIdeal.Run
public import Idealize.ShloMosaic.Lib.Pointwise

/-!
# The peaks of the junction map

Both programs keep an entry of the 128 by 128 map where it is the largest of its three by three
neighbourhood and put zero elsewhere. The kernel takes two passes of shifted maxima, the reference
one window maximum; both are the map `peaks` below.
-/

@[expose] public section

set_option maxRecDepth 20000

noncomputable section

namespace Cert.Proof.Select

open Idealize.ShloMosaic

/-- Two coordinates at most one apart. -/
def Near (p q : Fin 128) : Prop := p.val ≤ q.val + 1 ∧ q.val ≤ p.val + 1

theorem near_self (p : Fin 128) : Near p p := ⟨Nat.le_succ _, Nat.le_succ _⟩

open Classical in
/-- The map with everything but the largest entries of three by three neighbourhoods put to zero. -/
def peaks (a : Fin 128 → Fin 128 → EReal) (r c : Fin 128) : EReal :=
  if ∀ p q, Near p r → Near q c → a p q ≤ a r c then a r c else 0

theorem ofBits_neg_inf : Idealize.ShloMosaic.Ideal.ofBits .f32 4286578688#32 = (⊥ : EReal) := by
  simp [Idealize.ShloMosaic.Ideal.ofBits, Idealize.ShloMosaic.Ideal.ieee]

/-- One pass of shifted maxima along a line bounds exactly the neighbours on it. -/
theorem shifted_le (f : Fin 128 → EReal) (c : Fin 128) (h1 : ∀ h : c.val < 127, 1 + c.val < 128) (h2 : c.val - 1 < 128) (z : EReal) :
    max (f c) (max (if h : c.val < 127 then f ⟨1 + c.val, h1 h⟩ else ⊥) (if h : c.val < 1 then ⊥ else f ⟨c.val - 1, h2⟩)) ≤ z
      ↔ ∀ q, Near q c → f q ≤ z := by
  have hc := c.isLt
  rw [max_le_iff, max_le_iff]
  constructor
  · rintro ⟨h0, hr, hl⟩ q ⟨hq1, hq2⟩
    rcases Nat.lt_trichotomy q.val c.val with h | h | h
    · rw [dif_neg (by omega)] at hl
      have : q = ⟨c.val - 1, h2⟩ := Fin.ext (by show q.val = c.val - 1; omega)
      rw [this]; exact hl
    · rw [Fin.ext h]; exact h0
    · have hlt : c.val < 127 := by have := q.isLt; omega
      rw [dif_pos hlt] at hr
      have : q = ⟨1 + c.val, h1 hlt⟩ := Fin.ext (by show q.val = 1 + c.val; omega)
      rw [this]; exact hr
  · intro h
    refine ⟨h c (near_self c), ?_, ?_⟩
    · split
      · next hlt => exact h _ ⟨by show 1 + c.val ≤ c.val + 1; omega, by show c.val ≤ 1 + c.val + 1; omega⟩
      · exact bot_le
    · split
      · exact bot_le
      · next hlt => exact h _ ⟨by show c.val - 1 ≤ c.val + 1; omega, by show c.val ≤ c.val - 1 + 1; omega⟩

/-- An entry times the word of "it equals the neighbourhood's maximum". -/
theorem peaks_of_max (a : Fin 128 → Fin 128 → EReal) (r c : Fin 128) (M : EReal)
    (hM : ∀ z, M ≤ z ↔ ∀ p q, Near p r → Near q c → a p q ≤ z) (w : Bool → EReal) (h1 : w true = 1) (h0 : w false = 0) :
    a r c * w (decide (a r c = M)) = peaks a r c := by
  have hle : a r c ≤ M := (hM M).mp le_rfl r c (near_self r) (near_self c)
  have hiff : a r c = M ↔ ∀ p q, Near p r → Near q c → a p q ≤ a r c := by
    rw [← hM]
    exact ⟨fun h => h ▸ le_rfl, fun h => le_antisymm hle h⟩
  unfold peaks
  by_cases h : a r c = M
  · rw [if_pos (hiff.mp h), decide_eq_true h, h1, mul_one]
  · rw [if_neg (fun hh => h (hiff.mpr hh)), decide_eq_false h, h0, mul_zero]

/-- The kernel's map of peaks. -/
theorem kernel_peaks (v0 : Vec Idealize.ShloMosaic.Ideal Cert.SelectIdeal.S1x1x128x128 .f32) (r c : Fin 128) :
    Cert.SelectIdeal.Gen.k0_pay3 v0 (ix2 r c) = peaks (fun r c => v0 (ix4 0 0 r c)) r c := by
  pointwise [Cert.SelectIdeal.Gen.k0_pay3]
  rw [ofBits_neg_inf]
  refine peaks_of_max (fun r c => v0 (ix4 0 0 r c)) r c _ (fun z => ?_)
    (fun b => FloatOps.sitofp FTy.f32 (BitVec.setWidth 32 (BitVec.ofBool b)) : Bool → Idealize.ShloMosaic.Ideal .f32) ?_ ?_
  · refine (shifted_le (fun c => max (v0 (ix4 0 0 r c)) (max (if h : r.val < 127 then v0 (ix4 0 0 ⟨1 + r.val, by omega⟩ c) else ⊥)
      (if h : r.val < 1 then ⊥ else v0 (ix4 0 0 ⟨r.val - 1, by omega⟩ c)))) c (by omega) (by omega) z).trans ?_
    have hq : ∀ q, _ := fun q => shifted_le (fun r => v0 (ix4 0 0 r q)) r (by omega) (by omega) z
    exact ⟨fun h p q hp hq' => (hq q).mp (h q hq') p hp, fun h q hq' => (hq q).mpr fun p hp => h p q hp hq'⟩
  · simp [FloatOps.sitofp]
  · simp [FloatOps.sitofp]

/-- A running maximum is bounded where its start and its entries are. -/
theorem foldl_max_le {ι : Type} (g : ι → EReal) (z : EReal) : ∀ (l : List ι) (i : EReal),
    l.foldl (fun r n => max r (g n)) i ≤ z ↔ i ≤ z ∧ ∀ n ∈ l, g n ≤ z
  | [], i => by simp
  | a :: l, i => by
    rw [List.foldl_cons, foldl_max_le g z l, max_le_iff, List.forall_mem_cons, and_assoc]

/-- The reference's window maximum bounds exactly the three by three neighbourhood. -/
theorem window_le (x : Cert.SelectReferenceIdeal.S2x128x128.Idx → EReal) (init : Cert.SelectReferenceIdeal.S_.Idx → EReal)
    (h : Cert.SelectReferenceIdeal.S2x128x128.ReduceWindows ![1, 3, 3] ![1, 1, 1] ![0, 1, 1] ![0, 1, 1] Cert.SelectReferenceIdeal.S2x128x128)
    (hu : 0 < Cert.SelectReferenceIdeal.S_.numel) (hinit : ∀ i, init i = ⊥) (b : Fin 2) (r c : Fin 128) (z : EReal) :
    Host.reduceWindow max ![1, 3, 3] ![1, 1, 1] ![0, 1, 1] ![0, 1, 1] x init h hu (ix3 b r c) ≤ z
      ↔ ∀ p q, Near p r → Near q c → x (ix3 b p q) ≤ z := by
  have hr := r.isLt
  have hc := c.isLt
  unfold Host.reduceWindow
  refine (foldl_max_le _ z _ _).trans ?_
  rw [hinit]
  constructor
  · rintro ⟨-, hall⟩ p q ⟨hp1, hp2⟩ ⟨hq1, hq2⟩
    have hb := b.isLt
    have hp := p.isLt
    have hq := q.isLt
    obtain ⟨n, hn⟩ := (Shape.rowMajor ⟨3, ![1, 3, 3]⟩).symm.surjective
      (ix3 (0 : Fin 1) (⟨p.val + 1 - r.val, by omega⟩ : Fin 3) (⟨q.val + 1 - c.val, by omega⟩ : Fin 3))
    have e0 : (((Shape.rowMajor ⟨3, ![1, 3, 3]⟩).symm n) 0).val = 0 := congrArg Fin.val (congrFun hn 0)
    have e1 : (((Shape.rowMajor ⟨3, ![1, 3, 3]⟩).symm n) 1).val = p.val + 1 - r.val := congrArg Fin.val (congrFun hn 1)
    have e2 : (((Shape.rowMajor ⟨3, ![1, 3, 3]⟩).symm n) 2).val = q.val + 1 - c.val := congrArg Fin.val (congrFun hn 2)
    have hthis := hall n (List.mem_finRange _)
    dsimp only at hthis
    rw [dif_pos] at hthis
    · refine le_trans (le_of_eq (congrArg x (funext fun a => Fin.ext ?_))) hthis
      match a with
      | ⟨0, _⟩ =>
        show b.val = b.val * 1 + (((Shape.rowMajor ⟨3, ![1, 3, 3]⟩).symm n) 0).val - 0
        omega
      | ⟨1, _⟩ =>
        show p.val = r.val * 1 + (((Shape.rowMajor ⟨3, ![1, 3, 3]⟩).symm n) 1).val - 1
        omega
      | ⟨2, _⟩ =>
        show q.val = c.val * 1 + (((Shape.rowMajor ⟨3, ![1, 3, 3]⟩).symm n) 2).val - 1
        omega
    · intro a
      match a with
      | ⟨0, _⟩ =>
        show 0 ≤ b.val * 1 + (((Shape.rowMajor ⟨3, ![1, 3, 3]⟩).symm n) 0).val
          ∧ b.val * 1 + (((Shape.rowMajor ⟨3, ![1, 3, 3]⟩).symm n) 0).val - 0 < 2
        omega
      | ⟨1, _⟩ =>
        show 1 ≤ r.val * 1 + (((Shape.rowMajor ⟨3, ![1, 3, 3]⟩).symm n) 1).val
          ∧ r.val * 1 + (((Shape.rowMajor ⟨3, ![1, 3, 3]⟩).symm n) 1).val - 1 < 128
        omega
      | ⟨2, _⟩ =>
        show 1 ≤ c.val * 1 + (((Shape.rowMajor ⟨3, ![1, 3, 3]⟩).symm n) 2).val
          ∧ c.val * 1 + (((Shape.rowMajor ⟨3, ![1, 3, 3]⟩).symm n) 2).val - 1 < 128
        omega
  · intro hall
    refine ⟨bot_le, fun n _ => ?_⟩
    dsimp only
    split
    · next hin =>
      have h0 : (((Shape.rowMajor ⟨3, ![1, 3, 3]⟩).symm n) 0).val < 1 := (((Shape.rowMajor ⟨3, ![1, 3, 3]⟩).symm n) 0).isLt
      have h1 : (((Shape.rowMajor ⟨3, ![1, 3, 3]⟩).symm n) 1).val < 3 := (((Shape.rowMajor ⟨3, ![1, 3, 3]⟩).symm n) 1).isLt
      have h2 : (((Shape.rowMajor ⟨3, ![1, 3, 3]⟩).symm n) 2).val < 3 := (((Shape.rowMajor ⟨3, ![1, 3, 3]⟩).symm n) 2).isLt
      have i1 : 1 ≤ r.val * 1 + (((Shape.rowMajor ⟨3, ![1, 3, 3]⟩).symm n) 1).val
        ∧ r.val * 1 + (((Shape.rowMajor ⟨3, ![1, 3, 3]⟩).symm n) 1).val - 1 < 128 := hin 1
      have i2 : 1 ≤ c.val * 1 + (((Shape.rowMajor ⟨3, ![1, 3, 3]⟩).symm n) 2).val
        ∧ c.val * 1 + (((Shape.rowMajor ⟨3, ![1, 3, 3]⟩).symm n) 2).val - 1 < 128 := hin 2
      refine le_trans (le_of_eq (congrArg x (funext fun a => Fin.ext ?_)))
        (hall ⟨r.val * 1 + (((Shape.rowMajor ⟨3, ![1, 3, 3]⟩).symm n) 1).val - 1, i1.2⟩
          ⟨c.val * 1 + (((Shape.rowMajor ⟨3, ![1, 3, 3]⟩).symm n) 2).val - 1, i2.2⟩ ⟨?_, ?_⟩ ⟨?_, ?_⟩)
      · match a with
        | ⟨0, _⟩ =>
          show b.val * 1 + (((Shape.rowMajor ⟨3, ![1, 3, 3]⟩).symm n) 0).val - 0 = b.val
          omega
        | ⟨1, _⟩ => rfl
        | ⟨2, _⟩ => rfl
      · show r.val * 1 + (((Shape.rowMajor ⟨3, ![1, 3, 3]⟩).symm n) 1).val - 1 ≤ r.val + 1; omega
      · show r.val ≤ r.val * 1 + (((Shape.rowMajor ⟨3, ![1, 3, 3]⟩).symm n) 1).val - 1 + 1; omega
      · show c.val * 1 + (((Shape.rowMajor ⟨3, ![1, 3, 3]⟩).symm n) 2).val - 1 ≤ c.val + 1; omega
      · show c.val ≤ c.val * 1 + (((Shape.rowMajor ⟨3, ![1, 3, 3]⟩).symm n) 2).val - 1 + 1; omega
    · exact bot_le

open Cert.SelectReferenceIdeal Cert.SelectReferenceIdeal.Value in
/-- The reference's map of peaks, laid out in one line. -/
theorem reference_peaks (V0 : Valuation τ sig (Elt Idealize.ShloMosaic.Ideal)) (b : Fin 2) (q : Fin 16384) :
    res_main_v6 V0 (ix2 b q)
      = peaks (fun r c => V0 (Proc.devRef .tc main_arg0) (ix4 b 0 r c)) ⟨q.val / 128, by omega⟩ ⟨q.val % 128, by omega⟩ := by
  pointwise [res_main_v6, res_main_v0]
  refine peaks_of_max (fun r c => V0 (Proc.devRef .tc main_arg0) (ix4 b 0 r c)) ⟨q.val / 128, by omega⟩ ⟨q.val % 128, by omega⟩ _
    (fun z => (window_le _ _ _ _ (fun i => ?_) b _ _ z).trans ?_)
    (fun w => FloatOps.uitofp FTy.f32 (BitVec.ofBool w) : Bool → Idealize.ShloMosaic.Ideal .f32) ?_ ?_
  · exact ofBits_neg_inf
  · refine forall_congr' fun p => forall_congr' fun q' => ?_
    pointwise
  · simp [FloatOps.uitofp]
  · simp [FloatOps.uitofp]

/-- Peaks of a map above −∞ are above −∞. -/
theorem bot_lt_peaks (a : Fin 128 → Fin 128 → EReal) (ha : ∀ r c, ⊥ < a r c) (r c : Fin 128) : ⊥ < peaks a r c := by
  unfold peaks
  split
  · exact ha r c
  · exact EReal.bot_lt_zero

end Cert.Proof.Select
-- ==== Proof.Select.Rounds.lean ====
module

public import proofs.«01_k».proof.Proof.Select.Pick
public import proofs.«01_k».proof.Proof.Select.Peaks
public import Idealize.ShloMosaic.Lib.SortNet.Extract

/-!
# The sixty-four rounds of the kernel

A round of the kernel's loop finds the greatest entry of the map, takes the least position that
holds it, writes that position into the column of positions and puts −∞ in its place. So after `t`
rounds the map is `rest` and the column holds the first `t` picks.
-/

@[expose] public section

noncomputable section

namespace Cert.Proof.Select

open Idealize.ShloMosaic Cert.SelectIdeal Cert.SelectIdeal.Gen

/-- The flat position of row `r`, column `c`. -/
def flat (r c : Fin 128) : Fin 16384 := ⟨r.val * 128 + c.val, by omega⟩

theorem flat_injective {r c p q : Fin 128} (h : flat r c = flat p q) : r = p ∧ c = q := by
  have h := congrArg Fin.val h
  change r.val * 128 + c.val = p.val * 128 + q.val at h
  exact ⟨Fin.ext (by omega), Fin.ext (by omega)⟩

theorem exists_flat (k : Fin 16384) : ∃ r c, flat r c = k :=
  ⟨⟨k.val / 128, by omega⟩, ⟨k.val % 128, by omega⟩, Fin.ext (by show k.val / 128 * 128 + k.val % 128 = k.val; omega)⟩

theorem toInt_small (k : Nat) (h : k < 2 ^ 31) : (BitVec.ofNat 32 k).toInt = k := by
  rw [BitVec.toInt_eq_toNat_of_lt, BitVec.toNat_ofNat, Nat.mod_eq_of_lt (by omega)]
  rw [BitVec.toNat_ofNat, Nat.mod_eq_of_lt (by omega)]
  omega

theorem flat_word (r c : Fin 128) :
    IntOp.addi (IntOp.muli (BitVec.ofNat 32 r.val) 128#32) (BitVec.ofNat 32 c.val) = BitVec.ofNat 32 (flat r c).val := by
  show BitVec.ofNat 32 r.val * BitVec.ofNat 32 128 + BitVec.ofNat 32 c.val = BitVec.ofNat 32 (r.val * 128 + c.val)
  rw [← BitVec.ofNat_mul, ← BitVec.ofNat_add]

/-- The maximum over all entries is the entry at `best`. -/
theorem fold_max_eq (A : FVec Idealize.ShloMosaic.Ideal S128x128 .f32) (y : Fin 16384 → EReal) (hA : ∀ r c, A (ix2 r c) = y (flat r c)) :
    Finset.fold max (⊥ : EReal) (fun x : Fin 128 × Fin 128 => A (ix2 x.1 x.2)) Finset.univ = y (best y) := by
  refine le_antisymm ((Finset.fold_max_le _).mpr ⟨bot_le, fun x _ => ?_⟩) ((Finset.le_fold_max _).mpr (Or.inr ?_))
  · rw [hA]; exact le_best y _
  · obtain ⟨r, c, h⟩ := exists_flat (best y)
    exact ⟨(r, c), Finset.mem_univ _, le_of_eq (by rw [hA, h])⟩

/-- The least position among the words of a family is the word that is below all of them. -/
theorem fold_minsi_eq {ι : Type} (s : Finset ι) (f : ι → BitVec 32) (init w : BitVec 32) (hinit : w.toInt ≤ init.toInt)
    (hle : ∀ x ∈ s, w.toInt ≤ (f x).toInt) (hex : ∃ x ∈ s, f x = w) : Finset.fold IntOp.minsi init f s = w := by
  refine BitVec.eq_of_toInt_eq ?_
  have h := Finset.fold_hom (op := IntOp.minsi) (op' := min) (m := BitVec.toInt) (s := s) (b := init) (f := f) (fun x y => SortNet.toInt_minsi x y)
  rw [← h]
  refine le_antisymm ((Finset.fold_min_le _).mpr (Or.inr ?_)) ((Finset.le_fold_min _).mpr ⟨hinit, hle⟩)
  obtain ⟨x, hx, he⟩ := hex
  exact ⟨x, hx, le_of_eq (congrArg BitVec.toInt he)⟩

theorem round_word (A : FVec Idealize.ShloMosaic.Ideal S128x128 .f32) (y : Fin 16384 → EReal) (hA : ∀ r c, A (ix2 r c) = y (flat r c)) :
    Finset.fold IntOp.minsi (2147483647#32) (fun x : Fin 128 × Fin 128 =>
      if A (ix2 x.1 x.2) = Finset.fold max (Idealize.ShloMosaic.Ideal.ofBits FTy.f32 4286578688#32) (fun x : Fin 128 × Fin 128 => A (ix2 x.1 x.2)) Finset.univ then
        IntOp.addi (IntOp.muli (BitVec.ofNat 32 x.1.val) 128#32) (BitVec.ofNat 32 x.2.val) else 1073741824#32) Finset.univ
      = BitVec.ofNat 32 (best y).val := by
  rw [ofBits_neg_inf, fold_max_eq A y hA]
  have hb := (best y).isLt
  have hw : (BitVec.ofNat 32 (best y).val).toInt = (best y).val := toInt_small _ (by omega)
  refine fold_minsi_eq _ _ _ _ ?_ (fun x _ => ?_) ?_
  · rw [hw]
    have : (2147483647#32 : BitVec 32).toInt = 2147483647 := by decide
    omega
  · rw [hw]
    split
    · next h =>
      have hf := (flat x.1 x.2).isLt
      rw [flat_word, toInt_small _ (by omega)]
      exact_mod_cast best_le y _ ((hA x.1 x.2).symm.trans h)
    · have : (1073741824#32 : BitVec 32).toInt = 1073741824 := by decide
      omega
  · obtain ⟨r, c, h⟩ := exists_flat (best y)
    refine ⟨(r, c), Finset.mem_univ _, ?_⟩
    rw [if_pos (by rw [hA, h]), flat_word, h]

theorem cmpi_eq_word (a b : Nat) (ha : a < 2 ^ 31) (hb : b < 2 ^ 31) :
    IntOp.cmpi CmpIPredicate.eq (BitVec.ofNat 32 a) (BitVec.ofNat 32 b) = BitVec.ofBool (decide (a = b)) := by
  show BitVec.ofBool (BitVec.ofNat 32 a == BitVec.ofNat 32 b) = _
  congr 1
  by_cases h : a = b
  · subst h; simp
  · rw [decide_eq_false h]
    refine beq_eq_false_iff_ne.mpr fun he => h ?_
    have := congrArg BitVec.toInt he
    rw [toInt_small _ ha, toInt_small _ hb] at this
    exact_mod_cast this

theorem select_ofBool {α : Type} (b : Bool) (x y : α) : Scalar.select (BitVec.ofBool b) x y = if b then x else y := by
  cases b <;> rfl

theorem trips_eq : k0_t1_loop.trips = 64 := by decide +kernel

set_option maxRecDepth 1000000 in
/-- One round on the map. -/
theorem round_map (A : FVec Idealize.ShloMosaic.Ideal S128x128 .f32) (x : Fin 16384 → EReal) (t : Nat)
    (hA : ∀ r c, A (ix2 r c) = rest x t (flat r c)) (r c : Fin 128) :
    k0_pay7 A (ix2 r c) = rest x (t + 1) (flat r c) := by
  pointwise [k0_pay7, k0_pay4]
  rw [round_word A _ hA, flat_word]
  have hb := (best (rest x t)).isLt
  have hf := (flat r c).isLt
  rw [cmpi_eq_word _ _ (by omega) (by omega), select_ofBool, ofBits_neg_inf]
  show _ = if flat r c = best (rest x t) then ⊥ else rest x t (flat r c)
  by_cases h : flat r c = best (rest x t)
  · rw [if_pos h, if_pos (by simp [h])]
  · rw [if_neg h, if_neg (by simpa [Fin.ext_iff] using h), hA]

set_option maxRecDepth 1000000 in
/-- One round on the column of positions. -/
theorem round_column (A : FVec Idealize.ShloMosaic.Ideal S128x128 .f32) (I : IVec S64x1 32) (x : Fin 16384 → EReal) (t : Fin k0_t1_loop.trips)
    (hA : ∀ r c, A (ix2 r c) = rest x t.val (flat r c)) (j : Fin 64) :
    k0_pay6 t A I (ix2 j 0) = if j.val = t.val then BitVec.ofNat 32 (pick x t.val).val else I (ix2 j 0) := by
  pointwise [k0_pay6, k0_pay4]
  rw [round_word A _ hA]
  have ht : t.val < 64 := Nat.lt_of_lt_of_eq t.isLt trips_eq
  have hiv : Scf.iv 0#32 1#32 t.val = BitVec.ofNat 32 t.val := by
    unfold Scf.iv
    rw [BitVec.zero_add, BitVec.mul_one]
  rw [hiv, cmpi_eq_word _ _ (Nat.lt_trans j.isLt (by decide)) (Nat.lt_trans ht (by decide)), select_ofBool]
  simp only [decide_eq_true_eq]
  rfl

theorem column_step (A : FVec Idealize.ShloMosaic.Ideal S128x128 .f32) (I : IVec S64x1 32) (x : Fin 16384 → EReal) (t : Fin k0_t1_loop.trips)
    (hA : ∀ r c, A (ix2 r c) = rest x t.val (flat r c)) (hI : ∀ j : Fin 64, j.val < t.val → I (ix2 j 0) = BitVec.ofNat 32 (pick x j.val).val)
    (j : Fin 64) (hj : j.val < t.val + 1) : k0_pay6 t A I (ix2 j 0) = BitVec.ofNat 32 (pick x j.val).val := by
  rw [round_column A I x t hA j]
  by_cases he : j.val = t.val
  · rw [if_pos he, he]
  · rw [if_neg he]
    exact hI j (Nat.lt_of_le_of_ne (Nat.lt_succ_iff.mp hj) he)

/-- A fold over the trips of a pair of values keeps what each trip carries on. -/
theorem fold_pair {σ τ : Type} (n : Nat) (f : σ → σ) (g : Fin n → σ → τ → τ) (P : Nat → σ → Prop) (Q : Nat → τ → Prop)
    (hP : ∀ (t : Fin n) a, P t.val a → P (t.val + 1) (f a)) (hQ : ∀ (t : Fin n) a b, P t.val a → Q t.val b → Q (t.val + 1) (g t a b))
    (a : σ) (b : τ) (ha : P 0 a) (hb : Q 0 b) : Q n (Scf.fold (fun t s => (f s.1, g t s.1 s.2)) (a, b)).2 := by
  rw [Scf.fold_eq]
  have key : ∀ m (hm : m ≤ n), P m ((List.finRange m).foldl (fun s t => (f s.1, g (t.castLE hm) s.1 s.2)) (a, b)).1
      ∧ Q m ((List.finRange m).foldl (fun s t => (f s.1, g (t.castLE hm) s.1 s.2)) (a, b)).2 := by
    intro m
    induction m with
    | zero => intro _; exact ⟨ha, hb⟩
    | succ m ih =>
      intro hm
      rw [List.finRange_succ_last, List.foldl_append, List.foldl_map]
      have h := ih (by omega)
      exact ⟨hP (Fin.castLE hm (Fin.last m)) _ h.1, hQ (Fin.castLE hm (Fin.last m)) _ _ h.1 h.2⟩
  exact (key n le_rfl).2

/-- A map read off in one line. -/
def line (a : Fin 128 → Fin 128 → EReal) (k : Fin 16384) : EReal := a ⟨k.val / 128, by omega⟩ ⟨k.val % 128, by omega⟩

theorem line_flat (a : Fin 128 → Fin 128 → EReal) (r c : Fin 128) : line a (flat r c) = a r c := by
  unfold line flat
  congr 1 <;> exact Fin.ext (by dsimp only; omega)

/-- The column of positions the kernel's loop ends with. -/
def column (v0 : Vec Idealize.ShloMosaic.Ideal S1x1x128x128 .f32) : IVec S64x1 32 :=
  (Scf.fold (fun (a : Fin k0_t1_loop.trips) (s : FVec Idealize.ShloMosaic.Ideal S128x128 .f32 × IVec S64x1 32) =>
    (k0_pay7 s.1, k0_pay6 a s.1 s.2)) (k0_pay3 v0, k0_pay5)).2

/-- It holds the picks, in their order. -/
theorem column_eq (v0 : Vec Idealize.ShloMosaic.Ideal S1x1x128x128 .f32) (j : Fin 64) :
    column v0 (ix2 j 0) = BitVec.ofNat 32 (pick (line (peaks fun r c => v0 (ix4 0 0 r c))) j.val).val := by
  have h := fold_pair k0_t1_loop.trips k0_pay7 k0_pay6 (fun t A => ∀ r c, A (ix2 r c) = rest (line (peaks fun r c => v0 (ix4 0 0 r c))) t (flat r c))
    (fun t I => ∀ j : Fin 64, j.val < t → I (ix2 j 0) = BitVec.ofNat 32 (pick (line (peaks fun r c => v0 (ix4 0 0 r c))) j.val).val)
    (fun t A hA => round_map A _ t.val hA) (fun t A I hA hI => column_step A I _ t hA hI) (k0_pay3 v0) k0_pay5
    (fun r c => (kernel_peaks v0 r c).trans (line_flat _ r c).symm) (fun j hj => absurd hj (Nat.not_lt_zero _))
  exact h j (Nat.lt_of_lt_of_eq j.isLt trips_eq.symm)

end Cert.Proof.Select
-- ==== Proof.Select.Chosen.lean ====
module

public import proofs.«01_k».proof.Proof.Select.Rounds

/-!
# The positions the reference takes

The reference sorts each image's map of peaks, greatest first, and keeps the first sixty-four
positions. On a map above −∞ these are the picks of the kernel's rounds.
-/

@[expose] public section

noncomputable section

namespace Cert.Proof.Select

open Idealize.ShloMosaic Cert.SelectReferenceIdeal Cert.SelectReferenceIdeal.Value

variable (V0 : Valuation τ sig (Elt Idealize.ShloMosaic.Ideal))

/-- The map of peaks of image `b`, in one line. -/
def heights (b : Fin 2) : Fin 16384 → EReal := line (peaks fun r c => V0 (Proc.devRef .tc main_arg0) (ix4 b 0 r c))

theorem heights_eq (b : Fin 2) (q : Fin 16384) : res_main_v6 V0 (ix2 b q) = heights V0 b q := reference_peaks V0 b q

theorem bot_lt_heights (h : ∀ i, (⊥ : EReal) < V0 (Proc.devRef .tc main_arg0) i) (b : Fin 2) (q : Fin 16384) : ⊥ < heights V0 b q :=
  bot_lt_peaks _ (fun r c => h (ix4 b 0 r c)) _ _

theorem along_eq (b : Fin 2) (k k' : Fin 16384) : Shape.Idx.along (s := S2x16384) (ix2 b k) 1 k' = ix2 b k' := by
  funext a
  match a with
  | ⟨0, _⟩ => rfl
  | ⟨1, _⟩ => rfl

/-- The second result of the reference's top-`k`, read at image `b` and place `t`. -/
theorem topK_index (x : S2x16384.Idx → EReal) (gt : EReal → EReal → BitVec 1) (h : S2x16384.Slices (fun _ => 0) S2x64) (b : Fin 2) (t : Fin 64) :
    (Host.topK S2x64 1 gt x h).2 (ix2 b t)
      = BitVec.ofNat 32 (sortedFrom (fun k k' : Fin 16384 => gt (x (ix2 b k)) (x (ix2 b k')) == 1#1) (t.castLE (by decide))).val := by
  have hcol : ∀ k : Fin 16384, Shape.Idx.along (s := S2x16384) (ix2 b (t.castLE (by decide))) 1 k = ix2 b k := along_eq b _
  have hsl : ∀ y : IVec S2x16384 32, extractStridedSlice S2x64 (fun _ => 0) y h (ix2 b t) = y (ix2 b (t.castLE (by decide))) := fun y => by
    refine congrArg y (funext fun a => Fin.ext ?_)
    match a with
    | ⟨0, _⟩ => exact Nat.zero_add _
    | ⟨1, _⟩ => exact Nat.zero_add _
  unfold Host.topK
  dsimp only
  rw [hsl]
  unfold Host.sort2
  rw [dif_pos (show 1 < S2x16384.rank by decide)]
  dsimp only
  rw [dif_pos (show 1 < S2x16384.rank by decide)]
  have hw : ∀ k : Fin 16384, iotaInDim S2x16384 32 1 (Shape.Idx.along (s := S2x16384) (ix2 b (t.castLE (by decide))) 1 k) = BitVec.ofNat 32 k.val :=
    fun k => by rw [hcol]; rfl
  refine (hw _).trans ?_
  refine congrArg (fun f : Fin 16384 → Fin 16384 → Bool => BitVec.ofNat 32 (sortedFrom f (t.castLE (by decide))).val) (funext fun k => funext fun k' => ?_)
  exact congrArg₂ (fun p q => gt (x p) (x q) == 1#1) (hcol k) (hcol k')

theorem index_eq (h : ∀ i, (⊥ : EReal) < V0 (Proc.devRef .tc main_arg0) i) (b : Fin 2) (t : Fin 64) :
    res_main_indices V0 (ix2 b t) = BitVec.ofNat 32 (pick (heights V0 b) t.val).val := by
  rw [← sortedFrom_eq_pick (heights V0 b) (bot_lt_heights V0 h b) (k := 64) (by decide) t]
  unfold res_main_indices
  refine (topK_index (res_main_v6 V0) _ _ b t).trans ?_
  refine congrArg (fun f : Fin 16384 → Fin 16384 → Bool => BitVec.ofNat 32 (sortedFrom f (t.castLE (by decide))).val) (funext fun k => funext fun k' => ?_)
  rw [heights_eq, heights_eq]
  show (BitVec.ofBool (decide (heights V0 b k' < heights V0 b k)) == 1#1) = _
  cases decide (heights V0 b k' < heights V0 b k) <;> rfl

end Cert.Proof.Select
-- ==== Proof.Select.Spots.lean ====
module

public import proofs.«01_k».proof.Proof.Select.Chosen

/-!
# The picked points

A picked position `k` stands for the point at row `k / 128`, column `k % 128`, moved by the offset
there and by a half. The kernel takes quotient and remainder with corrections for negative words that
do not apply here, and reads the offset by two products with rows that are one at one place. The
reference takes the same quotient and remainder and gathers the offset.
-/

@[expose] public section

set_option maxRecDepth 20000

noncomputable section

namespace Cert.Proof.Select

open Idealize.ShloMosaic
open scoped BigOperators

/-- The row or the column of a position. -/
def coord (k : Fin 16384) (d : Fin 2) : Nat := if d.val < 1 then k.val / 128 else k.val % 128

/-- The point a position stands for, given the offsets. -/
def spot (jo : Fin 2 → Fin 128 → Fin 128 → EReal) (k : Fin 16384) (d : Fin 2) : EReal :=
  (FloatOps.sitofp (F := Idealize.ShloMosaic.Ideal) .f32 (BitVec.ofNat 32 (coord k d)) : EReal)
    + jo d ⟨k.val / 128, by omega⟩ ⟨k.val % 128, by omega⟩ + Idealize.ShloMosaic.Ideal.ofBits .f32 1056964608#32

/-- The word of an equality of two small numbers, as a number. -/
theorem hot_word (a b : Nat) (ha : a < 2 ^ 31) (hb : b < 2 ^ 31) :
    (FloatOps.sitofp (F := Idealize.ShloMosaic.Ideal) .f32 (BitVec.setWidth 32 (IntOp.cmpi CmpIPredicate.eq (BitVec.ofNat 32 a) (BitVec.ofNat 32 b))) : EReal)
      = if a = b then 1 else 0 := by
  rw [cmpi_eq_word a b ha hb]
  by_cases h : a = b
  · rw [if_pos h, decide_eq_true h]; simp [FloatOps.sitofp]
  · rw [if_neg h, decide_eq_false h]; simp [FloatOps.sitofp]

/-- A product with a row that is one at one place reads there. -/
theorem sum_hot {n : Nat} (w f : Fin n → EReal) (p : Fin n) (hw : ∀ x, w x = if p.val = x.val then 1 else 0) : ∑ x, w x * f x = f p := by
  rw [Finset.sum_eq_single p]
  · rw [hw, if_pos rfl, one_mul]
  · intro x _ hx
    rw [hw, if_neg (fun h => hx (Fin.ext h.symm)), zero_mul]
  · exact fun h => absurd (Finset.mem_univ p) h

theorem quotient_word : ∀ k : Fin 16384, Scalar.select
      (IntOp.andi
        (IntOp.cmpi CmpIPredicate.ne
          (IntOp.subi (BitVec.setWidth 32 (IntOp.cmpi CmpIPredicate.sgt (BitVec.ofNat 32 k.val) 0#32))
            (BitVec.setWidth 32 (IntOp.cmpi CmpIPredicate.slt (BitVec.ofNat 32 k.val) 0#32)))
          (Scalar.subi (1#32) (Scalar.extui 0#1)))
        (IntOp.cmpi CmpIPredicate.ne (IntOp.remsi ArithUnit.vector (BitVec.ofNat 32 k.val) 128#32) 0#32))
      (IntOp.subi (IntOp.divsi ArithUnit.vector (BitVec.ofNat 32 k.val) 128#32) 1#32)
      (IntOp.divsi ArithUnit.vector (BitVec.ofNat 32 k.val) 128#32) = BitVec.ofNat 32 (k.val / 128) := by
  decide +kernel

theorem remainder_word : ∀ k : Fin 16384, Scalar.select
      (IntOp.andi
        (IntOp.xori
          (IntOp.cmpi CmpIPredicate.slt
            (IntOp.remsi ArithUnit.vector (BitVec.ofNat 32 k.val)
              (Scalar.select (Scalar.cmpi CmpIPredicate.eq 128#32 0#32) 1#32 128#32))
            0#32)
          (Scalar.cmpi CmpIPredicate.slt (Scalar.select (Scalar.cmpi CmpIPredicate.eq 128#32 0#32) 1#32 128#32) 0#32))
        (IntOp.cmpi CmpIPredicate.ne
          (IntOp.remsi ArithUnit.vector (BitVec.ofNat 32 k.val)
            (Scalar.select (Scalar.cmpi CmpIPredicate.eq 128#32 0#32) 1#32 128#32))
          0#32))
      (IntOp.addi
        (IntOp.remsi ArithUnit.vector (BitVec.ofNat 32 k.val)
          (Scalar.select (Scalar.cmpi CmpIPredicate.eq 128#32 0#32) 1#32 128#32))
        (Scalar.select (Scalar.cmpi CmpIPredicate.eq 128#32 0#32) 1#32 128#32))
      (IntOp.remsi ArithUnit.vector (BitVec.ofNat 32 k.val)
        (Scalar.select (Scalar.cmpi CmpIPredicate.eq 128#32 0#32) 1#32 128#32)) = BitVec.ofNat 32 (k.val % 128) := by
  decide +kernel

section Kernel

open Cert.SelectIdeal Cert.SelectIdeal.Gen

variable (col : IVec S64x1 32) (r : Fin 64) (k : Fin 16384) (hk : col (ix2 r 0) = BitVec.ofNat 32 k.val)

/-- The kernel's row of each picked position. -/
abbrev rowWord : IVec S64x1 32 := k0_pay10 col 128#32 (k0_pay8 col) (k0_pay9 col) 1#32 0#1

include hk

theorem rowWord_eq : rowWord col (ix2 r 0) = BitVec.ofNat 32 (k.val / 128) := by
  pointwise [rowWord, k0_pay10, k0_pay8, k0_pay9]
  rw [hk]
  exact quotient_word k

theorem colWord_eq : k0_pay11 col (ix2 r 0) = BitVec.ofNat 32 (k.val % 128) := by
  pointwise [k0_pay11]
  rw [hk]
  exact remainder_word k

/-- The kernel's picked points. -/
theorem kernel_spot (v79 v81 : FVec Idealize.ShloMosaic.Ideal S128x128 .f32) (d : Fin 2) :
    k0_pay16 (F := Idealize.ShloMosaic.Ideal) (rowWord col) (k0_pay11 col) (k0_pay12 col 128#32 (k0_pay8 col) (k0_pay9 col) 1#32 0#1) (k0_pay13 col) v79 v81
        (constant S64x128 .f32 0x00000000#32) (ix2 r d)
      = spot (fun d p q => if d.val < 1 then v79 (ix2 p q) else v81 (ix2 p q)) k d := by
  have hr : ∀ x : Fin 128, k0_pay12 (F := Idealize.ShloMosaic.Ideal) col 128#32 (k0_pay8 col) (k0_pay9 col) 1#32 0#1 (ix2 r x)
      = if (⟨k.val / 128, by omega⟩ : Fin 128).val = x.val then (1 : EReal) else 0 := fun x => by
    pointwise [k0_pay12]
    rw [show k0_pay10 col (128#32) (k0_pay8 col) (k0_pay9 col) (1#32) (0#1) (ix2 r 0) = _ from rowWord_eq col r k hk]
    exact hot_word _ _ (by omega) (by omega)
  have hc : ∀ x : Fin 128, k0_pay13 (F := Idealize.ShloMosaic.Ideal) col (ix2 r x)
      = if (⟨k.val % 128, by omega⟩ : Fin 128).val = x.val then (1 : EReal) else 0 := fun x => by
    pointwise [k0_pay13]
    rw [colWord_eq col r k hk]
    exact hot_word _ _ (by omega) (by omega)
  have hsum : ∀ v : FVec Idealize.ShloMosaic.Ideal S128x128 .f32,
      ∑ x : Fin 128, (∑ x_1 : Fin 128, k0_pay12 (F := Idealize.ShloMosaic.Ideal) col 128#32 (k0_pay8 col) (k0_pay9 col) 1#32 0#1 (ix2 r x_1) * v (ix2 x_1 x))
        * k0_pay13 (F := Idealize.ShloMosaic.Ideal) col (ix2 r x) = v (ix2 ⟨k.val / 128, by omega⟩ ⟨k.val % 128, by omega⟩) := fun v => by
    simp only [sum_hot _ _ _ hr, mul_comm _ (k0_pay13 (F := Idealize.ShloMosaic.Ideal) col _)]
    exact sum_hot _ _ _ hc
  pointwise [k0_pay16]
  unfold spot coord
  have hd := d.isLt
  by_cases h : d.val < 1
  · rw [dif_pos h, if_pos h]
    dsimp only
    rw [if_pos h, hsum]
    exact congrArg (fun w => FloatOps.sitofp (F := Idealize.ShloMosaic.Ideal) .f32 w + v79 (ix2 ⟨k.val / 128, by omega⟩ ⟨k.val % 128, by omega⟩)
      + Idealize.ShloMosaic.Ideal.ofBits .f32 1056964608#32) ((congrArg (fun z => rowWord col (ix2 r z)) (Subsingleton.elim _ _)).trans (rowWord_eq col r k hk))
  · rw [dif_neg h, if_neg h]
    dsimp only
    rw [if_neg h, hsum]
    exact congrArg (fun w => FloatOps.sitofp (F := Idealize.ShloMosaic.Ideal) .f32 w + v81 (ix2 ⟨k.val / 128, by omega⟩ ⟨k.val % 128, by omega⟩)
      + Idealize.ShloMosaic.Ideal.ofBits .f32 1056964608#32) ((congrArg (fun z => k0_pay11 col (ix2 r z)) (Subsingleton.elim _ _)).trans (colWord_eq col r k hk))

end Kernel

end Cert.Proof.Select
-- ==== Proof.Select.Gathered.lean ====
module

public import proofs.«01_k».proof.Proof.Select.Spots

/-!
# The reference's points

The reference reads its offsets at the picked positions by a gather guarded by a range check that
always holds, and reads the two ends of a line by a second gather along the table of pairs.
-/

@[expose] public section

set_option maxRecDepth 20000

noncomputable section

namespace Cert.Proof.Select

open Idealize.ShloMosaic Cert.SelectReferenceIdeal Cert.SelectReferenceIdeal.Value

theorem fold_andi_one {ι : Type} (s : Finset ι) (f : ι → BitVec 1) (hf : ∀ x, f x = 1#1) : Finset.fold IntOp.andi 1#1 f s = 1#1 := by
  classical
  induction s using Finset.induction_on with
  | empty => rfl
  | insert a s ha ih => rw [Finset.fold_insert ha, ih, hf]; rfl

/-- The gather along a line, image by image. -/
theorem gather_line {α : Type} (X : S2x16384.Idx → α) (I : S2x64x1.Idx → BitVec 32) (b : Fin 2) (r : Fin 64) (k : Fin 16384)
    (hI : I (ix3 b r 0) = BitVec.ofNat 32 k.val) :
    Host.gather gather_S2x16384_S2x64x1_S2x64_n_1_0_0_1_2_11 X I (ix2 b r) = X (ix2 b k) := by
  have hk : min (I (ix3 b r 0)).toInt.toNat 16383 = k.val := by
    rw [hI, toInt_small _ (by omega)]
    omega
  unfold Host.gather
  congr 1
  funext a
  refine Fin.ext ?_
  have h01 : a = 0 ∨ a = 1 := by
    match a with
    | ⟨0, _⟩ => exact Or.inl rfl
    | ⟨1, _⟩ => exact Or.inr rfl
  rcases h01 with rfl | rfl
  · show GatherDims.start _ _ _ _ + GatherDims.batchCoord _ _ _ + GatherDims.offCoord _ _ _ = b.val
    unfold GatherDims.start GatherDims.batchCoord GatherDims.offCoord
    rw [dif_neg (by decide), dif_pos (by decide), dif_neg (by decide)]
    show 0 + b.val + 0 = b.val
    omega
  · show GatherDims.start _ _ _ _ + GatherDims.batchCoord _ _ _ + GatherDims.offCoord _ _ _ = k.val
    rw [GatherDims.batchCoord_eq_zero _ _ _ (by decide), GatherDims.offCoord_eq_zero _ _ _ (by decide)]
    unfold GatherDims.start
    rw [dif_pos (by decide)]
    refine Eq.trans ?_ hk
    refine congrArg (fun z => min (I z).toInt.toNat 16383) (funext fun b => Fin.ext ?_)
    match b with
    | ⟨0, _⟩ => rfl
    | ⟨1, _⟩ => rfl
    | ⟨2, _⟩ => rfl

/-- The gather of points along a table of places. -/
theorem gather_points {α : Type} (X : S2x64x2.Idx → α) (I : S2016x1.Idx → BitVec 32) (b : Fin 2) (l : Fin 2016) (d : Fin 2) (j : Fin 64)
    (hI : I (ix2 l 0) = BitVec.ofNat 32 j.val) :
    Host.gather gather_S2x64x2_S2016x1_S2x2016x2_02_1_n_n_1_1_212 X I (ix3 b l d) = X (ix3 b j d) := by
  have hj : min (I (ix2 l 0)).toInt.toNat 63 = j.val := by
    rw [hI, toInt_small _ (by omega)]
    omega
  unfold Host.gather
  congr 1
  funext a
  refine Fin.ext ?_
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · show GatherDims.start _ _ _ _ + GatherDims.batchCoord _ _ _ + GatherDims.offCoord _ _ _ = b.val
    rw [GatherDims.batchCoord_eq_zero _ _ _ (show _ ∉ ([] : List (Fin 3)) from List.not_mem_nil)]
    unfold GatherDims.start GatherDims.offCoord
    rw [dif_neg (by decide), dif_pos (by decide)]
    show 0 + 0 + b.val = b.val
    omega
  · show GatherDims.start _ _ _ _ + GatherDims.batchCoord _ _ _ + GatherDims.offCoord _ _ _ = j.val
    rw [GatherDims.batchCoord_eq_zero _ _ _ (show _ ∉ ([] : List (Fin 3)) from List.not_mem_nil), GatherDims.offCoord_eq_zero _ _ _ (by decide)]
    unfold GatherDims.start
    rw [dif_pos (by decide)]
    refine Eq.trans ?_ hj
    refine congrArg (fun z => min (I z).toInt.toNat 63) (funext fun b => Fin.ext ?_)
    match b with
    | ⟨0, _⟩ => rfl
    | ⟨1, _⟩ => rfl
  · show GatherDims.start _ _ _ _ + GatherDims.batchCoord _ _ _ + GatherDims.offCoord _ _ _ = d.val
    rw [GatherDims.batchCoord_eq_zero _ _ _ (show _ ∉ ([] : List (Fin 3)) from List.not_mem_nil)]
    unfold GatherDims.start GatherDims.offCoord
    rw [dif_neg (by decide), dif_pos (by decide)]
    show 0 + 0 + d.val = d.val
    omega

/-- The sign of a word, as the reference takes it. -/
abbrev signOf (w : BitVec 32) : BitVec 32 := if w = 0 then 0 else if BitVec.msb w = true then -1 else 1

theorem host_quotient : ∀ k : Fin 16384, Scalar.select
      (IntOp.andi (IntOp.cmpi CmpIPredicate.ne (signOf (BitVec.ofNat 32 k.val)) (signOf 128#32))
        (IntOp.cmpi CmpIPredicate.ne (IntOp.remsi ArithUnit.host (BitVec.ofNat 32 k.val) 128#32) 0#32))
      (IntOp.subi (IntOp.divsi ArithUnit.host (BitVec.ofNat 32 k.val) 128#32) 1#32)
      (IntOp.divsi ArithUnit.host (BitVec.ofNat 32 k.val) 128#32) = BitVec.ofNat 32 (k.val / 128) := by
  decide +kernel

theorem host_remainder : ∀ k : Fin 16384, Scalar.select
      (IntOp.andi
        (IntOp.cmpi CmpIPredicate.ne
          (IntOp.cmpi CmpIPredicate.slt (IntOp.remsi ArithUnit.host (BitVec.ofNat 32 k.val) (Scalar.select (IntOp.cmpi CmpIPredicate.eq 128#32 0#32) 1#32 128#32)) 0#32)
          (IntOp.cmpi CmpIPredicate.slt (Scalar.select (IntOp.cmpi CmpIPredicate.eq 128#32 0#32) 1#32 128#32) 0#32))
        (IntOp.cmpi CmpIPredicate.ne (IntOp.remsi ArithUnit.host (BitVec.ofNat 32 k.val) (Scalar.select (IntOp.cmpi CmpIPredicate.eq 128#32 0#32) 1#32 128#32)) 0#32))
      (IntOp.addi (IntOp.remsi ArithUnit.host (BitVec.ofNat 32 k.val) (Scalar.select (IntOp.cmpi CmpIPredicate.eq 128#32 0#32) 1#32 128#32))
        (Scalar.select (IntOp.cmpi CmpIPredicate.eq 128#32 0#32) 1#32 128#32))
      (IntOp.remsi ArithUnit.host (BitVec.ofNat 32 k.val) (Scalar.select (IntOp.cmpi CmpIPredicate.eq 128#32 0#32) 1#32 128#32))
      = BitVec.ofNat 32 (k.val % 128) := by
  decide +kernel

/-- A position's word wrapped if negative: itself. -/
theorem wrapped : ∀ k : Fin 16384, Scalar.select (IntOp.cmpi CmpIPredicate.slt (BitVec.ofNat 32 k.val) 0#32) (IntOp.addi (BitVec.ofNat 32 k.val) 16384#32) (BitVec.ofNat 32 k.val)
    = BitVec.ofNat 32 k.val := by
  decide +kernel

theorem within : ∀ k : Fin 16384, IntOp.andi (IntOp.cmpi CmpIPredicate.sge (BitVec.ofNat 32 k.val) 0#32) (IntOp.cmpi CmpIPredicate.sle (BitVec.ofNat 32 k.val) 16383#32) = 1#1 := by
  decide +kernel

end Cert.Proof.Select
-- ==== Proof.Select.Ends.lean ====
module

public import proofs.«01_k».proof.Proof.Select.Gathered
public import proofs.«01_k».proof.Proof.Gen.Pre_selects
public import Idealize.ShloMosaic.Lib.ReduceAll
public import Idealize.ShloMosaic.Lib.Routing.Ops

/-!
# The ends of the lines

A line runs from one picked point to another; which two is a fixed table of pairs. The kernel reads the
ends by products with selection matrices, which the precondition says are the table's. The reference
gathers them.
-/

@[expose] public section

set_option maxRecDepth 20000

noncomputable section

namespace Cert.Proof.Select

open Idealize.ShloMosaic
open scoped BigOperators

/-- The first point of each pair. -/
def first (l : Fin 2016) : Fin 64 := ⟨(Cert.SelectReferenceIdeal.lit0 l).toNat % 64, Nat.mod_lt _ (by decide)⟩

/-- The second point of each pair. -/
def second (l : Fin 2016) : Fin 64 := ⟨(Cert.SelectReferenceIdeal.lit1 l).toNat % 64, Nat.mod_lt _ (by decide)⟩

theorem table_first : ∀ l : Fin 2016, Cert.SelectReferenceIdeal.lit0 l = BitVec.ofNat 32 ((Cert.SelectReferenceIdeal.lit0 l).toNat % 64)
    ∧ Cert.Pre_selects.lit0 l = BitVec.ofNat 32 ((Cert.SelectReferenceIdeal.lit0 l).toNat % 64) := by decide +kernel

theorem table_second : ∀ l : Fin 2016, Cert.SelectReferenceIdeal.lit1 l = BitVec.ofNat 32 ((Cert.SelectReferenceIdeal.lit1 l).toNat % 64)
    ∧ Cert.Pre_selects.lit1 l = BitVec.ofNat 32 ((Cert.SelectReferenceIdeal.lit1 l).toNat % 64) := by decide +kernel

/-- A place's word, wrapped if negative, as the reference takes it. -/
abbrev wrap (w : BitVec 32) : BitVec 32 := Scalar.select (IntOp.cmpi CmpIPredicate.slt w 0#32) (IntOp.addi w 64#32) w

theorem wrapped_first : ∀ l : Fin 2016, wrap (Cert.SelectReferenceIdeal.lit0 l) = BitVec.ofNat 32 (first l).val := by decide +kernel

theorem wrapped_second : ∀ l : Fin 2016, wrap (Cert.SelectReferenceIdeal.lit1 l) = BitVec.ofNat 32 (second l).val := by decide +kernel

/-- The place of an index of a line of 2016. -/
theorem row_of (l : Fin 2016) : Cert.SelectReferenceIdeal.S2016.rowMajor (ix1 l) = l.cast (Routing.numel1 2016).symm := by
  rw [Equiv.apply_eq_iff_eq_symm_apply, Routing.symm1]
  rfl

/-- A picked index passes the range check. -/
theorem checked (w : BitVec 32) (k : Fin 16384) (hw : w = BitVec.ofNat 32 k.val) :
    IntOp.andi (IntOp.cmpi CmpIPredicate.sge (Scalar.select (IntOp.cmpi CmpIPredicate.slt w 0#32) (IntOp.addi w 16384#32) w) 0#32)
      (IntOp.cmpi CmpIPredicate.sle (Scalar.select (IntOp.cmpi CmpIPredicate.slt w 0#32) (IntOp.addi w 16384#32) w) 16383#32) = 1#1 := by
  rw [hw, wrapped]
  exact within k

section Reference

open Cert.SelectReferenceIdeal Cert.SelectReferenceIdeal.Value

variable (V0 : Valuation τ sig (Elt Idealize.ShloMosaic.Ideal))

/-- The offsets of image `b`. -/
def offsets (b : Fin 2) (d : Fin 2) (p q : Fin 128) : EReal := V0 (Proc.devRef .tc main_arg1) (ix5 b 0 d p q)

/-- The point of image `b` picked in round `j`. -/
def point (b : Fin 2) (j : Fin 64) (d : Fin 2) : EReal := spot (offsets V0 b) (pick (heights V0 b) j.val) d

variable (h : ∀ i, (⊥ : EReal) < V0 (Proc.devRef .tc main_arg0) i)

include h

/-- The range check holds. -/
theorem guard_one (b : Fin 2) (r : Fin 64) (s : Finset S2x64x1.Idx) : Finset.fold IntOp.andi (1#1)
      (fun x => IntOp.andi
        (IntOp.cmpi CmpIPredicate.sge
          (Scalar.select (IntOp.cmpi CmpIPredicate.slt (res_main_indices V0 (ix2 (x 0) (x 1))) 0#32)
            (IntOp.addi (res_main_indices V0 (ix2 (x 0) (x 1))) 16384#32) (res_main_indices V0 (ix2 (x 0) (x 1)))) 0#32)
        (IntOp.cmpi CmpIPredicate.sle
          (Scalar.select (IntOp.cmpi CmpIPredicate.slt (res_main_indices V0 (ix2 (x 0) (x 1))) 0#32)
            (IntOp.addi (res_main_indices V0 (ix2 (x 0) (x 1))) 16384#32) (res_main_indices V0 (ix2 (x 0) (x 1)))) 16383#32)) s = 1#1 := by
  refine fold_andi_one _ _ fun x => ?_
  have hx : res_main_indices V0 (ix2 (x 0) (x 1)) = BitVec.ofNat 32 (pick (heights V0 (x 0)) (x 1).val).val := index_eq V0 h (x 0) (x 1)
  exact checked _ _ hx

/-- A guarded gather of offsets. -/
theorem guarded (b : Fin 2) (r : Fin 64) (g : BitVec 1) (hg : g = 1#1) (X : S2x16384.Idx → EReal) (I : S2x64x1.Idx → BitVec 32) (z : EReal)
    (hI : I (ix3 b r 0) = Scalar.select (IntOp.cmpi CmpIPredicate.slt (res_main_indices V0 (ix2 b r)) 0#32)
            (IntOp.addi (res_main_indices V0 (ix2 b r)) 16384#32) (res_main_indices V0 (ix2 b r))) :
    Scalar.select g (Host.gather gather_S2x16384_S2x64x1_S2x64_n_1_0_0_1_2_11 X I (ix2 b r)) z = X (ix2 b (pick (heights V0 b) r.val)) := by
  rw [hg, gather_line X I b r (pick (heights V0 b) r.val) (by rw [hI, index_eq V0 h, wrapped])]
  rfl

theorem reference_point (b : Fin 2) (r : Fin 64) (d : Fin 2) : res_main_v26 V0 (ix3 b r d) = point V0 b r d := by
  unfold point spot offsets
  pointwise [res_main_v26, res_main_call0_v0, res_main_call0_v2, res_main_call1_v5, res_main_call2_v0, res_main_call2_v2, res_main_call2_v4, res_main_call3_v5, res_main_v7]
  have hi := index_eq V0 h b r
  split
  · next hd =>
    obtain rfl : d = 0 := Fin.ext (by simpa using hd)
    refine congrArg₂ (fun w g => FloatOps.sitofp .f32 w + g + Ideal.ofBits .f32 1056964608#32) ?_ ?_
    · rw [hi]
      exact (host_quotient (pick (heights V0 b) r.val)).trans (congrArg (BitVec.ofNat 32) (show _ = coord (pick (heights V0 b) r.val) 0 from (if_pos hd).symm))
    · refine (guarded V0 h b r _ (guard_one V0 h b r _) _ _ _ ?_).trans ?_
      · change shapeCast S2x64x1 _ _ _ = _
        pointwise
      · change shapeCast S2x16384 (extractStridedSlice S2x1x16384 _ (shapeCast S2x2x16384 _ _) _) _ _ = _
        pointwise
  · next hd =>
    obtain rfl : d = 1 := Fin.ext (by have := d.isLt; simp at hd ⊢; omega)
    refine congrArg₂ (fun w g => FloatOps.sitofp .f32 w + g + Ideal.ofBits .f32 1056964608#32) ?_ ?_
    · rw [hi]
      exact (host_remainder (pick (heights V0 b) r.val)).trans (congrArg (BitVec.ofNat 32) (show _ = coord (pick (heights V0 b) r.val) 1 from (if_neg hd).symm))
    · refine (guarded V0 h b r _ (guard_one V0 h b r _) _ _ _ ?_).trans ?_
      · change shapeCast S2x64x1 _ _ _ = _
        pointwise
      · change shapeCast S2x16384 (extractStridedSlice S2x1x16384 _ (shapeCast S2x2x16384 _ _) _) _ _ = _
        pointwise

/-- The first end of line `l`. -/
theorem reference_first (b : Fin 2) (l : Fin 2016) (d : Fin 2) : res_main_v33 V0 (ix3 b l d) = point V0 b (first l) d := by
  unfold res_main_v33
  refine (gather_points _ _ b l d (first l) ?_).trans (reference_point V0 h b (first l) d)
  change broadcastInDim S2016x1 _ _ _ _ = _
  pointwise [res_main_c]
  exact (congrArg (fun n => wrap (Cert.SelectReferenceIdeal.lit0 n)) (row_of l)).trans (wrapped_first l)

/-- The second end of line `l`. -/
theorem reference_second (b : Fin 2) (l : Fin 2016) (d : Fin 2) : res_main_v40 V0 (ix3 b l d) = point V0 b (second l) d := by
  unfold res_main_v40
  refine (gather_points _ _ b l d (second l) ?_).trans (reference_point V0 h b (second l) d)
  change broadcastInDim S2016x1 _ _ _ _ = _
  pointwise [res_main_c_0]
  exact (congrArg (fun n => wrap (Cert.SelectReferenceIdeal.lit1 n)) (row_of l)).trans (wrapped_second l)

end Reference

section Precondition

open Cert.Pre_selects

/-- The bit of an equality of two small numbers, as a number. -/
theorem hot_bit (a b : Nat) (ha : a < 2 ^ 31) (hb : b < 2 ^ 31) :
    (FloatOps.uitofp (F := Idealize.ShloMosaic.Ideal) .f32 (IntOp.cmpi CmpIPredicate.eq (BitVec.ofNat 32 a) (BitVec.ofNat 32 b)) : EReal)
      = if a = b then 1 else 0 := by
  rw [cmpi_eq_word a b ha hb]
  by_cases h : a = b
  · rw [if_pos h, decide_eq_true h]
    show (((1 : Nat) : ℝ) : EReal) = 1
    norm_num
  · rw [if_neg h, decide_eq_false h]
    show (((0 : Nat) : ℝ) : EReal) = 0
    norm_num

/-- An entry of a selection matrix. -/
abbrev hot (w : BitVec 32) (k : Fin 64) : EReal :=
  FloatOps.uitofp (F := Idealize.ShloMosaic.Ideal) .f32 (IntOp.cmpi CmpIPredicate.eq w (BitVec.ofNat 32 k.val))

theorem ofBool_true {b : Bool} (h : BitVec.ofBool b = 1#1) : b = true := by
  revert h
  cases b <;> decide

theorem of_equal {s : Shape} {a b : FVec Idealize.ShloMosaic.Ideal s .f32} {i : s.Idx} (e : cmpf .oeq a b i = 1#1) : a i = b i := by
  have e6 : BitVec.ofBool (decide ((a i : EReal) = b i)) = 1#1 := e
  exact of_decide_eq_true (ofBool_true e6)

/-- What the precondition says: the map's entries are above −∞, and the matrices select the ends. -/
theorem of_selects (a0 : FVec Idealize.ShloMosaic.Ideal S2x1x128x128 .f32) (a1 : FVec Idealize.ShloMosaic.Ideal S2x1x2x128x128 .f32)
    (a2 a3 : FVec Idealize.ShloMosaic.Ideal S2016x64 .f32) (e : fn (F := Idealize.ShloMosaic.Ideal) a0 a1 a2 a3 = fun _ => 1#1) :
    (∀ i, (⊥ : EReal) < a0 i) ∧ (∀ l k, a2 (ix2 l k) = if (first l).val = k.val then (1 : EReal) else 0)
      ∧ (∀ l k, a3 (ix2 l k) = if (second l).val = k.val then (1 : EReal) else 0) := by
  have e0 := congrFun e (fun i => i.elim0)
  unfold fn fn_part1 at e0
  dsimp only at e0
  obtain ⟨e1, e4⟩ := IntOp.andi_eq_one.1 e0
  obtain ⟨e2, e3⟩ := IntOp.andi_eq_one.1 e1
  refine ⟨fun i => ?_, fun l k => ?_, fun l k => ?_⟩
  · have e6 : BitVec.ofBool (decide ((Idealize.ShloMosaic.Ideal.ofBits .f32 4286578688#32 : EReal) < a0 i)) = 1#1 :=
      Host.reduce_andi_all _ _ _ _ _ e2 i
    rw [ofBits_neg_inf] at e6
    exact of_decide_eq_true (ofBool_true e6)
  · refine (of_equal (Host.reduce_andi_all _ _ _ _ _ e3 (ix2 l k))).trans ?_
    pointwise
    refine (congrArg (fun n => hot (Cert.Pre_selects.lit0 n) k) (row_of l)).trans ?_
    exact (congrArg (hot · k) (table_first l).2).trans (hot_bit _ _ (Nat.lt_trans (first l).isLt (by decide)) (Nat.lt_trans k.isLt (by decide)))
  · refine (of_equal (Host.reduce_andi_all _ _ _ _ _ e4 (ix2 l k))).trans ?_
    pointwise
    refine (congrArg (fun n => hot (Cert.Pre_selects.lit1 n) k) (row_of l)).trans ?_
    exact (congrArg (hot · k) (table_second l).2).trans (hot_bit _ _ (Nat.lt_trans (second l).isLt (by decide)) (Nat.lt_trans k.isLt (by decide)))

end Precondition

end Cert.Proof.Select
-- ==== Proof.Select.Meet.lean ====
module

public import proofs.«01_k».proof.Proof.Select.Ends
public import proofs.«01_k».proof.Proof.Gen.SelectIdeal.Skeleton

/-!
# The kernel's values are the reference's, index by index

From the ends of the lines on, the two programs compute the same numbers in the same order: the points of
each line, their four neighbours on the grid, and the neighbours' weights.
-/

@[expose] public section

set_option maxRecDepth 20000

noncomputable section

namespace Cert.Proof.Select

open Idealize.ShloMosaic Cert.SelectIdeal Cert.SelectIdeal.Gen
open Cert.SelectReferenceIdeal.Value
open scoped BigOperators

section Points

variable (V0 : Valuation Cert.SelectReferenceIdeal.τ Cert.SelectReferenceIdeal.sig (Elt Idealize.ShloMosaic.Ideal)) (b : Fin 2)
  (v100 v102 : FVec Idealize.ShloMosaic.Ideal S2016x2 .f32) (v125 : Vec Idealize.ShloMosaic.Ideal S1x32 .f32)
  (hA : ∀ l d, v100 (ix2 l d) = res_main_v33 V0 (ix3 b l d)) (hB : ∀ l d, v102 (ix2 l d) = res_main_v40 V0 (ix3 b l d))
  (hL : ∀ p, v125 (ix2 0 p) = res_main_v65 V0 (ix2 p 0))

include hA hB hL

theorem row_point (l : Fin 2016) (p : Fin 32) : k0_pay23 v100 v102 v125 (ix2 l p) = res_main_v82 V0 (ix3 b l p) := by
  have hA := hA l 0
  have hB := hB l 0
  have hL := hL p
  pointwise [k0_pay23, k0_pay22, res_main_v82, res_main_v80]
  rw [hA, hB, hL]

theorem col_point (l : Fin 2016) (p : Fin 32) : k0_pay24 v100 v102 v125 (ix2 l p) = res_main_v84 V0 (ix3 b l p) := by
  have hA := hA l 1
  have hB := hB l 1
  have hL := hL p
  pointwise [k0_pay24, k0_pay22, res_main_v84, res_main_v80]
  rw [hA, hB, hL]

theorem row_low (l : Fin 2016) (p : Fin 32) : k0_pay25 v100 v102 v125 (ix2 l p) = res_main_v86 V0 (ix3 b l p) := by
  have e := row_point V0 b v100 v102 v125 hA hB hL l p
  pointwise [k0_pay25, res_main_v86]
  exact congrArg (fun w : EReal => min (FloatOps.sitofp (F := Idealize.ShloMosaic.Ideal) .f32 127#32 : EReal)
    (max (FloatOps.sitofp (F := Idealize.ShloMosaic.Ideal) .f32 0#32 : EReal) (Idealize.ShloMosaic.Ideal.liftRound Int.floor w))) e

theorem col_low (l : Fin 2016) (p : Fin 32) : k0_pay26 v100 v102 v125 (ix2 l p) = res_main_v88 V0 (ix3 b l p) := by
  have e := col_point V0 b v100 v102 v125 hA hB hL l p
  pointwise [k0_pay26, res_main_v88]
  exact congrArg (fun w : EReal => min (FloatOps.sitofp (F := Idealize.ShloMosaic.Ideal) .f32 127#32 : EReal)
    (max (FloatOps.sitofp (F := Idealize.ShloMosaic.Ideal) .f32 0#32 : EReal) (Idealize.ShloMosaic.Ideal.liftRound Int.floor w))) e

theorem row_high (l : Fin 2016) (p : Fin 32) :
    k0_pay27 (k0_pay25 v100 v102 v125) (1 : EReal) (ix2 l p) = res_main_v91 V0 (ix3 b l p) := by
  have e := row_low V0 b v100 v102 v125 hA hB hL l p
  pointwise [k0_pay27, res_main_v91]
  exact congrArg (fun w : EReal => min (FloatOps.sitofp (F := Idealize.ShloMosaic.Ideal) .f32 127#32 : EReal)
    (max (FloatOps.sitofp (F := Idealize.ShloMosaic.Ideal) .f32 0#32 : EReal) (w + 1))) e

theorem col_high (l : Fin 2016) (p : Fin 32) :
    k0_pay28 (k0_pay26 v100 v102 v125) (ix2 l p) = res_main_v94 V0 (ix3 b l p) := by
  have e := col_low V0 b v100 v102 v125 hA hB hL l p
  pointwise [k0_pay28, res_main_v94]
  exact congrArg (fun w : EReal => min (FloatOps.sitofp (F := Idealize.ShloMosaic.Ideal) .f32 127#32 : EReal)
    (max (FloatOps.sitofp (F := Idealize.ShloMosaic.Ideal) .f32 0#32 : EReal) (w + 1))) e

/-- The weights of the four neighbours. -/
theorem weights (l : Fin 2016) (e : Fin 128) :
    k0_pay2 (k0_pay29 (k0_pay23 v100 v102 v125) (k0_pay24 v100 v102 v125) (k0_pay25 v100 v102 v125) (k0_pay26 v100 v102 v125) (FloatOps.ofBits .f32 1065353216#32))
      (k0_pay30 (k0_pay23 v100 v102 v125) (k0_pay24 v100 v102 v125) (k0_pay25 v100 v102 v125) (k0_pay26 v100 v102 v125))
      (k0_pay31 (k0_pay23 v100 v102 v125) (k0_pay24 v100 v102 v125) (k0_pay25 v100 v102 v125) (k0_pay26 v100 v102 v125) (FloatOps.ofBits .f32 1065353216#32))
      (k0_pay32 (k0_pay23 v100 v102 v125) (k0_pay24 v100 v102 v125) (k0_pay25 v100 v102 v125) (k0_pay26 v100 v102 v125)) (ix3 0 l e)
      = concatenate Cert.SelectReferenceIdeal.S2x2016x128 2 [⟨Cert.SelectReferenceIdeal.S2x2016x32, ((mulf (subf (res_main_v91 V0) (res_main_v82 V0)) (subf (res_main_v94 V0) (res_main_v84 V0))) : (⟨Cert.SelectReferenceIdeal.S2x2016x32, .f32⟩ : BufTy).Contents (Elt Idealize.ShloMosaic.Ideal))⟩, ⟨Cert.SelectReferenceIdeal.S2x2016x32, ((mulf (subf (res_main_v82 V0) (res_main_v86 V0)) (subf (res_main_v94 V0) (res_main_v84 V0))) : (⟨Cert.SelectReferenceIdeal.S2x2016x32, .f32⟩ : BufTy).Contents (Elt Idealize.ShloMosaic.Ideal))⟩, ⟨Cert.SelectReferenceIdeal.S2x2016x32, ((mulf (subf (res_main_v91 V0) (res_main_v82 V0)) (subf (res_main_v84 V0) (res_main_v88 V0))) : (⟨Cert.SelectReferenceIdeal.S2x2016x32, .f32⟩ : BufTy).Contents (Elt Idealize.ShloMosaic.Ideal))⟩, ⟨Cert.SelectReferenceIdeal.S2x2016x32, ((mulf (subf (res_main_v82 V0) (res_main_v86 V0)) (subf (res_main_v84 V0) (res_main_v88 V0))) : (⟨Cert.SelectReferenceIdeal.S2x2016x32, .f32⟩ : BufTy).Contents (Elt Idealize.ShloMosaic.Ideal))⟩] Cert.SelectReferenceIdeal.Gen.concatenates_S2x2016x32_S2x2016x32_S2x2016x32_S2x2016x32_S2x2016x128_d2 (ix3 b l e) := by
  have e1 := row_point V0 b v100 v102 v125 hA hB hL l
  have e2 := col_point V0 b v100 v102 v125 hA hB hL l
  have e3 := row_low V0 b v100 v102 v125 hA hB hL l
  have e4 := col_low V0 b v100 v102 v125 hA hB hL l
  have e5 := row_high V0 b v100 v102 v125 hA hB hL l
  have e6 := col_high V0 b v100 v102 v125 hA hB hL l
  pointwise [k0_pay2, k0_pay29, k0_pay30, k0_pay31, k0_pay32]
  simp only [e1, e2, e3, e4, e5, e6]

/-- The words of the four neighbours' places. -/
theorem places (l : Fin 2016) (e : Fin 128) :
    k0_pay1 (Scalar.muli (BitVec.ofNat 32 b.val) 16384#32) (k0_pay36 (k0_pay26 v100 v102 v125))
      (k0_pay37 (BitVec.ofNat 32 b.val) (k0_pay25 v100 v102 v125) (k0_pay26 v100 v102 v125))
      (k0_pay38 (BitVec.ofNat 32 b.val) (k0_pay25 v100 v102 v125) (k0_pay26 v100 v102 v125) (FloatOps.ofBits .f32 1065353216#32))
      (k0_pay39 (BitVec.ofNat 32 b.val) (k0_pay25 v100 v102 v125) (k0_pay26 v100 v102 v125))
      (k0_pay40 (k0_pay25 v100 v102 v125) (FloatOps.ofBits .f32 1065353216#32)) (ix3 0 l e)
      = concatenate Cert.SelectReferenceIdeal.S2x2016x128 2 [⟨Cert.SelectReferenceIdeal.S2x2016x32, ((addi (addi (broadcastInDim Cert.SelectReferenceIdeal.S2x2016x32 ![0, 1, 2] Cert.SelectReferenceIdeal.Gen.bcast_S2x1x1_S2x2016x32_0_1_2 (res_main_v98 V0)) (muli (fptosi 32 (res_main_v86 V0)) (broadcastInDim Cert.SelectReferenceIdeal.S2x2016x32 ![] Cert.SelectReferenceIdeal.Gen.bcast_S_S2x2016x32 (constantI Cert.SelectReferenceIdeal.S_ 32 128#32)))) (fptosi 32 (res_main_v88 V0))) : (⟨Cert.SelectReferenceIdeal.S2x2016x32, .i32⟩ : BufTy).Contents (Elt Idealize.ShloMosaic.Ideal))⟩, ⟨Cert.SelectReferenceIdeal.S2x2016x32, ((addi (addi (broadcastInDim Cert.SelectReferenceIdeal.S2x2016x32 ![0, 1, 2] Cert.SelectReferenceIdeal.Gen.bcast_S2x1x1_S2x2016x32_0_1_2 (res_main_v98 V0)) (muli (fptosi 32 (res_main_v91 V0)) (broadcastInDim Cert.SelectReferenceIdeal.S2x2016x32 ![] Cert.SelectReferenceIdeal.Gen.bcast_S_S2x2016x32 (constantI Cert.SelectReferenceIdeal.S_ 32 128#32)))) (fptosi 32 (res_main_v88 V0))) : (⟨Cert.SelectReferenceIdeal.S2x2016x32, .i32⟩ : BufTy).Contents (Elt Idealize.ShloMosaic.Ideal))⟩, ⟨Cert.SelectReferenceIdeal.S2x2016x32, ((addi (addi (broadcastInDim Cert.SelectReferenceIdeal.S2x2016x32 ![0, 1, 2] Cert.SelectReferenceIdeal.Gen.bcast_S2x1x1_S2x2016x32_0_1_2 (res_main_v98 V0)) (muli (fptosi 32 (res_main_v86 V0)) (broadcastInDim Cert.SelectReferenceIdeal.S2x2016x32 ![] Cert.SelectReferenceIdeal.Gen.bcast_S_S2x2016x32 (constantI Cert.SelectReferenceIdeal.S_ 32 128#32)))) (fptosi 32 (res_main_v94 V0))) : (⟨Cert.SelectReferenceIdeal.S2x2016x32, .i32⟩ : BufTy).Contents (Elt Idealize.ShloMosaic.Ideal))⟩, ⟨Cert.SelectReferenceIdeal.S2x2016x32, ((addi (addi (broadcastInDim Cert.SelectReferenceIdeal.S2x2016x32 ![0, 1, 2] Cert.SelectReferenceIdeal.Gen.bcast_S2x1x1_S2x2016x32_0_1_2 (res_main_v98 V0)) (muli (fptosi 32 (res_main_v91 V0)) (broadcastInDim Cert.SelectReferenceIdeal.S2x2016x32 ![] Cert.SelectReferenceIdeal.Gen.bcast_S_S2x2016x32 (constantI Cert.SelectReferenceIdeal.S_ 32 128#32)))) (fptosi 32 (res_main_v94 V0))) : (⟨Cert.SelectReferenceIdeal.S2x2016x32, .i32⟩ : BufTy).Contents (Elt Idealize.ShloMosaic.Ideal))⟩] Cert.SelectReferenceIdeal.Gen.concatenates_S2x2016x32_S2x2016x32_S2x2016x32_S2x2016x32_S2x2016x128_d2 (ix3 b l e) := by
  have e3 := row_low V0 b v100 v102 v125 hA hB hL l
  have e4 := col_low V0 b v100 v102 v125 hA hB hL l
  have e5 := row_high V0 b v100 v102 v125 hA hB hL l
  have e6 := col_high V0 b v100 v102 v125 hA hB hL l
  pointwise [k0_pay1, k0_pay33, k0_pay34, k0_pay35, k0_pay36, k0_pay37, k0_pay38, k0_pay39, k0_pay40, res_main_v98]
  simp only [e3, e4, e5, e6]
  rfl

end Points

end Cert.Proof.Select
-- ==== Proof.Select.Features.lean ====
module

public import proofs.«01_k».proof.Proof.Select.Ends
public import proofs.«01_k».proof.Proof.Gen.SelectIdeal.Skeleton

/-!
# The lines and their features

The first result lists each line's ends; the second its ends scaled, its direction, and a part that is zero.
-/

@[expose] public section

set_option maxRecDepth 20000

noncomputable section

namespace Cert.Proof.Select

open Idealize.ShloMosaic Cert.SelectIdeal Cert.SelectIdeal.Gen
open Cert.SelectReferenceIdeal.Value
open scoped BigOperators

/-- No line starts past the 64 picked points … -/
theorem near_first : ∀ l : Fin 2016, IntOp.cmpi CmpIPredicate.sgt (Cert.SelectReferenceIdeal.lit0 l) 64#32 = 0#1 := by decide +kernel

/-- … and none ends there. -/
theorem near_second : ∀ l : Fin 2016, IntOp.cmpi CmpIPredicate.sgt (Cert.SelectReferenceIdeal.lit1 l) 64#32 = 0#1 := by decide +kernel

/-- A bit that is zero is the number zero. -/
theorem zero_bit (w : BitVec 1) (h : w = 0#1) : (0 : EReal) = FloatOps.uitofp (F := Idealize.ShloMosaic.Ideal) .f32 w := by
  subst h
  show (0 : EReal) = (((0 : Nat) : ℝ) : EReal)
  norm_num

section Lines

variable (V0 : Valuation Cert.SelectReferenceIdeal.τ Cert.SelectReferenceIdeal.sig (Elt Idealize.ShloMosaic.Ideal)) (b : Fin 2)
  (v52 v68 : IVec S64x1 32) (v73 v77 : FVec Idealize.ShloMosaic.Ideal S64x128 .f32) (v79 v81 : FVec Idealize.ShloMosaic.Ideal S128x128 .f32)
  (z : FVec Idealize.ShloMosaic.Ideal S64x128 .f32) (v99 v101 : Vec Idealize.ShloMosaic.Ideal S2016x64 .f32)
  (hA : ∀ l d, k0_pay17 v52 v68 v73 v77 v79 v81 z v99 (ix2 l d) = res_main_v33 V0 (ix3 b l d))
  (hB : ∀ l d, k0_pay18 v52 v68 v73 v77 v79 v81 z v101 (ix2 l d) = res_main_v40 V0 (ix3 b l d))

include hA hB

/-- The lines. -/
theorem lines_eq (l : Fin 2016) (e : Fin 4) : k0_pay21 (k0_pay20 v52 v68 v73 v77 v79 v81 z v99 v101) (ix3 0 l e)
    = concatenate Cert.SelectReferenceIdeal.S2x2016x4 2 [⟨Cert.SelectReferenceIdeal.S2x2016x2, (res_main_v33 V0)⟩, ⟨Cert.SelectReferenceIdeal.S2x2016x2, (res_main_v40 V0)⟩] Cert.SelectReferenceIdeal.Gen.concatenates_S2x2016x2_S2x2016x2_S2x2016x4_d2 (ix3 b l e) := by
  pointwise [k0_pay21, k0_pay20]
  simp only [hA, hB]

/-- The features. -/
theorem features_eq (l : Fin 2016) (e : Fin 8) : k0_pay19 v52 v68 v73 v77 v79 v81 z v99 v101 (ix3 0 l e)
    = (concatenate Cert.SelectReferenceIdeal.S2x2016x8 2 [⟨Cert.SelectReferenceIdeal.S2x2016x2, ((Host.divf (res_main_v33 V0) (broadcastInDim Cert.SelectReferenceIdeal.S2x2016x2 ![] Cert.SelectReferenceIdeal.Gen.bcast_S_S2x2016x2 (constant Cert.SelectReferenceIdeal.S_ .f32 0x43000000#32))) : (⟨Cert.SelectReferenceIdeal.S2x2016x2, .f32⟩ : BufTy).Contents (Elt Idealize.ShloMosaic.Ideal))⟩, ⟨Cert.SelectReferenceIdeal.S2x2016x2, ((Host.divf (res_main_v40 V0) (broadcastInDim Cert.SelectReferenceIdeal.S2x2016x2 ![] Cert.SelectReferenceIdeal.Gen.bcast_S_S2x2016x2 (constant Cert.SelectReferenceIdeal.S_ .f32 0x43000000#32))) : (⟨Cert.SelectReferenceIdeal.S2x2016x2, .f32⟩ : BufTy).Contents (Elt Idealize.ShloMosaic.Ideal))⟩, ⟨Cert.SelectReferenceIdeal.S2x2016x2, ((Host.divf (res_main_v41 V0) (broadcastInDim Cert.SelectReferenceIdeal.S2x2016x2 ![0, 1, 2] Cert.SelectReferenceIdeal.Gen.bcast_S2x2016x1_S2x2016x2_0_1_2 (maximumf (Host.sqrt (broadcastInDim Cert.SelectReferenceIdeal.S2x2016x1 ![0, 1] Cert.SelectReferenceIdeal.Gen.bcast_S2x2016_S2x2016x1_0_1 (Host.reduceAdd (mulf (res_main_v41 V0) (res_main_v41 V0)) (constant Cert.SelectReferenceIdeal.S_ .f32 0x00000000#32) Cert.SelectReferenceIdeal.Gen.reducesTo_S2x2016x2_S2x2016_d2 Cert.SelectReferenceIdeal.Gen.h_S_))) (broadcastInDim Cert.SelectReferenceIdeal.S2x2016x1 ![] Cert.SelectReferenceIdeal.Gen.bcast_S_S2x2016x1 (constant Cert.SelectReferenceIdeal.S_ .f32 0x358637BD#32))))) : (⟨Cert.SelectReferenceIdeal.S2x2016x2, .f32⟩ : BufTy).Contents (Elt Idealize.ShloMosaic.Ideal))⟩, ⟨Cert.SelectReferenceIdeal.S2x2016x2, ((broadcastInDim Cert.SelectReferenceIdeal.S2x2016x2 ![1, 2] Cert.SelectReferenceIdeal.Gen.bcast_S2016x2_S2x2016x2_1_2 (uitofp (F := Idealize.ShloMosaic.Ideal) .f32 (concatenate Cert.SelectReferenceIdeal.S2016x2 1 [⟨Cert.SelectReferenceIdeal.S2016x1, (broadcastInDim Cert.SelectReferenceIdeal.S2016x1 ![0] Cert.SelectReferenceIdeal.Gen.bcast_S2016_S2016x1_0 (cmpi .sgt (res_main_c V0) (broadcastInDim Cert.SelectReferenceIdeal.S2016 ![] Cert.SelectReferenceIdeal.Gen.bcast_S_S2016 (constantI Cert.SelectReferenceIdeal.S_ 32 64#32))))⟩, ⟨Cert.SelectReferenceIdeal.S2016x1, (broadcastInDim Cert.SelectReferenceIdeal.S2016x1 ![0] Cert.SelectReferenceIdeal.Gen.bcast_S2016_S2016x1_0 (cmpi .sgt (res_main_c_0 V0) (broadcastInDim Cert.SelectReferenceIdeal.S2016 ![] Cert.SelectReferenceIdeal.Gen.bcast_S_S2016 (constantI Cert.SelectReferenceIdeal.S_ 32 64#32))))⟩] Cert.SelectReferenceIdeal.Gen.concatenates_S2016x1_S2016x1_S2016x2_d1))) : (⟨Cert.SelectReferenceIdeal.S2x2016x2, .f32⟩ : BufTy).Contents (Elt Idealize.ShloMosaic.Ideal))⟩] Cert.SelectReferenceIdeal.Gen.concatenates_S2x2016x2_S2x2016x2_S2x2016x2_S2x2016x2_S2x2016x8_d2 : (⟨Cert.SelectReferenceIdeal.S2x2016x8, .f32⟩ : BufTy).Contents (Elt Idealize.ShloMosaic.Ideal)) (ix3 b l e) := by
  pointwise [k0_pay19, res_main_v41, res_main_c, res_main_c_0]
  simp only [hA, hB]
  refine dite_congr rfl (fun _ => rfl) fun _ => dite_congr rfl (fun _ => rfl) fun _ => dite_congr rfl (fun _ => rfl) fun _ => zero_bit _ ?_
  split
  · exact (congrArg (fun n => IntOp.cmpi CmpIPredicate.sgt (Cert.SelectReferenceIdeal.lit0 n) 64#32) (row_of l)).trans (near_first l)
  · exact (congrArg (fun n => IntOp.cmpi CmpIPredicate.sgt (Cert.SelectReferenceIdeal.lit1 n) 64#32) (row_of l)).trans (near_second l)

end Lines

end Cert.Proof.Select
-- ==== Proof.Select.Block.lean ====
module

public import proofs.«01_k».proof.Proof.Select.Meet
public import proofs.«01_k».proof.Proof.Select.Features
public import proofs.«01_k».proof.Proof.Gen.SelectIdeal.Value

/-!
# What one grid step leaves in its four output blocks

A step reads its blocks whole and writes each output block whole, so each block is the body's value of the
input blocks.
-/

@[expose] public section

set_option maxRecDepth 20000

noncomputable section

namespace Cert.Proof.Select

open Cert.SelectIdeal Cert.SelectIdeal.Gen Idealize.ShloMosaic Idealize.ShloMosaic.TcCoe Idealize.ShloMosaic.Tactic
open Cert.SelectReferenceIdeal.Value
open scoped BigOperators

theorem zeros2 : (![0, 0] : Fin 2 → Nat) = fun _ => 0 := by decide

theorem zeros3 : (![0, 0, 0] : Fin 3 → Nat) = fun _ => 0 := by decide

theorem zeros4 : (![0, 0, 0, 0] : Fin 4 → Nat) = fun _ => 0 := by decide

section Values

variable (x0 : Vec Idealize.ShloMosaic.Ideal S1x32 .f32) (x1 x2 : Vec Idealize.ShloMosaic.Ideal S2016x64 .f32)
  (x3 : Vec Idealize.ShloMosaic.Ideal S1x1x128x128 .f32) (x4 : Vec Idealize.ShloMosaic.Ideal S1x1x2x128x128 .f32)

/-- The row offsets of a block of offsets. -/
def plane0 : FVec Idealize.ShloMosaic.Ideal S128x128 .f32 :=
  k0_pay14 (View.ld x4 (Rect.unit ![0, 0, 0, 0, 0] S1x1x1x128x128.size inb_S1x1x2x128x128_S1x1x1x128x128_0_0_0_0_0))

/-- The column offsets of a block of offsets. -/
def plane1 : FVec Idealize.ShloMosaic.Ideal S128x128 .f32 :=
  k0_pay15 (View.ld x4 (Rect.unit ![0, 0, 1, 0, 0] S1x1x1x128x128.size inb_S1x1x2x128x128_S1x1x1x128x128_0_0_1_0_0))

theorem plane0_apply (p q : Fin 128) : plane0 x4 (ix2 p q) = x4 (ix5 0 0 0 p q) := by
  unfold plane0
  pointwise [k0_pay14]

theorem plane1_apply (p q : Fin 128) : plane1 x4 (ix2 p q) = x4 (ix5 0 0 1 p q) := by
  unfold plane1
  pointwise [k0_pay15]

/-- The first ends of the lines, as the body computes them. -/
abbrev starts : FVec Idealize.ShloMosaic.Ideal S2016x2 .f32 :=
  k0_pay17 (rowWord (column x3)) (k0_pay11 (column x3)) (k0_pay12 (column x3) 128#32 (k0_pay8 (column x3)) (k0_pay9 (column x3)) 1#32 0#1)
    (k0_pay13 (column x3)) (plane0 x4) (plane1 x4) (constant S64x128 .f32 0x00000000#32) x1

/-- The second ends. -/
abbrev stops : FVec Idealize.ShloMosaic.Ideal S2016x2 .f32 :=
  k0_pay18 (rowWord (column x3)) (k0_pay11 (column x3)) (k0_pay12 (column x3) 128#32 (k0_pay8 (column x3)) (k0_pay9 (column x3)) 1#32 0#1)
    (k0_pay13 (column x3)) (plane0 x4) (plane1 x4) (constant S64x128 .f32 0x00000000#32) x2

/-- The block of lines. -/
abbrev lineBlock : Vec Idealize.ShloMosaic.Ideal S1x2016x4 .f32 :=
  k0_pay21 (k0_pay20 (rowWord (column x3)) (k0_pay11 (column x3)) (k0_pay12 (column x3) 128#32 (k0_pay8 (column x3)) (k0_pay9 (column x3)) 1#32 0#1)
    (k0_pay13 (column x3)) (plane0 x4) (plane1 x4) (constant S64x128 .f32 0x00000000#32) x1 x2)

/-- The block of features. -/
abbrev featureBlock : Vec Idealize.ShloMosaic.Ideal S1x2016x8 .f32 :=
  k0_pay19 (rowWord (column x3)) (k0_pay11 (column x3)) (k0_pay12 (column x3) 128#32 (k0_pay8 (column x3)) (k0_pay9 (column x3)) 1#32 0#1)
    (k0_pay13 (column x3)) (plane0 x4) (plane1 x4) (constant S64x128 .f32 0x00000000#32) x1 x2

/-- The block of places, of the points of given lines. -/
abbrev placeBlock (b : BitVec 32) (A B : FVec Idealize.ShloMosaic.Ideal S2016x2 .f32) : IVec S1x2016x128 32 :=
  k0_pay1 (Scalar.muli b 16384#32) (k0_pay36 (k0_pay26 A B x0)) (k0_pay37 b (k0_pay25 A B x0) (k0_pay26 A B x0))
    (k0_pay38 b (k0_pay25 A B x0) (k0_pay26 A B x0) (FloatOps.ofBits .f32 1065353216#32))
    (k0_pay39 b (k0_pay25 A B x0) (k0_pay26 A B x0)) (k0_pay40 (k0_pay25 A B x0) (FloatOps.ofBits .f32 1065353216#32))

/-- The block of weights, of the points of given lines. -/
abbrev weightBlock (A B : FVec Idealize.ShloMosaic.Ideal S2016x2 .f32) : FVec Idealize.ShloMosaic.Ideal S1x2016x128 .f32 :=
  k0_pay2 (k0_pay29 (k0_pay23 A B x0) (k0_pay24 A B x0) (k0_pay25 A B x0) (k0_pay26 A B x0) (FloatOps.ofBits .f32 1065353216#32))
    (k0_pay30 (k0_pay23 A B x0) (k0_pay24 A B x0) (k0_pay25 A B x0) (k0_pay26 A B x0))
    (k0_pay31 (k0_pay23 A B x0) (k0_pay24 A B x0) (k0_pay25 A B x0) (k0_pay26 A B x0) (FloatOps.ofBits .f32 1065353216#32))
    (k0_pay32 (k0_pay23 A B x0) (k0_pay24 A B x0) (k0_pay25 A B x0) (k0_pay26 A B x0))

end Values

section Sums

variable (v52 v68 : IVec S64x1 32) (v73 v77 : FVec Idealize.ShloMosaic.Ideal S64x128 .f32) (v79 v81 : FVec Idealize.ShloMosaic.Ideal S128x128 .f32)
  (z : FVec Idealize.ShloMosaic.Ideal S64x128 .f32) (w : Vec Idealize.ShloMosaic.Ideal S2016x64 .f32) (l : Fin 2016) (d : Fin 2)

theorem start_sum : k0_pay17 v52 v68 v73 v77 v79 v81 z w (ix2 l d)
    = ∑ k : Fin 64, (w (ix2 l k) : EReal) * k0_pay16 v52 v68 v73 v77 v79 v81 z (ix2 k d) := by
  pointwise [k0_pay17]

theorem stop_sum : k0_pay18 v52 v68 v73 v77 v79 v81 z w (ix2 l d)
    = ∑ k : Fin 64, (w (ix2 l k) : EReal) * k0_pay16 v52 v68 v73 v77 v79 v81 z (ix2 k d) := by
  pointwise [k0_pay18]

end Sums

section Ends

variable (V0 : Valuation Cert.SelectReferenceIdeal.τ Cert.SelectReferenceIdeal.sig (Elt Idealize.ShloMosaic.Ideal)) (b : Fin 2)
  (x1 x2 : Vec Idealize.ShloMosaic.Ideal S2016x64 .f32)
  (x3 : Vec Idealize.ShloMosaic.Ideal S1x1x128x128 .f32) (x4 : Vec Idealize.ShloMosaic.Ideal S1x1x2x128x128 .f32)
  (h : ∀ i, (⊥ : EReal) < V0 (Proc.devRef .tc Cert.SelectReferenceIdeal.main_arg0) i)
  (h3 : ∀ p q, x3 (ix4 0 0 p q) = V0 (Proc.devRef .tc Cert.SelectReferenceIdeal.main_arg0) (ix4 b 0 p q))
  (h4 : ∀ d p q, x4 (ix5 0 0 d p q) = V0 (Proc.devRef .tc Cert.SelectReferenceIdeal.main_arg1) (ix5 b 0 d p q))

include h3 h4

theorem kernel_point (r : Fin 64) (d : Fin 2) :
    k0_pay16 (rowWord (column x3)) (k0_pay11 (column x3)) (k0_pay12 (column x3) 128#32 (k0_pay8 (column x3)) (k0_pay9 (column x3)) 1#32 0#1)
      (k0_pay13 (column x3)) (plane0 x4) (plane1 x4) (constant S64x128 .f32 0x00000000#32) (ix2 r d) = point V0 b r d := by
  have hx : (fun p q => x3 (ix4 0 0 p q)) = fun p q => V0 (Proc.devRef .tc Cert.SelectReferenceIdeal.main_arg0) (ix4 b 0 p q) :=
    funext fun p => funext fun q => h3 p q
  have hk : column x3 (ix2 r 0) = BitVec.ofNat 32 (pick (heights V0 b) r.val).val := by
    unfold heights
    rw [← hx]
    exact column_eq x3 r
  refine (kernel_spot (column x3) r (pick (heights V0 b) r.val) hk (plane0 x4) (plane1 x4) d).trans ?_
  unfold point
  refine congrArg (fun jo => spot jo _ d) (funext fun d => funext fun p => funext fun q => ?_)
  unfold offsets
  split
  · next hd =>
    obtain rfl : d = 0 := Fin.ext (by simpa using hd)
    rw [plane0_apply, h4]
  · next hd =>
    obtain rfl : d = 1 := Fin.ext (by have := d.isLt; simp at hd ⊢; omega)
    rw [plane1_apply, h4]

include h

theorem starts_eq (h1 : ∀ l k, x1 (ix2 l k) = if (first l).val = k.val then (1 : EReal) else 0) (l : Fin 2016) (d : Fin 2) :
    starts x1 x3 x4 (ix2 l d) = res_main_v33 V0 (ix3 b l d) := by
  have e := sum_hot (fun k => x1 (ix2 l k)) (fun k => k0_pay16 (rowWord (column x3)) (k0_pay11 (column x3)) (k0_pay12 (column x3) 128#32 (k0_pay8 (column x3)) (k0_pay9 (column x3)) 1#32 0#1)
      (k0_pay13 (column x3)) (plane0 x4) (plane1 x4) (constant S64x128 .f32 0x00000000#32) (ix2 k d)) (first l) (h1 l)
  exact (start_sum _ _ _ _ _ _ _ x1 l d).trans (e.trans ((kernel_point V0 b x3 x4 h3 h4 (first l) d).trans (reference_first V0 h b l d).symm))

theorem stops_eq (h2 : ∀ l k, x2 (ix2 l k) = if (second l).val = k.val then (1 : EReal) else 0) (l : Fin 2016) (d : Fin 2) :
    stops x2 x3 x4 (ix2 l d) = res_main_v40 V0 (ix3 b l d) := by
  have e := sum_hot (fun k => x2 (ix2 l k)) (fun k => k0_pay16 (rowWord (column x3)) (k0_pay11 (column x3)) (k0_pay12 (column x3) 128#32 (k0_pay8 (column x3)) (k0_pay9 (column x3)) 1#32 0#1)
      (k0_pay13 (column x3)) (plane0 x4) (plane1 x4) (constant S64x128 .f32 0x00000000#32) (ix2 k d)) (second l) (h2 l)
  exact (stop_sum _ _ _ _ _ _ _ x2 l d).trans (e.trans ((kernel_point V0 b x3 x4 h3 h4 (second l) d).trans (reference_second V0 h b l d).symm))

end Ends

section Reading

variable (c : Dev nD) (i : grid0.Coords) (arg1 : Memref sig .tc .vmem S1x32 .f32) (harg1 : arg1.IsWhole) (arg2 : Memref sig .tc .vmem S2016x64 .f32) (harg2 : arg2.IsWhole) (arg3 : Memref sig .tc .vmem S2016x64 .f32) (harg3 : arg3.IsWhole) (arg4 : Memref sig .tc .vmem S1x1x128x128 .f32) (harg4 : arg4.IsWhole) (arg5 : Memref sig .tc .vmem S1x1x2x128x128 .f32) (harg5 : arg5.IsWhole) (arg6 : Memref sig .tc .vmem S1x2016x4 .f32) (harg6 : arg6.IsWhole) (arg7 : Memref sig .tc .vmem S1x2016x8 .f32) (harg7 : arg7.IsWhole) (arg8 : Memref sig .tc .vmem S1x2016x128 .i32) (harg8 : arg8.IsWhole) (arg9 : Memref sig .tc .vmem S1x2016x128 .f32) (harg9 : arg9.IsWhole)
    (x0 : Vec Idealize.ShloMosaic.Ideal S1x32 .f32) (x1 : Vec Idealize.ShloMosaic.Ideal S2016x64 .f32) (x2 : Vec Idealize.ShloMosaic.Ideal S2016x64 .f32) (x3 : Vec Idealize.ShloMosaic.Ideal S1x1x128x128 .f32) (x4 : Vec Idealize.ShloMosaic.Ideal S1x1x2x128x128 .f32)

/-- A step leaves the block of lines. -/
theorem left_lines : out0_A_5 c i arg1 harg1 arg2 harg2 arg3 harg3 arg4 harg4 arg5 harg5 arg6 harg6 arg7 harg7 arg8 harg8 arg9 harg9 x0 x1 x2 x3 x4 = lineBlock x1 x2 x3 x4 := by
  unfold out0_A_5
  rw [View.read_writes_eq_canon _ _ _ (cover0_A_5 c i arg1 harg1 arg2 harg2 arg3 harg3 arg4 harg4 arg5 harg5 arg6 harg6 arg7 harg7 arg8 harg8 arg9 harg9 x0 x1 x2 x3 x4)]
  unfold kernelRun0_A
  dsimp only
  sl_unfold_words
  rw [View.canon_unit_zero zeros3]
  simp only [View.readAt_eq_ld, harg1.read_unread, harg2.read_unread, harg3.read_unread, harg4.read_unread, harg5.read_unread,
    View.ld_unit_zero (S := S2016x64) zeros2, View.ld_unit_zero (S := S1x32) zeros2, View.ld_unit_zero (S := S1x1x128x128) zeros4]
  rfl

/-- A step leaves the block of features. -/
theorem left_features : out0_A_6 c i arg1 harg1 arg2 harg2 arg3 harg3 arg4 harg4 arg5 harg5 arg6 harg6 arg7 harg7 arg8 harg8 arg9 harg9 x0 x1 x2 x3 x4 = featureBlock x1 x2 x3 x4 := by
  unfold out0_A_6
  rw [View.read_writes_eq_canon _ _ _ (cover0_A_6 c i arg1 harg1 arg2 harg2 arg3 harg3 arg4 harg4 arg5 harg5 arg6 harg6 arg7 harg7 arg8 harg8 arg9 harg9 x0 x1 x2 x3 x4)]
  unfold kernelRun0_A
  dsimp only
  sl_unfold_words
  rw [View.canon_unit_zero zeros3]
  simp only [View.readAt_eq_ld, harg1.read_unread, harg2.read_unread, harg3.read_unread, harg4.read_unread, harg5.read_unread,
    View.ld_unit_zero (S := S2016x64) zeros2, View.ld_unit_zero (S := S1x32) zeros2, View.ld_unit_zero (S := S1x1x128x128) zeros4]
  rfl

/-- A step leaves the block of places. -/
theorem left_places : out0_A_7 c i arg1 harg1 arg2 harg2 arg3 harg3 arg4 harg4 arg5 harg5 arg6 harg6 arg7 harg7 arg8 harg8 arg9 harg9 x0 x1 x2 x3 x4 = placeBlock x0 (BitVec.ofNat 32 (i 0).val) (starts x1 x3 x4) (stops x2 x3 x4) := by
  unfold out0_A_7
  rw [View.read_writes_eq_canon _ _ _ (cover0_A_7 c i arg1 harg1 arg2 harg2 arg3 harg3 arg4 harg4 arg5 harg5 arg6 harg6 arg7 harg7 arg8 harg8 arg9 harg9 x0 x1 x2 x3 x4)]
  unfold kernelRun0_A
  dsimp only
  sl_unfold_words
  rw [View.canon_unit_zero zeros3]
  simp only [View.readAt_eq_ld, harg1.read_unread, harg2.read_unread, harg3.read_unread, harg4.read_unread, harg5.read_unread,
    View.ld_unit_zero (S := S2016x64) zeros2, View.ld_unit_zero (S := S1x32) zeros2, View.ld_unit_zero (S := S1x1x128x128) zeros4]
  rfl

/-- A step leaves the block of weights. -/
theorem left_weights : out0_A_8 c i arg1 harg1 arg2 harg2 arg3 harg3 arg4 harg4 arg5 harg5 arg6 harg6 arg7 harg7 arg8 harg8 arg9 harg9 x0 x1 x2 x3 x4 = weightBlock x0 (starts x1 x3 x4) (stops x2 x3 x4) := by
  unfold out0_A_8
  rw [View.read_writes_eq_canon _ _ _ (cover0_A_8 c i arg1 harg1 arg2 harg2 arg3 harg3 arg4 harg4 arg5 harg5 arg6 harg6 arg7 harg7 arg8 harg8 arg9 harg9 x0 x1 x2 x3 x4)]
  unfold kernelRun0_A
  dsimp only
  sl_unfold_words
  rw [View.canon_unit_zero zeros3]
  simp only [View.readAt_eq_ld, harg1.read_unread, harg2.read_unread, harg3.read_unread, harg4.read_unread, harg5.read_unread,
    View.ld_unit_zero (S := S2016x64) zeros2, View.ld_unit_zero (S := S1x32) zeros2, View.ld_unit_zero (S := S1x1x128x128) zeros4]
  rfl

end Reading

end Cert.Proof.Select
-- ==== Proof.Select.Arrays.lean ====
module

public import proofs.«01_k».proof.Proof.Select.Block

/-!
# The four arrays the kernel leaves

The positions along a line are computed on the host before the launch. Grid step `b` reads image `b` of the first two
arguments, and the positions and the two selection matrices whole; it writes image `b` of the four outputs.
-/

@[expose] public section

set_option maxRecDepth 20000

noncomputable section

namespace Cert.Proof.Select

open Cert.SelectIdeal Cert.SelectIdeal.Gen Idealize.ShloMosaic Idealize.ShloMosaic.TcCoe Idealize.ShloMosaic.Tactic
open Cert.SelectReferenceIdeal.Value

variable (m : (ℓ : Loc nD τ sig) → Buf (Elt Idealize.ShloMosaic.Ideal) ℓ) (c : Dev nD)

/-- The fractions 0/31 … 30/31. -/
def fractions : FVec Idealize.ShloMosaic.Ideal S31 .f32 :=
  Host.divf (sitofp .f32 (iotaInDim S31 32 0)) (broadcastInDim S31 ![] bcast_S_S31 (constant S_ .f32 0x41F80000#32))

/-- The first 31 of the positions along a line. -/
def inner : FVec Idealize.ShloMosaic.Ideal S31 .f32 :=
  addf (mulf (broadcastInDim S31 ![0] bcast_S1_S31_0 (shapeCast S1 (id (constant S_ .f32 0x00000000#32)) shapeCasts_S_S1))
      (subf (broadcastInDim S31 ![] bcast_S_S31 (constant S_ .f32 0x3F800000#32)) fractions))
    (mulf (broadcastInDim S31 ![0] bcast_S1_S31_0 (shapeCast S1 (id (constant S_ .f32 0x3F800000#32)) shapeCasts_S_S1)) fractions)

/-- The last position: the line's end. -/
def final : FVec Idealize.ShloMosaic.Ideal S1 .f32 := broadcastInDim S1 ![] bcast_S_S1 (id (constant S_ .f32 0x3F800000#32))

/-- What the host computes for the positions along a line. -/
theorem positions : V m c main_v1
    = shapeCast S1x32 (concatenate S32 0 [⟨S31, inner⟩, ⟨S1, final⟩] concatenates_S31_S1_S32_d0) shapeCasts_S32_S1x32 := by
  unfold V inner final fractions
  simp only [hostOps0, hostOps0_1, hostOps0_2, List.flatten_cons, List.flatten_nil, List.append_nil, List.cons_append,
    List.nil_append, StableHlo.TRef.binary, StableHlo.TRef.nullary, StableHlo.TRef.unary, StableHlo.TRef.reshape,
    StableHlo.TRef.toBuf, StableHlo.TRef.ofBuf, cast_eq]
  after_results_simp
  exact congrArg₂ (fun (a : FVec Idealize.ShloMosaic.Ideal S31 .f32) (b : FVec Idealize.ShloMosaic.Ideal S1 .f32) =>
      shapeCast S1x32 (concatenate S32 0 [⟨S31, a⟩, ⟨S1, b⟩] concatenates_S31_S1_S32_d0) shapeCasts_S32_S1x32)
    (by after_results_simp; rfl) (by after_results_simp)

/-- The reference computes the same positions. -/
theorem positions_eq (V0 : Valuation Cert.SelectReferenceIdeal.τ Cert.SelectReferenceIdeal.sig (Elt Idealize.ShloMosaic.Ideal))
    (p : Fin 32) :
    V m c main_v1 (ix2 0 p) = res_main_v65 V0 (ix2 p 0) := by
  rw [positions]
  pointwise [inner, final, fractions, res_main_v65, res_main_call4_v0, res_main_call4_v1, res_main_call4_v6]

/-- The positions and the selection matrices are read at block zero. -/
theorem whole_blocks : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- The two maps are read at the step's image. -/
theorem map_blocks : ∀ t : Fin cfg0.N, win0_3.index t (0 : Fin 4) = t.val ∧ win0_3.index t (1 : Fin 4) = 0
    ∧ win0_3.index t (2 : Fin 4) = 0 ∧ win0_3.index t (3 : Fin 4) = 0
    ∧ win0_4.index t (0 : Fin 5) = t.val ∧ win0_4.index t (1 : Fin 5) = 0 ∧ win0_4.index t (2 : Fin 5) = 0
    ∧ win0_4.index t (3 : Fin 5) = 0 ∧ win0_4.index t (4 : Fin 5) = 0 :=
  (by decide +kernel : ∀ t : Fin grid0.N, _)

/-- The outputs are written at the step's image. -/
theorem out_blocks : ∀ t : Fin cfg0.N, (win0_5.index t (0 : Fin 3) = t.val ∧ win0_5.index t (1 : Fin 3) = 0 ∧ win0_5.index t (2 : Fin 3) = 0)
    ∧ (win0_6.index t (0 : Fin 3) = t.val ∧ win0_6.index t (1 : Fin 3) = 0 ∧ win0_6.index t (2 : Fin 3) = 0)
    ∧ (win0_7.index t (0 : Fin 3) = t.val ∧ win0_7.index t (1 : Fin 3) = 0 ∧ win0_7.index t (2 : Fin 3) = 0)
    ∧ (win0_8.index t (0 : Fin 3) = t.val ∧ win0_8.index t (1 : Fin 3) = 0 ∧ win0_8.index t (2 : Fin 3) = 0)
    ∧ (grid0.coords t 0).val = t.val :=
  (by decide +kernel : ∀ t : Fin grid0.N, _)

/-- The grid step of image `b`. -/
def step (b : Fin 2) : Fin cfg0.N := ⟨b.val, b.isLt⟩

/-- What step `b` reads. -/
abbrev x0 (b : Fin 2) : Vec Idealize.ShloMosaic.Ideal S1x32 .f32 := iblk m c 0 (step b)
abbrev x1 (b : Fin 2) : Vec Idealize.ShloMosaic.Ideal S2016x64 .f32 := iblk m c 1 (step b)
abbrev x2 (b : Fin 2) : Vec Idealize.ShloMosaic.Ideal S2016x64 .f32 := iblk m c 2 (step b)
abbrev x3 (b : Fin 2) : Vec Idealize.ShloMosaic.Ideal S1x1x128x128 .f32 := iblk m c 3 (step b)
abbrev x4 (b : Fin 2) : Vec Idealize.ShloMosaic.Ideal S1x1x2x128x128 .f32 := iblk m c 4 (step b)

theorem x0_apply (b : Fin 2) (p : Fin 32) : x0 m c b (ix2 0 p) = V m c main_v1 (ix2 0 p) := by
  obtain ⟨e0, e1, _⟩ := whole_blocks (step b)
  show V m c main_v1 (((cfg0.win 0).blk (step b)).view.emb (ix2 0 p)) = _
  refine congrArg (V m c main_v1) (funext fun a => Fin.ext ?_)
  match a with
  | ⟨0, _⟩ => show win0_0.index (step b) (0 : Fin 2) * 1 + 1 * 0 = 0; omega
  | ⟨1, _⟩ => show win0_0.index (step b) (1 : Fin 2) * 32 + 1 * p.val = p.val; omega

theorem x1_apply (b : Fin 2) (l : Fin 2016) (k : Fin 64) :
    x1 m c b (ix2 l k) = m ((c : Thread nD τ).loc main_arg2) (ix2 l k) := by
  obtain ⟨_, _, e0, e1, _⟩ := whole_blocks (step b)
  show V m c main_arg2 (((cfg0.win 1).blk (step b)).view.emb (ix2 l k)) = _
  rw [V_main_arg2]
  refine congrArg (m ((c : Thread nD τ).loc main_arg2)) (funext fun a => Fin.ext ?_)
  match a with
  | ⟨0, _⟩ => show win0_1.index (step b) (0 : Fin 2) * 2016 + 1 * l.val = l.val; omega
  | ⟨1, _⟩ => show win0_1.index (step b) (1 : Fin 2) * 64 + 1 * k.val = k.val; omega

theorem x2_apply (b : Fin 2) (l : Fin 2016) (k : Fin 64) :
    x2 m c b (ix2 l k) = m ((c : Thread nD τ).loc main_arg3) (ix2 l k) := by
  obtain ⟨_, _, _, _, e0, e1⟩ := whole_blocks (step b)
  show V m c main_arg3 (((cfg0.win 2).blk (step b)).view.emb (ix2 l k)) = _
  rw [V_main_arg3]
  refine congrArg (m ((c : Thread nD τ).loc main_arg3)) (funext fun a => Fin.ext ?_)
  match a with
  | ⟨0, _⟩ => show win0_2.index (step b) (0 : Fin 2) * 2016 + 1 * l.val = l.val; omega
  | ⟨1, _⟩ => show win0_2.index (step b) (1 : Fin 2) * 64 + 1 * k.val = k.val; omega

theorem x3_apply (b : Fin 2) (p q : Fin 128) :
    x3 m c b (ix4 0 0 p q) = m ((c : Thread nD τ).loc main_arg0) (ix4 b 0 p q) := by
  obtain ⟨e0, e1, e2, e3, _⟩ := map_blocks (step b)
  have hb : (step b).val = b.val := rfl
  show V m c main_arg0 (((cfg0.win 3).blk (step b)).view.emb (ix4 0 0 p q)) = _
  rw [V_main_arg0]
  refine congrArg (m ((c : Thread nD τ).loc main_arg0)) (funext fun a => Fin.ext ?_)
  match a with
  | ⟨0, _⟩ => show win0_3.index (step b) (0 : Fin 4) * 1 + 1 * 0 = b.val; omega
  | ⟨1, _⟩ => show win0_3.index (step b) (1 : Fin 4) * 1 + 1 * 0 = 0; omega
  | ⟨2, _⟩ => show win0_3.index (step b) (2 : Fin 4) * 128 + 1 * p.val = p.val; omega
  | ⟨3, _⟩ => show win0_3.index (step b) (3 : Fin 4) * 128 + 1 * q.val = q.val; omega

theorem x4_apply (b : Fin 2) (d : Fin 2) (p q : Fin 128) :
    x4 m c b (ix5 0 0 d p q) = m ((c : Thread nD τ).loc main_arg1) (ix5 b 0 d p q) := by
  obtain ⟨_, _, _, _, e0, e1, e2, e3, e4⟩ := map_blocks (step b)
  have hb : (step b).val = b.val := rfl
  show V m c main_arg1 (((cfg0.win 4).blk (step b)).view.emb (ix5 0 0 d p q)) = _
  rw [V_main_arg1]
  refine congrArg (m ((c : Thread nD τ).loc main_arg1)) (funext fun a => Fin.ext ?_)
  match a with
  | ⟨0, _⟩ => show win0_4.index (step b) (0 : Fin 5) * 1 + 1 * 0 = b.val; omega
  | ⟨1, _⟩ => show win0_4.index (step b) (1 : Fin 5) * 1 + 1 * 0 = 0; omega
  | ⟨2, _⟩ => show win0_4.index (step b) (2 : Fin 5) * 2 + 1 * d.val = d.val; omega
  | ⟨3, _⟩ => show win0_4.index (step b) (3 : Fin 5) * 128 + 1 * p.val = p.val; omega
  | ⟨4, _⟩ => show win0_4.index (step b) (4 : Fin 5) * 128 + 1 * q.val = q.val; omega

/-- The final array of lines, image by image. -/
theorem lines_array (b : Fin 2) (l : Fin 2016) (e : Fin 4) : (dats m 0 c).arrAt 5 cfg0.N (ix3 b l e)
    = lineBlock (x1 m c b) (x2 m c b) (x3 m c b) (x4 m c b) (ix3 0 l e) := by
  obtain ⟨⟨e0, e1, e2⟩, _⟩ := out_blocks (step b)
  have hb : (step b).val = b.val := rfl
  have emb : ((cfg0.win 5).blk (step b)).view.emb (ix3 0 l e) = ix3 b l e := by
    refine funext fun a => Fin.ext ?_
    match a with
    | ⟨0, _⟩ => show win0_5.index (step b) (0 : Fin 3) * 1 + 1 * 0 = b.val; omega
    | ⟨1, _⟩ => show win0_5.index (step b) (1 : Fin 3) * 2016 + 1 * l.val = l.val; omega
    | ⟨2, _⟩ => show win0_5.index (step b) (2 : Fin 3) * 4 + 1 * e.val = e.val; omega
  have h := congrFun (Value.blocks5 m c (step b) (flush0_5 (step b))) (ix3 0 l e)
  rw [Value.flushed5_A, left_lines] at h
  have h' : (dats m 0 c).arrAt 5 cfg0.N (((cfg0.win 5).blk (step b)).view.emb (ix3 0 l e)) = _ := h
  rw [emb] at h'
  exact h'

/-- The final array of features, image by image. -/
theorem features_array (b : Fin 2) (l : Fin 2016) (e : Fin 8) : (dats m 0 c).arrAt 6 cfg0.N (ix3 b l e)
    = featureBlock (x1 m c b) (x2 m c b) (x3 m c b) (x4 m c b) (ix3 0 l e) := by
  obtain ⟨_, ⟨e0, e1, e2⟩, _⟩ := out_blocks (step b)
  have hb : (step b).val = b.val := rfl
  have emb : ((cfg0.win 6).blk (step b)).view.emb (ix3 0 l e) = ix3 b l e := by
    refine funext fun a => Fin.ext ?_
    match a with
    | ⟨0, _⟩ => show win0_6.index (step b) (0 : Fin 3) * 1 + 1 * 0 = b.val; omega
    | ⟨1, _⟩ => show win0_6.index (step b) (1 : Fin 3) * 2016 + 1 * l.val = l.val; omega
    | ⟨2, _⟩ => show win0_6.index (step b) (2 : Fin 3) * 8 + 1 * e.val = e.val; omega
  have h := congrFun (Value.blocks6 m c (step b) (flush0_6 (step b))) (ix3 0 l e)
  rw [Value.flushed6_A, left_features] at h
  have h' : (dats m 0 c).arrAt 6 cfg0.N (((cfg0.win 6).blk (step b)).view.emb (ix3 0 l e)) = _ := h
  rw [emb] at h'
  exact h'

/-- The final array of places, image by image. -/
theorem places_array (b : Fin 2) (l : Fin 2016) (e : Fin 128) : (dats m 0 c).arrAt 7 cfg0.N (ix3 b l e)
    = placeBlock (x0 m c b) (BitVec.ofNat 32 b.val) (starts (x1 m c b) (x3 m c b) (x4 m c b)) (stops (x2 m c b) (x3 m c b) (x4 m c b)) (ix3 0 l e) := by
  obtain ⟨_, _, ⟨e0, e1, e2⟩, _, e3⟩ := out_blocks (step b)
  have hb : (step b).val = b.val := rfl
  have emb : ((cfg0.win 7).blk (step b)).view.emb (ix3 0 l e) = ix3 b l e := by
    refine funext fun a => Fin.ext ?_
    match a with
    | ⟨0, _⟩ => show win0_7.index (step b) (0 : Fin 3) * 1 + 1 * 0 = b.val; omega
    | ⟨1, _⟩ => show win0_7.index (step b) (1 : Fin 3) * 2016 + 1 * l.val = l.val; omega
    | ⟨2, _⟩ => show win0_7.index (step b) (2 : Fin 3) * 128 + 1 * e.val = e.val; omega
  have h := congrFun (Value.blocks7 m c (step b) (flush0_7 (step b))) (ix3 0 l e)
  rw [Value.flushed7_A, left_places, e3, hb] at h
  have h' : (dats m 0 c).arrAt 7 cfg0.N (((cfg0.win 7).blk (step b)).view.emb (ix3 0 l e)) = _ := h
  rw [emb] at h'
  exact h'

/-- The final array of weights, image by image. -/
theorem weights_array (b : Fin 2) (l : Fin 2016) (e : Fin 128) : (dats m 0 c).arrAt 8 cfg0.N (ix3 b l e)
    = weightBlock (x0 m c b) (starts (x1 m c b) (x3 m c b) (x4 m c b)) (stops (x2 m c b) (x3 m c b) (x4 m c b)) (ix3 0 l e) := by
  obtain ⟨_, _, _, ⟨e0, e1, e2⟩, _⟩ := out_blocks (step b)
  have hb : (step b).val = b.val := rfl
  have emb : ((cfg0.win 8).blk (step b)).view.emb (ix3 0 l e) = ix3 b l e := by
    refine funext fun a => Fin.ext ?_
    match a with
    | ⟨0, _⟩ => show win0_8.index (step b) (0 : Fin 3) * 1 + 1 * 0 = b.val; omega
    | ⟨1, _⟩ => show win0_8.index (step b) (1 : Fin 3) * 2016 + 1 * l.val = l.val; omega
    | ⟨2, _⟩ => show win0_8.index (step b) (2 : Fin 3) * 128 + 1 * e.val = e.val; omega
  have h := congrFun (Value.blocks8 m c (step b) (flush0_8 (step b))) (ix3 0 l e)
  rw [Value.flushed8_A, left_weights] at h
  have h' : (dats m 0 c).arrAt 8 cfg0.N (((cfg0.win 8).blk (step b)).view.emb (ix3 0 l e)) = _ := h
  rw [emb] at h'
  exact h'

end Cert.Proof.Select
-- ==== Proof.Select.Agree.lean ====
module

public import proofs.«01_k».proof.Defs
public import proofs.«01_k».proof.Proof.Select.Arrays
public import proofs.«01_k».proof.Proof.Gen.Pre_selects
public import proofs.«01_k».proof.Proof.Gen.SelectReferenceIdeal.Run

/-!
# Kernel and reference agree on all four results
-/

@[expose] public section

set_option maxRecDepth 20000

noncomputable section

namespace Cert.Proof.Select

open Cert.SelectIdeal Cert.SelectIdeal.Gen Idealize.ShloMosaic Idealize.ShloMosaic.TcCoe
open Cert.SelectReferenceIdeal.Value

/-- An index of a three-dimensional array is its three coordinates. -/
theorem coordinates (n k w : Nat) (y : (⟨3, ![n, k, w]⟩ : Shape).Idx) : y = ix3 (y 0 : Fin n) (y 1 : Fin k) (y 2 : Fin w) :=
  funext fun a => match a with | ⟨0, _⟩ => rfl | ⟨1, _⟩ => rfl | ⟨2, _⟩ => rfl

variable (m : (ℓ : Loc nD τ sig) → Buf (Elt Idealize.ShloMosaic.Ideal) ℓ) (c : Dev nD)
  (V0 : Valuation Cert.SelectReferenceIdeal.τ Cert.SelectReferenceIdeal.sig (Elt Idealize.ShloMosaic.Ideal))
  (hs : Cert.Pre_selects.fn (F := Idealize.ShloMosaic.Ideal) (m ((c : Thread nD τ).loc main_arg0)) (m ((c : Thread nD τ).loc main_arg1))
    (m ((c : Thread nD τ).loc main_arg2)) (m ((c : Thread nD τ).loc main_arg3)) = fun _ => 1#1)
  (a0 : V0 (Proc.devRef .tc Cert.SelectReferenceIdeal.main_arg0) = m ((c : Thread nD τ).loc main_arg0))
  (a1 : V0 (Proc.devRef .tc Cert.SelectReferenceIdeal.main_arg1) = m ((c : Thread nD τ).loc main_arg1))

include hs a0 a1

theorem starts_agree (b : Fin 2) (l : Fin 2016) (d : Fin 2) :
    starts (x1 m c b) (x3 m c b) (x4 m c b) (ix2 l d) = res_main_v33 V0 (ix3 b l d) := by
  obtain ⟨h, h1, _⟩ := of_selects _ _ _ _ hs
  exact starts_eq V0 b _ _ _ (fun i => by rw [a0]; exact h i) (fun p q => by rw [a0]; exact x3_apply m c b p q)
    (fun d p q => by rw [a1]; exact x4_apply m c b d p q) (fun l k => (x1_apply m c b l k).trans (h1 l k)) l d

theorem stops_agree (b : Fin 2) (l : Fin 2016) (d : Fin 2) :
    stops (x2 m c b) (x3 m c b) (x4 m c b) (ix2 l d) = res_main_v40 V0 (ix3 b l d) := by
  obtain ⟨h, _, h2⟩ := of_selects _ _ _ _ hs
  exact stops_eq V0 b _ _ _ (fun i => by rw [a0]; exact h i) (fun p q => by rw [a0]; exact x3_apply m c b p q)
    (fun d p q => by rw [a1]; exact x4_apply m c b d p q) (fun l k => (x2_apply m c b l k).trans (h2 l k)) l d

end Cert.Proof.Select

namespace Cert.Proof

open Idealize.ShloMosaic Cert.Proof.Select

/-- Kernel and reference leave the same four arrays. -/
theorem algebraic_select : Cert.algebraic_SelectIdeal_SelectReferenceIdeal_pre_selects := by
  intro m ρ m' ρ' hpre hagree
  refine ⟨fun c => (Cert.SelectIdeal.Gen.dats m 0 c).arrAt 5 Cert.SelectIdeal.cfg0.N,
    fun c => (Cert.SelectIdeal.Gen.dats m 0 c).arrAt 6 Cert.SelectIdeal.cfg0.N,
    fun c => (Cert.SelectIdeal.Gen.dats m 0 c).arrAt 7 Cert.SelectIdeal.cfg0.N,
    fun c => (Cert.SelectIdeal.Gen.dats m 0 c).arrAt 8 Cert.SelectIdeal.cfg0.N, Cert.SelectIdeal.Value.run_blocks m ρ, ?_⟩
  refine (θ_run Cert.SelectReferenceIdeal.defs _ _).mono (fun _ h c => ⟨(h c).1.trans ?_, (h c).2.1.trans ?_, (h c).2.2.1.trans ?_,
    (h c).2.2.2.1.trans ?_, (h c).2.2.2.2⟩) (Cert.SelectReferenceIdeal.Value.run (F := Idealize.ShloMosaic.Ideal) m' ρ')
  all_goals
    obtain ⟨a0, a1, _⟩ := hagree c
    have hA := starts_agree m c (StableHlo.launchContents m' c) (hpre c) a0 a1
    have hB := stops_agree m c (StableHlo.launchContents m' c) (hpre c) a0 a1
    refine funext fun y => ?_
  · rw [coordinates 2 2016 4 y]
    exact ((lines_array m c (y 0) (y 1) (y 2)).trans (lines_eq _ (y 0) _ _ _ _ _ _ _ _ _ (hA (y 0)) (hB (y 0)) (y 1) (y 2))).symm
  · rw [coordinates 2 2016 8 y]
    exact ((features_array m c (y 0) (y 1) (y 2)).trans (features_eq _ (y 0) _ _ _ _ _ _ _ _ _ (hA (y 0)) (hB (y 0)) (y 1) (y 2))).symm
  · rw [coordinates 2 2016 128 y]
    exact ((places_array m c (y 0) (y 1) (y 2)).trans (places _ (y 0) _ _ _ (hA (y 0)) (hB (y 0))
      (fun p => (x0_apply m c (y 0) p).trans (positions_eq m c _ p)) (y 1) (y 2))).symm
  · rw [coordinates 2 2016 128 y]
    exact ((weights_array m c (y 0) (y 1) (y 2)).trans (weights _ (y 0) _ _ _ (hA (y 0)) (hB (y 0))
      (fun p => (x0_apply m c (y 0) p).trans (positions_eq m c _ p)) (y 1) (y 2))).symm

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.KernelIdeal.Points
public import proofs.«01_k».proof.Proof.Gen.KernelIdeal.Launch
public import proofs.«01_k».proof.Proof.Gen.Kernel.Points
public import proofs.«01_k».proof.Proof.Gen.Kernel.Launch
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_in_range
public import proofs.«01_k».proof.Proof.Gen.Pre_selects
public import proofs.«01_k».proof.Proof.Gen.Select.Frame
public import proofs.«01_k».proof.Proof.Gen.SelectIdeal.Value
public import proofs.«01_k».proof.Proof.Gen.SelectReferenceIdeal.Run
public import proofs.«01_k».proof.Proof.Bits.Run
public import proofs.«01_k».proof.Proof.Ideal.Run
public import proofs.«01_k».proof.Proof.Ideal.Scores
public import proofs.«01_k».proof.Proof.Equation
public import proofs.«01_k».proof.Proof.Select.Agree
public import Idealize.ShloMosaic.Adequacy
public import Idealize.ShloMosaic.Init

@[expose] public section

noncomputable section

namespace Cert.Proof

open Idealize.ShloMosaic Idealize.SL.Sem

theorem frame_kernel : Cert.quiescent_Kernel := fun m ρ hpre =>
  (θ_run Cert.Kernel.defs _ _).mono (fun _ h => ⟨fun c => (h.1 c).2, h.2⟩)
    (Bits.run_main (F := Idealize.ShloMosaic.Bits) m ρ (Bits.inRange_of_pre m hpre))

theorem frame_kernelIdeal : Cert.quiescent_KernelIdeal := fun m ρ hpre =>
  (θ_run Cert.KernelIdeal.defs _ _).mono (fun _ h => ⟨fun c => (h.1 c).2, h.2⟩)
    (Ideal.run_main (F := Idealize.ShloMosaic.Ideal) m ρ (Ideal.inRange_of_pre m hpre))

/-- The reference is a host program and declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Idealize.ShloMosaic.Ideal) m ρ)

/-- On equal arguments with the indices in range the reference's scores are the kernel's. -/
theorem value (m : (ℓ : Loc Cert.KernelIdeal.nD Cert.KernelIdeal.τ Cert.KernelIdeal.sig) → Buf (Elt Idealize.ShloMosaic.Ideal) ℓ)
    (m' : (ℓ : Loc Cert.ReferenceIdeal.nD Cert.ReferenceIdeal.τ Cert.ReferenceIdeal.sig) → Buf (Elt Idealize.ShloMosaic.Ideal) ℓ)
    (hI : Ideal.InRange m) (c : Dev Cert.KernelIdeal.nD)
    (h0 : m' ((c.tc : Thread Cert.ReferenceIdeal.nD Cert.ReferenceIdeal.τ).loc Cert.ReferenceIdeal.main_arg0) = Ideal.arg0 m c)
    (h1 : m' ((c.tc : Thread Cert.ReferenceIdeal.nD Cert.ReferenceIdeal.τ).loc Cert.ReferenceIdeal.main_arg1) = Ideal.arg1 m c)
    (h2 : m' ((c.tc : Thread Cert.ReferenceIdeal.nD Cert.ReferenceIdeal.τ).loc Cert.ReferenceIdeal.main_arg2) = Ideal.arg2 m c)
    (h3 : m' ((c.tc : Thread Cert.ReferenceIdeal.nD Cert.ReferenceIdeal.τ).loc Cert.ReferenceIdeal.main_arg3) = Ideal.feats m c)
    (h4 : m' ((c.tc : Thread Cert.ReferenceIdeal.nD Cert.ReferenceIdeal.τ).loc Cert.ReferenceIdeal.main_arg4) = Ideal.wOne m c)
    (h5 : m' ((c.tc : Thread Cert.ReferenceIdeal.nD Cert.ReferenceIdeal.τ).loc Cert.ReferenceIdeal.main_arg5) = Ideal.bOne m c)
    (h6 : m' ((c.tc : Thread Cert.ReferenceIdeal.nD Cert.ReferenceIdeal.τ).loc Cert.ReferenceIdeal.main_arg6) = Ideal.wTwo m c)
    (h7 : m' ((c.tc : Thread Cert.ReferenceIdeal.nD Cert.ReferenceIdeal.τ).loc Cert.ReferenceIdeal.main_arg7) = Ideal.bTwo m c)
    (h8 : m' ((c.tc : Thread Cert.ReferenceIdeal.nD Cert.ReferenceIdeal.τ).loc Cert.ReferenceIdeal.main_arg8) = Ideal.wThree m c)
    (h9 : m' ((c.tc : Thread Cert.ReferenceIdeal.nD Cert.ReferenceIdeal.τ).loc Cert.ReferenceIdeal.main_arg9) = Ideal.bThree m c) :
    Cert.ReferenceIdeal.Value.res_main_v86 m' c = Ideal.scoresOut m c := by
  unfold Cert.ReferenceIdeal.Value.res_main_v86
  rw [h0, h1, h2, h3, h4, h5, h6, h7, h8, h9]
  refine funext fun y => ?_
  have hy : y = ix2 (y 0 : Fin 2) (y 1 : Fin 2016) := funext fun a => match a with | ⟨0, _⟩ => rfl | ⟨1, _⟩ => rfl
  refine (congrArg _ hy).trans (Eq.trans ?_ ((Ideal.scoresOut_at m c (y 0) (y 1)).symm.trans (congrArg (Ideal.scoresOut m c) hy.symm)))
  exact Equation.reference_at (Ideal.arg0 m c) (Ideal.arg1 m c) (Ideal.arg2 m c)
    Cert.KernelIdeal.Gen.transposes_S2x128x128x128_S2x128x128x128_0_2_3_1 Cert.KernelIdeal.Gen.shapeCasts_S2x128x128x128_S32768x128
    Cert.KernelIdeal.Gen.shapeCasts_S2x2016x128_S4032x128 (Ideal.feats m c) (Ideal.wOne m c) (Ideal.bOne m c) (Ideal.wTwo m c) (Ideal.bTwo m c)
    (Ideal.wThree m c) (Ideal.bThree m c) (hI c) (y 0) (y 1)

theorem algebraic : Cert.algebraic_KernelIdeal_ReferenceIdeal := by
  intro m ρ m' ρ' hpre hagree
  have hI := Ideal.inRange_of_pre m hpre
  refine ⟨fun c => Ideal.scoresOut m c, ?_, ?_⟩
  · exact (θ_run Cert.KernelIdeal.defs _ _).mono (fun _ h => h.1) (Ideal.run_main (F := Idealize.ShloMosaic.Ideal) m ρ hI)
  · refine (θ_run Cert.ReferenceIdeal.defs _ _).mono (fun _ h c => ⟨(h c).1.trans ?_, (h c).2⟩)
      (Cert.ReferenceIdeal.Value.run (F := Idealize.ShloMosaic.Ideal) m' ρ')
    obtain ⟨h0, h1, h2, h3, h4, h5, h6, h7, h8, h9⟩ := hagree c
    exact value m m' hI c h0 h1 h2 h3 h4 h5 h6 h7 h8 h9

theorem frame_select : Cert.quiescent_Select := fun m ρ _ => Cert.Select.Gen.frame m ρ

theorem frame_selectIdeal : Cert.quiescent_SelectIdeal := fun m ρ _ => Cert.SelectIdeal.Gen.frame m ρ

/-- The reference of the selection, too, is a host program and declares no semaphore. -/
theorem frame_selectReference : Cert.quiescent_SelectReferenceIdeal := fun m ρ _ =>
  (θ_run Cert.SelectReferenceIdeal.defs _ _).mono
    (fun r h => ⟨fun c => (h c).2.2.2.2, sem_eq_zero_of_no_sems (by decide) r.2⟩)
    (Cert.SelectReferenceIdeal.Value.run (F := Idealize.ShloMosaic.Ideal) m ρ)

theorem claim : Cert.Claim := ⟨Cert.Kernel.Gen.facts, Cert.KernelIdeal.Gen.facts, Cert.ReferenceIdeal.Gen.facts,
  Cert.Select.Gen.facts, Cert.SelectIdeal.Gen.facts, Cert.SelectReferenceIdeal.Gen.facts, Cert.Pre_in_range.Gen.facts,
  Cert.Pre_selects.Gen.facts, frame_kernel, frame_kernelIdeal, frame_reference, fun m ρ _ => frame_reference m ρ trivial,
  frame_select, frame_selectIdeal, fun m ρ _ => frame_selectIdeal m ρ trivial, frame_selectReference,
  fun m ρ _ => frame_selectReference m ρ trivial, trivial, algebraic, trivial, algebraic_select⟩

end Cert.Proof

end
